-- ==== Defs.lean ====
def Pre_Rg (m : (ℓ : Loc Cert.Rg.nD Cert.Rg.τ Cert.Rg.sig) → Buf (Elt Bits) ℓ) : Prop :=
  True

def Pre_RgIdeal (m : (ℓ : Loc Cert.RgIdeal.nD Cert.RgIdeal.τ Cert.RgIdeal.sig) → Buf (Elt Ideal) ℓ) : Prop :=
  True

def Pre_RgRefIdeal (m : (ℓ : Loc Cert.RgRefIdeal.nD Cert.RgRefIdeal.τ Cert.RgRefIdeal.sig) → Buf (Elt Ideal) ℓ) : Prop :=
  True

def Pre_Nm (m : (ℓ : Loc Cert.Nm.nD Cert.Nm.τ Cert.Nm.sig) → Buf (Elt Bits) ℓ) : Prop :=
  True

def Pre_NmIdeal (m : (ℓ : Loc Cert.NmIdeal.nD Cert.NmIdeal.τ Cert.NmIdeal.sig) → Buf (Elt Ideal) ℓ) : Prop :=
  True

def Pre_NmRefIdeal (m : (ℓ : Loc Cert.NmRefIdeal.nD Cert.NmRefIdeal.τ Cert.NmRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mg (m : (ℓ : Loc Cert.Mg.nD Cert.Mg.τ Cert.Mg.sig) → Buf (Elt Bits) ℓ) : Prop :=
  True

def Pre_MgIdeal (m : (ℓ : Loc Cert.MgIdeal.nD Cert.MgIdeal.τ Cert.MgIdeal.sig) → Buf (Elt Ideal) ℓ) : Prop :=
  True

def Pre_MgRefIdeal (m : (ℓ : Loc Cert.MgRefIdeal.nD Cert.MgRefIdeal.τ Cert.MgRefIdeal.sig) → Buf (Elt Ideal) ℓ) : Prop :=
  True

def Pre_Fn (m : (ℓ : Loc Cert.Fn.nD Cert.Fn.τ Cert.Fn.sig) → Buf (Elt Bits) ℓ) : Prop :=
  True

def Pre_FnIdeal (m : (ℓ : Loc Cert.FnIdeal.nD Cert.FnIdeal.τ Cert.FnIdeal.sig) → Buf (Elt Ideal) ℓ) : Prop :=
  True

def Pre_FnRefIdeal (m : (ℓ : Loc Cert.FnRefIdeal.nD Cert.FnRefIdeal.τ Cert.FnRefIdeal.sig) → Buf (Elt Ideal) ℓ) : Prop :=
  True

def Pre_Rs (m : (ℓ : Loc Cert.Rs.nD Cert.Rs.τ Cert.Rs.sig) → Buf (Elt Bits) ℓ) : Prop :=
  True

def Pre_RsIdeal (m : (ℓ : Loc Cert.RsIdeal.nD Cert.RsIdeal.τ Cert.RsIdeal.sig) → Buf (Elt Ideal) ℓ) : Prop :=
  True

def Pre_RsRefIdeal (m : (ℓ : Loc Cert.RsRefIdeal.nD Cert.RsRefIdeal.τ Cert.RsRefIdeal.sig) → Buf (Elt Ideal) ℓ) : Prop :=
  True

def quiescent_Rg [hRg : Cert.Rg.Facts] : Prop :=
  ∀ (m : (ℓ : Loc Cert.Rg.nD Cert.Rg.τ Cert.Rg.sig) → Buf (Elt Bits) ℓ) (g : Dev Cert.Rg.nD → PrngReg), Pre_Rg m →
    θ_run (Cert.Rg.defs (F := Bits)) (onTc (τ := Cert.Rg.τ) (Cert.Rg.main (F := Bits))) ⟨m, fun _ => 0, g⟩ (fun r => (∀ c : Dev Cert.Rg.nD,
      r.2.mem ((c.tc : Thread Cert.Rg.nD Cert.Rg.τ).loc Cert.Rg.main_arg0) = m ((c.tc : Thread Cert.Rg.nD Cert.Rg.τ).loc Cert.Rg.main_arg0)
      ∧ r.2.mem ((c.tc : Thread Cert.Rg.nD Cert.Rg.τ).loc Cert.Rg.main_arg1) = m ((c.tc : Thread Cert.Rg.nD Cert.Rg.τ).loc Cert.Rg.main_arg1)
      ∧ r.2.mem ((c.tc : Thread Cert.Rg.nD Cert.Rg.τ).loc Cert.Rg.main_arg2) = m ((c.tc : Thread Cert.Rg.nD Cert.Rg.τ).loc Cert.Rg.main_arg2)
      ∧ r.2.mem ((c.tc : Thread Cert.Rg.nD Cert.Rg.τ).loc Cert.Rg.main_arg3) = m ((c.tc : Thread Cert.Rg.nD Cert.Rg.τ).loc Cert.Rg.main_arg3)
      ∧ r.2.mem ((c.tc : Thread Cert.Rg.nD Cert.Rg.τ).loc Cert.Rg.main_arg4) = m ((c.tc : Thread Cert.Rg.nD Cert.Rg.τ).loc Cert.Rg.main_arg4)
      ∧ r.2.mem ((c.tc : Thread Cert.Rg.nD Cert.Rg.τ).loc Cert.Rg.main_arg5) = m ((c.tc : Thread Cert.Rg.nD Cert.Rg.τ).loc Cert.Rg.main_arg5)
      ∧ r.2.mem ((c.tc : Thread Cert.Rg.nD Cert.Rg.τ).loc Cert.Rg.main_arg6) = m ((c.tc : Thread Cert.Rg.nD Cert.Rg.τ).loc Cert.Rg.main_arg6)
      ∧ r.2.mem ((c.tc : Thread Cert.Rg.nD Cert.Rg.τ).loc Cert.Rg.main_arg7) = m ((c.tc : Thread Cert.Rg.nD Cert.Rg.τ).loc Cert.Rg.main_arg7))
      ∧ r.2.sem = fun _ => 0)

def quiescent_RgIdeal [hRgIdeal : Cert.RgIdeal.Facts] : Prop :=
  ∀ (m : (ℓ : Loc Cert.RgIdeal.nD Cert.RgIdeal.τ Cert.RgIdeal.sig) → Buf (Elt Ideal) ℓ) (g : Dev Cert.RgIdeal.nD → PrngReg), Pre_RgIdeal m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
      ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
      ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
      ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
      ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
      ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
      ∧ r.2.mem ((c.tc : Thread Cert.RgIdeal.nD Cert.RgIdeal.τ).loc Cert.RgIdeal.main_arg7) = m ((c.tc : Thread Cert.RgIdeal.nD Cert.RgIdeal.τ).loc Cert.RgIdeal.main_arg7))
      ∧ r.2.sem = fun _ => 0)

def quiescent_RgRefIdeal [hRgRefIdeal : Cert.RgRefIdeal.Facts] : Prop :=
  ∀ (m : (ℓ : Loc Cert.RgRefIdeal.nD Cert.RgRefIdeal.τ Cert.RgRefIdeal.sig) → Buf (Elt Ideal) ℓ) (g : Dev Cert.RgRefIdeal.nD → PrngReg), Pre_RgRefIdeal m →
    θ_run (Cert.RgRefIdeal.defs (F := Ideal)) (onTc (τ := Cert.RgRefIdeal.τ) (Cert.RgRefIdeal.main (F := Ideal))) ⟨m, fun _ => 0, g⟩ (fun r => (∀ c : Dev Cert.RgRefIdeal.nD,
      r.2.mem ((c.tc : Thread Cert.RgRefIdeal.nD Cert.RgRefIdeal.τ).loc Cert.RgRefIdeal.main_arg0) = m ((c.tc : Thread Cert.RgRefIdeal.nD Cert.RgRefIdeal.τ).loc Cert.RgRefIdeal.main_arg0)
      ∧ r.2.mem ((c.tc : Thread Cert.RgRefIdeal.nD Cert.RgRefIdeal.τ).loc Cert.RgRefIdeal.main_arg1) = m ((c.tc : Thread Cert.RgRefIdeal.nD Cert.RgRefIdeal.τ).loc Cert.RgRefIdeal.main_arg1)
      ∧ r.2.mem ((c.tc : Thread Cert.RgRefIdeal.nD Cert.RgRefIdeal.τ).loc Cert.RgRefIdeal.main_arg2) = m ((c.tc : Thread Cert.RgRefIdeal.nD Cert.RgRefIdeal.τ).loc Cert.RgRefIdeal.main_arg2)
      ∧ r.2.mem ((c.tc : Thread Cert.RgRefIdeal.nD Cert.RgRefIdeal.τ).loc Cert.RgRefIdeal.main_arg3) = m ((c.tc : Thread Cert.RgRefIdeal.nD Cert.RgRefIdeal.τ).loc Cert.RgRefIdeal.main_arg3)
      ∧ r.2.mem ((c.tc : Thread Cert.RgRefIdeal.nD Cert.RgRefIdeal.τ).loc Cert.RgRefIdeal.main_arg4) = m ((c.tc : Thread Cert.RgRefIdeal.nD Cert.RgRefIdeal.τ).loc Cert.RgRefIdeal.main_arg4)
      ∧ r.2.mem ((c.tc : Thread Cert.RgRefIdeal.nD Cert.RgRefIdeal.τ).loc Cert.RgRefIdeal.main_arg5) = m ((c.tc : Thread Cert.RgRefIdeal.nD Cert.RgRefIdeal.τ).loc Cert.RgRefIdeal.main_arg5)
      ∧ r.2.mem ((c.tc : Thread Cert.RgRefIdeal.nD Cert.RgRefIdeal.τ).loc Cert.RgRefIdeal.main_arg6) = m ((c.tc : Thread Cert.RgRefIdeal.nD Cert.RgRefIdeal.τ).loc Cert.RgRefIdeal.main_arg6)
      ∧ r.2.mem ((c.tc : Thread Cert.RgRefIdeal.nD Cert.RgRefIdeal.τ).loc Cert.RgRefIdeal.main_arg7) = m ((c.tc : Thread Cert.RgRefIdeal.nD Cert.RgRefIdeal.τ).loc Cert.RgRefIdeal.main_arg7))
      ∧ r.2.sem = fun _ => 0)

def quiescent_Nm [hNm : Cert.Nm.Facts] : Prop :=
  ∀ (m : (ℓ : Loc Cert.Nm.nD Cert.Nm.τ Cert.Nm.sig) → Buf (Elt Bits) ℓ) (g : Dev Cert.Nm.nD → PrngReg), Pre_Nm m →
    θ_run (Cert.Nm.defs (F := Bits)) (onTc (τ := Cert.Nm.τ) (Cert.Nm.main (F := Bits))) ⟨m, fun _ => 0, g⟩ (fun r => (∀ c : Dev Cert.Nm.nD,
      r.2.mem ((c.tc : Thread Cert.Nm.nD Cert.Nm.τ).loc Cert.Nm.main_arg0) = m ((c.tc : Thread Cert.Nm.nD Cert.Nm.τ).loc Cert.Nm.main_arg0)
      ∧ r.2.mem ((c.tc : Thread Cert.Nm.nD Cert.Nm.τ).loc Cert.Nm.main_arg1) = m ((c.tc : Thread Cert.Nm.nD Cert.Nm.τ).loc Cert.Nm.main_arg1)
      ∧ r.2.mem ((c.tc : Thread Cert.Nm.nD Cert.Nm.τ).loc Cert.Nm.main_arg2) = m ((c.tc : Thread Cert.Nm.nD Cert.Nm.τ).loc Cert.Nm.main_arg2))
      ∧ r.2.sem = fun _ => 0)

def quiescent_NmIdeal [hNmIdeal : Cert.NmIdeal.Facts] : Prop :=
  ∀ (m : (ℓ : Loc Cert.NmIdeal.nD Cert.NmIdeal.τ Cert.NmIdeal.sig) → Buf (Elt Ideal) ℓ) (g : Dev Cert.NmIdeal.nD → PrngReg), Pre_NmIdeal m →
    θ_run (Cert.NmIdeal.defs (F := Ideal)) (onTc (τ := Cert.NmIdeal.τ) (Cert.NmIdeal.main (F := Ideal))) ⟨m, fun _ => 0, g⟩ (fun r => (∀ c : Dev Cert.NmIdeal.nD,
      r.2.mem ((c.tc : Thread Cert.NmIdeal.nD Cert.NmIdeal.τ).loc Cert.NmIdeal.main_arg0) = m ((c.tc : Thread Cert.NmIdeal.nD Cert.NmIdeal.τ).loc Cert.NmIdeal.main_arg0)
      ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
      ∧ r.2.mem ((c.tc : Thread Cert.NmIdeal.nD Cert.NmIdeal.τ).loc Cert.NmIdeal.main_arg2) = m ((c.tc : Thread Cert.NmIdeal.nD Cert.NmIdeal.τ).loc Cert.NmIdeal.main_arg2))
      ∧ r.2.sem = fun _ => 0)

def quiescent_NmRefIdeal [hNmRefIdeal : Cert.NmRefIdeal.Facts] : Prop :=
  ∀ (m : (ℓ : Loc Cert.NmRefIdeal.nD Cert.NmRefIdeal.τ Cert.NmRefIdeal.sig) → Buf (Elt Ideal) ℓ) (g : Dev Cert.NmRefIdeal.nD → PrngReg), Pre_NmRefIdeal m →
    θ_run (Cert.NmRefIdeal.defs (F := Ideal)) (onTc (τ := Cert.NmRefIdeal.τ) (Cert.NmRefIdeal.main (F := Ideal))) ⟨m, fun _ => 0, g⟩ (fun r => (∀ c : Dev Cert.NmRefIdeal.nD,
      r.2.mem ((c.tc : Thread Cert.NmRefIdeal.nD Cert.NmRefIdeal.τ).loc Cert.NmRefIdeal.main_arg0) = m ((c.tc : Thread Cert.NmRefIdeal.nD Cert.NmRefIdeal.τ).loc Cert.NmRefIdeal.main_arg0)
      ∧ r.2.mem ((c.tc : Thread Cert.NmRefIdeal.nD Cert.NmRefIdeal.τ).loc Cert.NmRefIdeal.main_arg1) = m ((c.tc : Thread Cert.NmRefIdeal.nD Cert.NmRefIdeal.τ).loc Cert.NmRefIdeal.main_arg1)
      ∧ r.2.mem ((c.tc : Thread Cert.NmRefIdeal.nD Cert.NmRefIdeal.τ).loc Cert.NmRefIdeal.main_arg2) = m ((c.tc : Thread Cert.NmRefIdeal.nD Cert.NmRefIdeal.τ).loc Cert.NmRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Mg [hMg : Cert.Mg.Facts] : Prop :=
  ∀ (m : (ℓ : Loc Cert.Mg.nD Cert.Mg.τ Cert.Mg.sig) → Buf (Elt Bits) ℓ) (g : Dev Cert.Mg.nD → PrngReg), Pre_Mg m →
    θ_run (Cert.Mg.defs (F := Bits)) (onTc (τ := Cert.Mg.τ) (Cert.Mg.main (F := Bits))) ⟨m, fun _ => 0, g⟩ (fun r => (∀ c : Dev Cert.Mg.nD,
      r.2.mem ((c.tc : Thread Cert.Mg.nD Cert.Mg.τ).loc Cert.Mg.main_arg0) = m ((c.tc : Thread Cert.Mg.nD Cert.Mg.τ).loc Cert.Mg.main_arg0)
      ∧ r.2.mem ((c.tc : Thread Cert.Mg.nD Cert.Mg.τ).loc Cert.Mg.main_arg1) = m ((c.tc : Thread Cert.Mg.nD Cert.Mg.τ).loc Cert.Mg.main_arg1)
      ∧ r.2.mem ((c.tc : Thread Cert.Mg.nD Cert.Mg.τ).loc Cert.Mg.main_arg2) = m ((c.tc : Thread Cert.Mg.nD Cert.Mg.τ).loc Cert.Mg.main_arg2)
      ∧ r.2.mem ((c.tc : Thread Cert.Mg.nD Cert.Mg.τ).loc Cert.Mg.main_arg3) = m ((c.tc : Thread Cert.Mg.nD Cert.Mg.τ).loc Cert.Mg.main_arg3)
      ∧ r.2.mem ((c.tc : Thread Cert.Mg.nD Cert.Mg.τ).loc Cert.Mg.main_arg4) = m ((c.tc : Thread Cert.Mg.nD Cert.Mg.τ).loc Cert.Mg.main_arg4)
      ∧ r.2.mem ((c.tc : Thread Cert.Mg.nD Cert.Mg.τ).loc Cert.Mg.main_arg5) = m ((c.tc : Thread Cert.Mg.nD Cert.Mg.τ).loc Cert.Mg.main_arg5)
      ∧ r.2.mem ((c.tc : Thread Cert.Mg.nD Cert.Mg.τ).loc Cert.Mg.main_arg6) = m ((c.tc : Thread Cert.Mg.nD Cert.Mg.τ).loc Cert.Mg.main_arg6)
      ∧ r.2.mem ((c.tc : Thread Cert.Mg.nD Cert.Mg.τ).loc Cert.Mg.main_arg7) = m ((c.tc : Thread Cert.Mg.nD Cert.Mg.τ).loc Cert.Mg.main_arg7)
      ∧ r.2.mem ((c.tc : Thread Cert.Mg.nD Cert.Mg.τ).loc Cert.Mg.main_arg8) = m ((c.tc : Thread Cert.Mg.nD Cert.Mg.τ).loc Cert.Mg.main_arg8))
      ∧ r.2.sem = fun _ => 0)

def quiescent_MgIdeal [hMgIdeal : Cert.MgIdeal.Facts] : Prop :=
  ∀ (m : (ℓ : Loc Cert.MgIdeal.nD Cert.MgIdeal.τ Cert.MgIdeal.sig) → Buf (Elt Ideal) ℓ) (g : Dev Cert.MgIdeal.nD → PrngReg), Pre_MgIdeal m →
    θ_run (Cert.MgIdeal.defs (F := Ideal)) (onTc (τ := Cert.MgIdeal.τ) (Cert.MgIdeal.main (F := Ideal))) ⟨m, fun _ => 0, g⟩ (fun r => (∀ c : Dev Cert.MgIdeal.nD,
      r.2.mem ((c.tc : Thread Cert.MgIdeal.nD Cert.MgIdeal.τ).loc Cert.MgIdeal.main_arg0) = m ((c.tc : Thread Cert.MgIdeal.nD Cert.MgIdeal.τ).loc Cert.MgIdeal.main_arg0)
      ∧ r.2.mem ((c.tc : Thread Cert.MgIdeal.nD Cert.MgIdeal.τ).loc Cert.MgIdeal.main_arg1) = m ((c.tc : Thread Cert.MgIdeal.nD Cert.MgIdeal.τ).loc Cert.MgIdeal.main_arg1)
      ∧ r.2.mem ((c.tc : Thread Cert.MgIdeal.nD Cert.MgIdeal.τ).loc Cert.MgIdeal.main_arg2) = m ((c.tc : Thread Cert.MgIdeal.nD Cert.MgIdeal.τ).loc Cert.MgIdeal.main_arg2)
      ∧ r.2.mem ((c.tc : Thread Cert.MgIdeal.nD Cert.MgIdeal.τ).loc Cert.MgIdeal.main_arg3) = m ((c.tc : Thread Cert.MgIdeal.nD Cert.MgIdeal.τ).loc Cert.MgIdeal.main_arg3)
      ∧ r.2.mem ((c.tc : Thread Cert.MgIdeal.nD Cert.MgIdeal.τ).loc Cert.MgIdeal.main_arg4) = m ((c.tc : Thread Cert.MgIdeal.nD Cert.MgIdeal.τ).loc Cert.MgIdeal.main_arg4)
      ∧ r.2.mem ((c.tc : Thread Cert.MgIdeal.nD Cert.MgIdeal.τ).loc Cert.MgIdeal.main_arg5) = m ((c.tc : Thread Cert.MgIdeal.nD Cert.MgIdeal.τ).loc Cert.MgIdeal.main_arg5)
      ∧ r.2.mem ((c.tc : Thread Cert.MgIdeal.nD Cert.MgIdeal.τ).loc Cert.MgIdeal.main_arg6) = m ((c.tc : Thread Cert.MgIdeal.nD Cert.MgIdeal.τ).loc Cert.MgIdeal.main_arg6)
      ∧ r.2.mem ((c.tc : Thread Cert.MgIdeal.nD Cert.MgIdeal.τ).loc Cert.MgIdeal.main_arg7) = m ((c.tc : Thread Cert.MgIdeal.nD Cert.MgIdeal.τ).loc Cert.MgIdeal.main_arg7)
      ∧ r.2.mem ((c.tc : Thread Cert.MgIdeal.nD Cert.MgIdeal.τ).loc Cert.MgIdeal.main_arg8) = m ((c.tc : Thread Cert.MgIdeal.nD Cert.MgIdeal.τ).loc Cert.MgIdeal.main_arg8))
      ∧ r.2.sem = fun _ => 0)

def quiescent_MgRefIdeal [hMgRefIdeal : Cert.MgRefIdeal.Facts] : Prop :=
  ∀ (m : (ℓ : Loc Cert.MgRefIdeal.nD Cert.MgRefIdeal.τ Cert.MgRefIdeal.sig) → Buf (Elt Ideal) ℓ) (g : Dev Cert.MgRefIdeal.nD → PrngReg), Pre_MgRefIdeal m →
    θ_run (Cert.MgRefIdeal.defs (F := Ideal)) (onTc (τ := Cert.MgRefIdeal.τ) (Cert.MgRefIdeal.main (F := Ideal))) ⟨m, fun _ => 0, g⟩ (fun r => (∀ c : Dev Cert.MgRefIdeal.nD,
      r.2.mem ((c.tc : Thread Cert.MgRefIdeal.nD Cert.MgRefIdeal.τ).loc Cert.MgRefIdeal.main_arg0) = m ((c.tc : Thread Cert.MgRefIdeal.nD Cert.MgRefIdeal.τ).loc Cert.MgRefIdeal.main_arg0)
      ∧ r.2.mem ((c.tc : Thread Cert.MgRefIdeal.nD Cert.MgRefIdeal.τ).loc Cert.MgRefIdeal.main_arg1) = m ((c.tc : Thread Cert.MgRefIdeal.nD Cert.MgRefIdeal.τ).loc Cert.MgRefIdeal.main_arg1)
      ∧ r.2.mem ((c.tc : Thread Cert.MgRefIdeal.nD Cert.MgRefIdeal.τ).loc Cert.MgRefIdeal.main_arg2) = m ((c.tc : Thread Cert.MgRefIdeal.nD Cert.MgRefIdeal.τ).loc Cert.MgRefIdeal.main_arg2)
      ∧ r.2.mem ((c.tc : Thread Cert.MgRefIdeal.nD Cert.MgRefIdeal.τ).loc Cert.MgRefIdeal.main_arg3) = m ((c.tc : Thread Cert.MgRefIdeal.nD Cert.MgRefIdeal.τ).loc Cert.MgRefIdeal.main_arg3)
      ∧ r.2.mem ((c.tc : Thread Cert.MgRefIdeal.nD Cert.MgRefIdeal.τ).loc Cert.MgRefIdeal.main_arg4) = m ((c.tc : Thread Cert.MgRefIdeal.nD Cert.MgRefIdeal.τ).loc Cert.MgRefIdeal.main_arg4)
      ∧ r.2.mem ((c.tc : Thread Cert.MgRefIdeal.nD Cert.MgRefIdeal.τ).loc Cert.MgRefIdeal.main_arg5) = m ((c.tc : Thread Cert.MgRefIdeal.nD Cert.MgRefIdeal.τ).loc Cert.MgRefIdeal.main_arg5)
      ∧ r.2.mem ((c.tc : Thread Cert.MgRefIdeal.nD Cert.MgRefIdeal.τ).loc Cert.MgRefIdeal.main_arg6) = m ((c.tc : Thread Cert.MgRefIdeal.nD Cert.MgRefIdeal.τ).loc Cert.MgRefIdeal.main_arg6)
      ∧ r.2.mem ((c.tc : Thread Cert.MgRefIdeal.nD Cert.MgRefIdeal.τ).loc Cert.MgRefIdeal.main_arg7) = m ((c.tc : Thread Cert.MgRefIdeal.nD Cert.MgRefIdeal.τ).loc Cert.MgRefIdeal.main_arg7)
      ∧ r.2.mem ((c.tc : Thread Cert.MgRefIdeal.nD Cert.MgRefIdeal.τ).loc Cert.MgRefIdeal.main_arg8) = m ((c.tc : Thread Cert.MgRefIdeal.nD Cert.MgRefIdeal.τ).loc Cert.MgRefIdeal.main_arg8))
      ∧ r.2.sem = fun _ => 0)

def quiescent_Fn [hFn : Cert.Fn.Facts] : Prop :=
  ∀ (m : (ℓ : Loc Cert.Fn.nD Cert.Fn.τ Cert.Fn.sig) → Buf (Elt Bits) ℓ) (g : Dev Cert.Fn.nD → PrngReg), Pre_Fn m →
    θ_run (Cert.Fn.defs (F := Bits)) (onTc (τ := Cert.Fn.τ) (Cert.Fn.main (F := Bits))) ⟨m, fun _ => 0, g⟩ (fun r => (∀ c : Dev Cert.Fn.nD,
      r.2.mem ((c.tc : Thread Cert.Fn.nD Cert.Fn.τ).loc Cert.Fn.main_arg0) = m ((c.tc : Thread Cert.Fn.nD Cert.Fn.τ).loc Cert.Fn.main_arg0)
      ∧ r.2.mem ((c.tc : Thread Cert.Fn.nD Cert.Fn.τ).loc Cert.Fn.main_arg1) = m ((c.tc : Thread Cert.Fn.nD Cert.Fn.τ).loc Cert.Fn.main_arg1))
      ∧ r.2.sem = fun _ => 0)

def quiescent_FnIdeal [hFnIdeal : Cert.FnIdeal.Facts] : Prop :=
  ∀ (m : (ℓ : Loc Cert.FnIdeal.nD Cert.FnIdeal.τ Cert.FnIdeal.sig) → Buf (Elt Ideal) ℓ) (g : Dev Cert.FnIdeal.nD → PrngReg), Pre_FnIdeal m →
    θ_run (Cert.FnIdeal.defs (F := Ideal)) (onTc (τ := Cert.FnIdeal.τ) (Cert.FnIdeal.main (F := Ideal))) ⟨m, fun _ => 0, g⟩ (fun r => (∀ c : Dev Cert.FnIdeal.nD,
      r.2.mem ((c.tc : Thread Cert.FnIdeal.nD Cert.FnIdeal.τ).loc Cert.FnIdeal.main_arg0) = m ((c.tc : Thread Cert.FnIdeal.nD Cert.FnIdeal.τ).loc Cert.FnIdeal.main_arg0)
      ∧ r.2.mem ((c.tc : Thread Cert.FnIdeal.nD Cert.FnIdeal.τ).loc Cert.FnIdeal.main_arg1) = m ((c.tc : Thread Cert.FnIdeal.nD Cert.FnIdeal.τ).loc Cert.FnIdeal.main_arg1))
      ∧ r.2.sem = fun _ => 0)

def quiescent_FnRefIdeal [hFnRefIdeal : Cert.FnRefIdeal.Facts] : Prop :=
  ∀ (m : (ℓ : Loc Cert.FnRefIdeal.nD Cert.FnRefIdeal.τ Cert.FnRefIdeal.sig) → Buf (Elt Ideal) ℓ) (g : Dev Cert.FnRefIdeal.nD → PrngReg), Pre_FnRefIdeal m →
    θ_run (Cert.FnRefIdeal.defs (F := Ideal)) (onTc (τ := Cert.FnRefIdeal.τ) (Cert.FnRefIdeal.main (F := Ideal))) ⟨m, fun _ => 0, g⟩ (fun r => (∀ c : Dev Cert.FnRefIdeal.nD,
      r.2.mem ((c.tc : Thread Cert.FnRefIdeal.nD Cert.FnRefIdeal.τ).loc Cert.FnRefIdeal.main_arg0) = m ((c.tc : Thread Cert.FnRefIdeal.nD Cert.FnRefIdeal.τ).loc Cert.FnRefIdeal.main_arg0)
      ∧ r.2.mem ((c.tc : Thread Cert.FnRefIdeal.nD Cert.FnRefIdeal.τ).loc Cert.FnRefIdeal.main_arg1) = m ((c.tc : Thread Cert.FnRefIdeal.nD Cert.FnRefIdeal.τ).loc Cert.FnRefIdeal.main_arg1))
      ∧ r.2.sem = fun _ => 0)

def quiescent_Rs [hRs : Cert.Rs.Facts] : Prop :=
  ∀ (m : (ℓ : Loc Cert.Rs.nD Cert.Rs.τ Cert.Rs.sig) → Buf (Elt Bits) ℓ) (g : Dev Cert.Rs.nD → PrngReg), Pre_Rs m →
    θ_run (Cert.Rs.defs (F := Bits)) (onTc (τ := Cert.Rs.τ) (Cert.Rs.main (F := Bits))) ⟨m, fun _ => 0, g⟩ (fun r => (∀ c : Dev Cert.Rs.nD,
      r.2.mem ((c.tc : Thread Cert.Rs.nD Cert.Rs.τ).loc Cert.Rs.main_arg0) = m ((c.tc : Thread Cert.Rs.nD Cert.Rs.τ).loc Cert.Rs.main_arg0))
      ∧ r.2.sem = fun _ => 0)

def quiescent_RsIdeal [hRsIdeal : Cert.RsIdeal.Facts] : Prop :=
  ∀ (m : (ℓ : Loc Cert.RsIdeal.nD Cert.RsIdeal.τ Cert.RsIdeal.sig) → Buf (Elt Ideal) ℓ) (g : Dev Cert.RsIdeal.nD → PrngReg), Pre_RsIdeal m →
    θ_run (Cert.RsIdeal.defs (F := Ideal)) (onTc (τ := Cert.RsIdeal.τ) (Cert.RsIdeal.main (F := Ideal))) ⟨m, fun _ => 0, g⟩ (fun r => (∀ c : Dev Cert.RsIdeal.nD,
      r.2.mem ((c.tc : Thread Cert.RsIdeal.nD Cert.RsIdeal.τ).loc Cert.RsIdeal.main_arg0) = m ((c.tc : Thread Cert.RsIdeal.nD Cert.RsIdeal.τ).loc Cert.RsIdeal.main_arg0))
      ∧ r.2.sem = fun _ => 0)

def quiescent_RsRefIdeal [hRsRefIdeal : Cert.RsRefIdeal.Facts] : Prop :=
  ∀ (m : (ℓ : Loc Cert.RsRefIdeal.nD Cert.RsRefIdeal.τ Cert.RsRefIdeal.sig) → Buf (Elt Ideal) ℓ) (g : Dev Cert.RsRefIdeal.nD → PrngReg), Pre_RsRefIdeal m →
    θ_run (Cert.RsRefIdeal.defs (F := Ideal)) (onTc (τ := Cert.RsRefIdeal.τ) (Cert.RsRefIdeal.main (F := Ideal))) ⟨m, fun _ => 0, g⟩ (fun r => (∀ c : Dev Cert.RsRefIdeal.nD,
      r.2.mem ((c.tc : Thread Cert.RsRefIdeal.nD Cert.RsRefIdeal.τ).loc Cert.RsRefIdeal.main_arg0) = m ((c.tc : Thread Cert.RsRefIdeal.nD Cert.RsRefIdeal.τ).loc Cert.RsRefIdeal.main_arg0))
      ∧ r.2.sem = fun _ => 0)

def preserves_Rg_RgIdeal : Prop :=
  True

def algebraic_RgIdeal_RgRefIdeal [hRgIdeal : Cert.RgIdeal.Facts] [hRgRefIdeal : Cert.RgRefIdeal.Facts] : Prop :=
  ∀ (m : (ℓ : Loc Cert.RgIdeal.nD Cert.RgIdeal.τ Cert.RgIdeal.sig) → Buf (Elt Ideal) ℓ) (g : Dev Cert.RgIdeal.nD → PrngReg)
    (m' : (ℓ : Loc Cert.RgRefIdeal.nD Cert.RgRefIdeal.τ Cert.RgRefIdeal.sig) → Buf (Elt Ideal) ℓ) (g' : Dev Cert.RgRefIdeal.nD → PrngReg), Pre_RgIdeal m →
    (∀ c : Dev Cert.RgIdeal.nD,
      m' ((c.tc : Thread Cert.RgRefIdeal.nD Cert.RgRefIdeal.τ).loc Cert.RgRefIdeal.main_arg0) = m ((c.tc : Thread Cert.RgIdeal.nD Cert.RgIdeal.τ).loc Cert.RgIdeal.main_arg0)
      ∧ m' ((c.tc : Thread Cert.RgRefIdeal.nD Cert.RgRefIdeal.τ).loc Cert.RgRefIdeal.main_arg1) = m ((c.tc : Thread Cert.RgIdeal.nD Cert.RgIdeal.τ).loc Cert.RgIdeal.main_arg1)
      ∧ m' ((c.tc : Thread Cert.RgRefIdeal.nD Cert.RgRefIdeal.τ).loc Cert.RgRefIdeal.main_arg2) = m ((c.tc : Thread Cert.RgIdeal.nD Cert.RgIdeal.τ).loc Cert.RgIdeal.main_arg2)
      ∧ m' ((c.tc : Thread Cert.RgRefIdeal.nD Cert.RgRefIdeal.τ).loc Cert.RgRefIdeal.main_arg3) = m ((c.tc : Thread Cert.RgIdeal.nD Cert.RgIdeal.τ).loc Cert.RgIdeal.main_arg3)
      ∧ m' ((c.tc : Thread Cert.RgRefIdeal.nD Cert.RgRefIdeal.τ).loc Cert.RgRefIdeal.main_arg4) = m ((c.tc : Thread Cert.RgIdeal.nD Cert.RgIdeal.τ).loc Cert.RgIdeal.main_arg4)
      ∧ m' ((c.tc : Thread Cert.RgRefIdeal.nD Cert.RgRefIdeal.τ).loc Cert.RgRefIdeal.main_arg5) = m ((c.tc : Thread Cert.RgIdeal.nD Cert.RgIdeal.τ).loc Cert.RgIdeal.main_arg5)
      ∧ m' ((c.tc : Thread Cert.RgRefIdeal.nD Cert.RgRefIdeal.τ).loc Cert.RgRefIdeal.main_arg6) = m ((c.tc : Thread Cert.RgIdeal.nD Cert.RgIdeal.τ).loc Cert.RgIdeal.main_arg6)
      ∧ m' ((c.tc : Thread Cert.RgRefIdeal.nD Cert.RgRefIdeal.τ).loc Cert.RgRefIdeal.main_arg7) = m ((c.tc : Thread Cert.RgIdeal.nD Cert.RgIdeal.τ).loc Cert.RgIdeal.main_arg7)) →
    ∃ (v0 : (c : Dev Cert.RgIdeal.nD) → Buf (Elt Ideal) ((c.tc : Thread Cert.RgIdeal.nD Cert.RgIdeal.τ).loc Cert.RgIdeal.main_v32_0)) (v1 : (c : Dev Cert.RgIdeal.nD) → Buf (Elt Ideal) ((c.tc : Thread Cert.RgIdeal.nD Cert.RgIdeal.τ).loc Cert.RgIdeal.main_v32_1)),
      θ_run (Cert.RgIdeal.defs (F := Ideal)) (onTc (τ := Cert.RgIdeal.τ) (Cert.RgIdeal.main (F := Ideal))) ⟨m, fun _ => 0, g⟩ (fun r => ∀ c : Dev Cert.RgIdeal.nD,
          r.2.mem ((c.tc : Thread Cert.RgIdeal.nD Cert.RgIdeal.τ).loc Cert.RgIdeal.main_v32_0) = v0 c
          ∧ r.2.mem ((c.tc : Thread Cert.RgIdeal.nD Cert.RgIdeal.τ).loc Cert.RgIdeal.main_v32_1) = v1 c
          ∧ r.2.mem ((c.tc : Thread Cert.RgIdeal.nD Cert.RgIdeal.τ).loc Cert.RgIdeal.main_arg0) = m ((c.tc : Thread Cert.RgIdeal.nD Cert.RgIdeal.τ).loc Cert.RgIdeal.main_arg0)
          ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
          ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
          ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
          ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
          ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
          ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
          ∧ r.2.mem ((c.tc : Thread Cert.RgIdeal.nD Cert.RgIdeal.τ).loc Cert.RgIdeal.main_arg7) = m ((c.tc : Thread Cert.RgIdeal.nD Cert.RgIdeal.τ).loc Cert.RgIdeal.main_arg7))
      ∧ θ_run (Cert.RgRefIdeal.defs (F := Ideal)) (onTc (τ := Cert.RgRefIdeal.τ) (Cert.RgRefIdeal.main (F := Ideal))) ⟨m', fun _ => 0, g'⟩ (fun r => ∀ c : Dev Cert.RgRefIdeal.nD,
          r.2.mem ((c.tc : Thread Cert.RgRefIdeal.nD Cert.RgRefIdeal.τ).loc Cert.RgRefIdeal.main_v94) = v0 c
          ∧ r.2.mem ((c.tc : Thread Cert.RgRefIdeal.nD Cert.RgRefIdeal.τ).loc Cert.RgRefIdeal.main_v95) = v1 c
          ∧ r.2.mem ((c.tc : Thread Cert.RgRefIdeal.nD Cert.RgRefIdeal.τ).loc Cert.RgRefIdeal.main_arg0) = m' ((c.tc : Thread Cert.RgRefIdeal.nD Cert.RgRefIdeal.τ).loc Cert.RgRefIdeal.main_arg0)
          ∧ r.2.mem ((c.tc : Thread Cert.RgRefIdeal.nD Cert.RgRefIdeal.τ).loc Cert.RgRefIdeal.main_arg1) = m' ((c.tc : Thread Cert.RgRefIdeal.nD Cert.RgRefIdeal.τ).loc Cert.RgRefIdeal.main_arg1)
          ∧ r.2.mem ((c.tc : Thread Cert.RgRefIdeal.nD Cert.RgRefIdeal.τ).loc Cert.RgRefIdeal.main_arg2) = m' ((c.tc : Thread Cert.RgRefIdeal.nD Cert.RgRefIdeal.τ).loc Cert.RgRefIdeal.main_arg2)
          ∧ r.2.mem ((c.tc : Thread Cert.RgRefIdeal.nD Cert.RgRefIdeal.τ).loc Cert.RgRefIdeal.main_arg3) = m' ((c.tc : Thread Cert.RgRefIdeal.nD Cert.RgRefIdeal.τ).loc Cert.RgRefIdeal.main_arg3)
          ∧ r.2.mem ((c.tc : Thread Cert.RgRefIdeal.nD Cert.RgRefIdeal.τ).loc Cert.RgRefIdeal.main_arg4) = m' ((c.tc : Thread Cert.RgRefIdeal.nD Cert.RgRefIdeal.τ).loc Cert.RgRefIdeal.main_arg4)
          ∧ r.2.mem ((c.tc : Thread Cert.RgRefIdeal.nD Cert.RgRefIdeal.τ).loc Cert.RgRefIdeal.main_arg5) = m' ((c.tc : Thread Cert.RgRefIdeal.nD Cert.RgRefIdeal.τ).loc Cert.RgRefIdeal.main_arg5)
          ∧ r.2.mem ((c.tc : Thread Cert.RgRefIdeal.nD Cert.RgRefIdeal.τ).loc Cert.RgRefIdeal.main_arg6) = m' ((c.tc : Thread Cert.RgRefIdeal.nD Cert.RgRefIdeal.τ).loc Cert.RgRefIdeal.main_arg6)
          ∧ r.2.mem ((c.tc : Thread Cert.RgRefIdeal.nD Cert.RgRefIdeal.τ).loc Cert.RgRefIdeal.main_arg7) = m' ((c.tc : Thread Cert.RgRefIdeal.nD Cert.RgRefIdeal.τ).loc Cert.RgRefIdeal.main_arg7))

def preserves_Nm_NmIdeal : Prop :=
  True

def algebraic_NmIdeal_NmRefIdeal [hNmIdeal : Cert.NmIdeal.Facts] [hNmRefIdeal : Cert.NmRefIdeal.Facts] : Prop :=
  ∀ (m : (ℓ : Loc Cert.NmIdeal.nD Cert.NmIdeal.τ Cert.NmIdeal.sig) → Buf (Elt Ideal) ℓ) (g : Dev Cert.NmIdeal.nD → PrngReg)
    (m' : (ℓ : Loc Cert.NmRefIdeal.nD Cert.NmRefIdeal.τ Cert.NmRefIdeal.sig) → Buf (Elt Ideal) ℓ) (g' : Dev Cert.NmRefIdeal.nD → PrngReg), Pre_NmIdeal m →
    (∀ c : Dev Cert.NmIdeal.nD,
      m' ((c.tc : Thread Cert.NmRefIdeal.nD Cert.NmRefIdeal.τ).loc Cert.NmRefIdeal.main_arg0) = m ((c.tc : Thread Cert.NmIdeal.nD Cert.NmIdeal.τ).loc Cert.NmIdeal.main_arg0)
      ∧ m' ((c.tc : Thread Cert.NmRefIdeal.nD Cert.NmRefIdeal.τ).loc Cert.NmRefIdeal.main_arg1) = m ((c.tc : Thread Cert.NmIdeal.nD Cert.NmIdeal.τ).loc Cert.NmIdeal.main_arg1)
      ∧ m' ((c.tc : Thread Cert.NmRefIdeal.nD Cert.NmRefIdeal.τ).loc Cert.NmRefIdeal.main_arg2) = m ((c.tc : Thread Cert.NmIdeal.nD Cert.NmIdeal.τ).loc Cert.NmIdeal.main_arg2)) →
    ∃ (v0 : (c : Dev Cert.NmIdeal.nD) → Buf (Elt Ideal) ((c.tc : Thread Cert.NmIdeal.nD Cert.NmIdeal.τ).loc Cert.NmIdeal.main_v1)),
      θ_run (Cert.NmIdeal.defs (F := Ideal)) (onTc (τ := Cert.NmIdeal.τ) (Cert.NmIdeal.main (F := Ideal))) ⟨m, fun _ => 0, g⟩ (fun r => ∀ c : Dev Cert.NmIdeal.nD,
          r.2.mem ((c.tc : Thread Cert.NmIdeal.nD Cert.NmIdeal.τ).loc Cert.NmIdeal.main_v1) = v0 c
          ∧ r.2.mem ((c.tc : Thread Cert.NmIdeal.nD Cert.NmIdeal.τ).loc Cert.NmIdeal.main_arg0) = m ((c.tc : Thread Cert.NmIdeal.nD Cert.NmIdeal.τ).loc Cert.NmIdeal.main_arg0)
          ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
          ∧ r.2.mem ((c.tc : Thread Cert.NmIdeal.nD Cert.NmIdeal.τ).loc Cert.NmIdeal.main_arg2) = m ((c.tc : Thread Cert.NmIdeal.nD Cert.NmIdeal.τ).loc Cert.NmIdeal.main_arg2))
      ∧ θ_run (Cert.NmRefIdeal.defs (F := Ideal)) (onTc (τ := Cert.NmRefIdeal.τ) (Cert.NmRefIdeal.main (F := Ideal))) ⟨m', fun _ => 0, g'⟩ (fun r => ∀ c : Dev Cert.NmRefIdeal.nD,
          r.2.mem ((c.tc : Thread Cert.NmRefIdeal.nD Cert.NmRefIdeal.τ).loc Cert.NmRefIdeal.main_v14) = v0 c
          ∧ r.2.mem ((c.tc : Thread Cert.NmRefIdeal.nD Cert.NmRefIdeal.τ).loc Cert.NmRefIdeal.main_arg0) = m' ((c.tc : Thread Cert.NmRefIdeal.nD Cert.NmRefIdeal.τ).loc Cert.NmRefIdeal.main_arg0)
          ∧ r.2.mem ((c.tc : Thread Cert.NmRefIdeal.nD Cert.NmRefIdeal.τ).loc Cert.NmRefIdeal.main_arg1) = m' ((c.tc : Thread Cert.NmRefIdeal.nD Cert.NmRefIdeal.τ).loc Cert.NmRefIdeal.main_arg1)
          ∧ r.2.mem ((c.tc : Thread Cert.NmRefIdeal.nD Cert.NmRefIdeal.τ).loc Cert.NmRefIdeal.main_arg2) = m' ((c.tc : Thread Cert.NmRefIdeal.nD Cert.NmRefIdeal.τ).loc Cert.NmRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Mg_MgIdeal : Prop :=
  True

def algebraic_MgIdeal_MgRefIdeal [hMgIdeal : Cert.MgIdeal.Facts] [hMgRefIdeal : Cert.MgRefIdeal.Facts] : Prop :=
  ∀ (m : (ℓ : Loc Cert.MgIdeal.nD Cert.MgIdeal.τ Cert.MgIdeal.sig) → Buf (Elt Ideal) ℓ) (g : Dev Cert.MgIdeal.nD → PrngReg)
    (m' : (ℓ : Loc Cert.MgRefIdeal.nD Cert.MgRefIdeal.τ Cert.MgRefIdeal.sig) → Buf (Elt Ideal) ℓ) (g' : Dev Cert.MgRefIdeal.nD → PrngReg), Pre_MgIdeal m →
    (∀ c : Dev Cert.MgIdeal.nD,
      m' ((c.tc : Thread Cert.MgRefIdeal.nD Cert.MgRefIdeal.τ).loc Cert.MgRefIdeal.main_arg0) = m ((c.tc : Thread Cert.MgIdeal.nD Cert.MgIdeal.τ).loc Cert.MgIdeal.main_arg0)
      ∧ m' ((c.tc : Thread Cert.MgRefIdeal.nD Cert.MgRefIdeal.τ).loc Cert.MgRefIdeal.main_arg1) = m ((c.tc : Thread Cert.MgIdeal.nD Cert.MgIdeal.τ).loc Cert.MgIdeal.main_arg1)
      ∧ m' ((c.tc : Thread Cert.MgRefIdeal.nD Cert.MgRefIdeal.τ).loc Cert.MgRefIdeal.main_arg2) = m ((c.tc : Thread Cert.MgIdeal.nD Cert.MgIdeal.τ).loc Cert.MgIdeal.main_arg2)
      ∧ m' ((c.tc : Thread Cert.MgRefIdeal.nD Cert.MgRefIdeal.τ).loc Cert.MgRefIdeal.main_arg3) = m ((c.tc : Thread Cert.MgIdeal.nD Cert.MgIdeal.τ).loc Cert.MgIdeal.main_arg3)
      ∧ m' ((c.tc : Thread Cert.MgRefIdeal.nD Cert.MgRefIdeal.τ).loc Cert.MgRefIdeal.main_arg4) = m ((c.tc : Thread Cert.MgIdeal.nD Cert.MgIdeal.τ).loc Cert.MgIdeal.main_arg4)
      ∧ m' ((c.tc : Thread Cert.MgRefIdeal.nD Cert.MgRefIdeal.τ).loc Cert.MgRefIdeal.main_arg5) = m ((c.tc : Thread Cert.MgIdeal.nD Cert.MgIdeal.τ).loc Cert.MgIdeal.main_arg5)
      ∧ m' ((c.tc : Thread Cert.MgRefIdeal.nD Cert.MgRefIdeal.τ).loc Cert.MgRefIdeal.main_arg6) = m ((c.tc : Thread Cert.MgIdeal.nD Cert.MgIdeal.τ).loc Cert.MgIdeal.main_arg6)
      ∧ m' ((c.tc : Thread Cert.MgRefIdeal.nD Cert.MgRefIdeal.τ).loc Cert.MgRefIdeal.main_arg7) = m ((c.tc : Thread Cert.MgIdeal.nD Cert.MgIdeal.τ).loc Cert.MgIdeal.main_arg7)
      ∧ m' ((c.tc : Thread Cert.MgRefIdeal.nD Cert.MgRefIdeal.τ).loc Cert.MgRefIdeal.main_arg8) = m ((c.tc : Thread Cert.MgIdeal.nD Cert.MgIdeal.τ).loc Cert.MgIdeal.main_arg8)) →
    ∃ (v0 : (c : Dev Cert.MgIdeal.nD) → Buf (Elt Ideal) ((c.tc : Thread Cert.MgIdeal.nD Cert.MgIdeal.τ).loc Cert.MgIdeal.main_v0)),
      θ_run (Cert.MgIdeal.defs (F := Ideal)) (onTc (τ := Cert.MgIdeal.τ) (Cert.MgIdeal.main (F := Ideal))) ⟨m, fun _ => 0, g⟩ (fun r => ∀ c : Dev Cert.MgIdeal.nD,
          r.2.mem ((c.tc : Thread Cert.MgIdeal.nD Cert.MgIdeal.τ).loc Cert.MgIdeal.main_v0) = v0 c
          ∧ r.2.mem ((c.tc : Thread Cert.MgIdeal.nD Cert.MgIdeal.τ).loc Cert.MgIdeal.main_arg0) = m ((c.tc : Thread Cert.MgIdeal.nD Cert.MgIdeal.τ).loc Cert.MgIdeal.main_arg0)
          ∧ r.2.mem ((c.tc : Thread Cert.MgIdeal.nD Cert.MgIdeal.τ).loc Cert.MgIdeal.main_arg1) = m ((c.tc : Thread Cert.MgIdeal.nD Cert.MgIdeal.τ).loc Cert.MgIdeal.main_arg1)
          ∧ r.2.mem ((c.tc : Thread Cert.MgIdeal.nD Cert.MgIdeal.τ).loc Cert.MgIdeal.main_arg2) = m ((c.tc : Thread Cert.MgIdeal.nD Cert.MgIdeal.τ).loc Cert.MgIdeal.main_arg2)
          ∧ r.2.mem ((c.tc : Thread Cert.MgIdeal.nD Cert.MgIdeal.τ).loc Cert.MgIdeal.main_arg3) = m ((c.tc : Thread Cert.MgIdeal.nD Cert.MgIdeal.τ).loc Cert.MgIdeal.main_arg3)
          ∧ r.2.mem ((c.tc : Thread Cert.MgIdeal.nD Cert.MgIdeal.τ).loc Cert.MgIdeal.main_arg4) = m ((c.tc : Thread Cert.MgIdeal.nD Cert.MgIdeal.τ).loc Cert.MgIdeal.main_arg4)
          ∧ r.2.mem ((c.tc : Thread Cert.MgIdeal.nD Cert.MgIdeal.τ).loc Cert.MgIdeal.main_arg5) = m ((c.tc : Thread Cert.MgIdeal.nD Cert.MgIdeal.τ).loc Cert.MgIdeal.main_arg5)
          ∧ r.2.mem ((c.tc : Thread Cert.MgIdeal.nD Cert.MgIdeal.τ).loc Cert.MgIdeal.main_arg6) = m ((c.tc : Thread Cert.MgIdeal.nD Cert.MgIdeal.τ).loc Cert.MgIdeal.main_arg6)
          ∧ r.2.mem ((c.tc : Thread Cert.MgIdeal.nD Cert.MgIdeal.τ).loc Cert.MgIdeal.main_arg7) = m ((c.tc : Thread Cert.MgIdeal.nD Cert.MgIdeal.τ).loc Cert.MgIdeal.main_arg7)
          ∧ r.2.mem ((c.tc : Thread Cert.MgIdeal.nD Cert.MgIdeal.τ).loc Cert.MgIdeal.main_arg8) = m ((c.tc : Thread Cert.MgIdeal.nD Cert.MgIdeal.τ).loc Cert.MgIdeal.main_arg8))
      ∧ θ_run (Cert.MgRefIdeal.defs (F := Ideal)) (onTc (τ := Cert.MgRefIdeal.τ) (Cert.MgRefIdeal.main (F := Ideal))) ⟨m', fun _ => 0, g'⟩ (fun r => ∀ c : Dev Cert.MgRefIdeal.nD,
          r.2.mem ((c.tc : Thread Cert.MgRefIdeal.nD Cert.MgRefIdeal.τ).loc Cert.MgRefIdeal.main_v30) = v0 c
          ∧ r.2.mem ((c.tc : Thread Cert.MgRefIdeal.nD Cert.MgRefIdeal.τ).loc Cert.MgRefIdeal.main_arg0) = m' ((c.tc : Thread Cert.MgRefIdeal.nD Cert.MgRefIdeal.τ).loc Cert.MgRefIdeal.main_arg0)
          ∧ r.2.mem ((c.tc : Thread Cert.MgRefIdeal.nD Cert.MgRefIdeal.τ).loc Cert.MgRefIdeal.main_arg1) = m' ((c.tc : Thread Cert.MgRefIdeal.nD Cert.MgRefIdeal.τ).loc Cert.MgRefIdeal.main_arg1)
          ∧ r.2.mem ((c.tc : Thread Cert.MgRefIdeal.nD Cert.MgRefIdeal.τ).loc Cert.MgRefIdeal.main_arg2) = m' ((c.tc : Thread Cert.MgRefIdeal.nD Cert.MgRefIdeal.τ).loc Cert.MgRefIdeal.main_arg2)
          ∧ r.2.mem ((c.tc : Thread Cert.MgRefIdeal.nD Cert.MgRefIdeal.τ).loc Cert.MgRefIdeal.main_arg3) = m' ((c.tc : Thread Cert.MgRefIdeal.nD Cert.MgRefIdeal.τ).loc Cert.MgRefIdeal.main_arg3)
          ∧ r.2.mem ((c.tc : Thread Cert.MgRefIdeal.nD Cert.MgRefIdeal.τ).loc Cert.MgRefIdeal.main_arg4) = m' ((c.tc : Thread Cert.MgRefIdeal.nD Cert.MgRefIdeal.τ).loc Cert.MgRefIdeal.main_arg4)
          ∧ r.2.mem ((c.tc : Thread Cert.MgRefIdeal.nD Cert.MgRefIdeal.τ).loc Cert.MgRefIdeal.main_arg5) = m' ((c.tc : Thread Cert.MgRefIdeal.nD Cert.MgRefIdeal.τ).loc Cert.MgRefIdeal.main_arg5)
          ∧ r.2.mem ((c.tc : Thread Cert.MgRefIdeal.nD Cert.MgRefIdeal.τ).loc Cert.MgRefIdeal.main_arg6) = m' ((c.tc : Thread Cert.MgRefIdeal.nD Cert.MgRefIdeal.τ).loc Cert.MgRefIdeal.main_arg6)
          ∧ r.2.mem ((c.tc : Thread Cert.MgRefIdeal.nD Cert.MgRefIdeal.τ).loc Cert.MgRefIdeal.main_arg7) = m' ((c.tc : Thread Cert.MgRefIdeal.nD Cert.MgRefIdeal.τ).loc Cert.MgRefIdeal.main_arg7)
          ∧ r.2.mem ((c.tc : Thread Cert.MgRefIdeal.nD Cert.MgRefIdeal.τ).loc Cert.MgRefIdeal.main_arg8) = m' ((c.tc : Thread Cert.MgRefIdeal.nD Cert.MgRefIdeal.τ).loc Cert.MgRefIdeal.main_arg8))

def preserves_Fn_FnIdeal : Prop :=
  True

def algebraic_FnIdeal_FnRefIdeal [hFnIdeal : Cert.FnIdeal.Facts] [hFnRefIdeal : Cert.FnRefIdeal.Facts] : Prop :=
  ∀ (m : (ℓ : Loc Cert.FnIdeal.nD Cert.FnIdeal.τ Cert.FnIdeal.sig) → Buf (Elt Ideal) ℓ) (g : Dev Cert.FnIdeal.nD → PrngReg)
    (m' : (ℓ : Loc Cert.FnRefIdeal.nD Cert.FnRefIdeal.τ Cert.FnRefIdeal.sig) → Buf (Elt Ideal) ℓ) (g' : Dev Cert.FnRefIdeal.nD → PrngReg), Pre_FnIdeal m →
    (∀ c : Dev Cert.FnIdeal.nD,
      m' ((c.tc : Thread Cert.FnRefIdeal.nD Cert.FnRefIdeal.τ).loc Cert.FnRefIdeal.main_arg0) = m ((c.tc : Thread Cert.FnIdeal.nD Cert.FnIdeal.τ).loc Cert.FnIdeal.main_arg0)
      ∧ m' ((c.tc : Thread Cert.FnRefIdeal.nD Cert.FnRefIdeal.τ).loc Cert.FnRefIdeal.main_arg1) = m ((c.tc : Thread Cert.FnIdeal.nD Cert.FnIdeal.τ).loc Cert.FnIdeal.main_arg1)) →
    ∃ (v0 : (c : Dev Cert.FnIdeal.nD) → Buf (Elt Ideal) ((c.tc : Thread Cert.FnIdeal.nD Cert.FnIdeal.τ).loc Cert.FnIdeal.main_v1)),
      θ_run (Cert.FnIdeal.defs (F := Ideal)) (onTc (τ := Cert.FnIdeal.τ) (Cert.FnIdeal.main (F := Ideal))) ⟨m, fun _ => 0, g⟩ (fun r => ∀ c : Dev Cert.FnIdeal.nD,
          r.2.mem ((c.tc : Thread Cert.FnIdeal.nD Cert.FnIdeal.τ).loc Cert.FnIdeal.main_v1) = v0 c
          ∧ r.2.mem ((c.tc : Thread Cert.FnIdeal.nD Cert.FnIdeal.τ).loc Cert.FnIdeal.main_arg0) = m ((c.tc : Thread Cert.FnIdeal.nD Cert.FnIdeal.τ).loc Cert.FnIdeal.main_arg0)
          ∧ r.2.mem ((c.tc : Thread Cert.FnIdeal.nD Cert.FnIdeal.τ).loc Cert.FnIdeal.main_arg1) = m ((c.tc : Thread Cert.FnIdeal.nD Cert.FnIdeal.τ).loc Cert.FnIdeal.main_arg1))
      ∧ θ_run (Cert.FnRefIdeal.defs (F := Ideal)) (onTc (τ := Cert.FnRefIdeal.τ) (Cert.FnRefIdeal.main (F := Ideal))) ⟨m', fun _ => 0, g'⟩ (fun r => ∀ c : Dev Cert.FnRefIdeal.nD,
          r.2.mem ((c.tc : Thread Cert.FnRefIdeal.nD Cert.FnRefIdeal.τ).loc Cert.FnRefIdeal.main_v12) = v0 c
          ∧ r.2.mem ((c.tc : Thread Cert.FnRefIdeal.nD Cert.FnRefIdeal.τ).loc Cert.FnRefIdeal.main_arg0) = m' ((c.tc : Thread Cert.FnRefIdeal.nD Cert.FnRefIdeal.τ).loc Cert.FnRefIdeal.main_arg0)
          ∧ r.2.mem ((c.tc : Thread Cert.FnRefIdeal.nD Cert.FnRefIdeal.τ).loc Cert.FnRefIdeal.main_arg1) = m' ((c.tc : Thread Cert.FnRefIdeal.nD Cert.FnRefIdeal.τ).loc Cert.FnRefIdeal.main_arg1))

def preserves_Rs_RsIdeal : Prop :=
  True

def algebraic_RsIdeal_RsRefIdeal [hRsIdeal : Cert.RsIdeal.Facts] [hRsRefIdeal : Cert.RsRefIdeal.Facts] : Prop :=
  ∀ (m : (ℓ : Loc Cert.RsIdeal.nD Cert.RsIdeal.τ Cert.RsIdeal.sig) → Buf (Elt Ideal) ℓ) (g : Dev Cert.RsIdeal.nD → PrngReg)
    (m' : (ℓ : Loc Cert.RsRefIdeal.nD Cert.RsRefIdeal.τ Cert.RsRefIdeal.sig) → Buf (Elt Ideal) ℓ) (g' : Dev Cert.RsRefIdeal.nD → PrngReg), Pre_RsIdeal m →
    (∀ c : Dev Cert.RsIdeal.nD,
      m' ((c.tc : Thread Cert.RsRefIdeal.nD Cert.RsRefIdeal.τ).loc Cert.RsRefIdeal.main_arg0) = m ((c.tc : Thread Cert.RsIdeal.nD Cert.RsIdeal.τ).loc Cert.RsIdeal.main_arg0)) →
    ∃ (v0 : (c : Dev Cert.RsIdeal.nD) → Buf (Elt Ideal) ((c.tc : Thread Cert.RsIdeal.nD Cert.RsIdeal.τ).loc Cert.RsIdeal.main_v18_0)) (v1 : (c : Dev Cert.RsIdeal.nD) → Buf (Elt Ideal) ((c.tc : Thread Cert.RsIdeal.nD Cert.RsIdeal.τ).loc Cert.RsIdeal.main_v18_1)) (v2 : (c : Dev Cert.RsIdeal.nD) → Buf (Elt Ideal) ((c.tc : Thread Cert.RsIdeal.nD Cert.RsIdeal.τ).loc Cert.RsIdeal.main_v18_2)) (v3 : (c : Dev Cert.RsIdeal.nD) → Buf (Elt Ideal) ((c.tc : Thread Cert.RsIdeal.nD Cert.RsIdeal.τ).loc Cert.RsIdeal.main_v18_3)),
      θ_run (Cert.RsIdeal.defs (F := Ideal)) (onTc (τ := Cert.RsIdeal.τ) (Cert.RsIdeal.main (F := Ideal))) ⟨m, fun _ => 0, g⟩ (fun r => ∀ c : Dev Cert.RsIdeal.nD,
          r.2.mem ((c.tc : Thread Cert.RsIdeal.nD Cert.RsIdeal.τ).loc Cert.RsIdeal.main_v18_0) = v0 c
          ∧ r.2.mem ((c.tc : Thread Cert.RsIdeal.nD Cert.RsIdeal.τ).loc Cert.RsIdeal.main_v18_1) = v1 c
          ∧ r.2.mem ((c.tc : Thread Cert.RsIdeal.nD Cert.RsIdeal.τ).loc Cert.RsIdeal.main_v18_2) = v2 c
          ∧ r.2.mem ((c.tc : Thread Cert.RsIdeal.nD Cert.RsIdeal.τ).loc Cert.RsIdeal.main_v18_3) = v3 c
          ∧ r.2.mem ((c.tc : Thread Cert.RsIdeal.nD Cert.RsIdeal.τ).loc Cert.RsIdeal.main_arg0) = m ((c.tc : Thread Cert.RsIdeal.nD Cert.RsIdeal.τ).loc Cert.RsIdeal.main_arg0))
      ∧ θ_run (Cert.RsRefIdeal.defs (F := Ideal)) (onTc (τ := Cert.RsRefIdeal.τ) (Cert.RsRefIdeal.main (F := Ideal))) ⟨m', fun _ => 0, g'⟩ (fun r => ∀ c : Dev Cert.RsRefIdeal.nD,
          r.2.mem ((c.tc : Thread Cert.RsRefIdeal.nD Cert.RsRefIdeal.τ).loc Cert.RsRefIdeal.main_v155) = v0 c
          ∧ r.2.mem ((c.tc : Thread Cert.RsRefIdeal.nD Cert.RsRefIdeal.τ).loc Cert.RsRefIdeal.main_v145) = v1 c
          ∧ r.2.mem ((c.tc : Thread Cert.RsRefIdeal.nD Cert.RsRefIdeal.τ).loc Cert.RsRefIdeal.main_v149) = v2 c
          ∧ r.2.mem ((c.tc : Thread Cert.RsRefIdeal.nD Cert.RsRefIdeal.τ).loc Cert.RsRefIdeal.main_v153) = v3 c
          ∧ r.2.mem ((c.tc : Thread Cert.RsRefIdeal.nD Cert.RsRefIdeal.τ).loc Cert.RsRefIdeal.main_arg0) = m' ((c.tc : Thread Cert.RsRefIdeal.nD Cert.RsRefIdeal.τ).loc Cert.RsRefIdeal.main_arg0))

def Claim : Prop :=
  ∃ (hRg : Cert.Rg.Facts) (hRgIdeal : Cert.RgIdeal.Facts) (hRgRefIdeal : Cert.RgRefIdeal.Facts) (hNm : Cert.Nm.Facts) (hNmIdeal : Cert.NmIdeal.Facts) (hNmRefIdeal : Cert.NmRefIdeal.Facts) (hFfn : Cert.Ffn.Facts) (hFfnIdeal : Cert.FfnIdeal.Facts) (hFfnRefIdeal : Cert.FfnRefIdeal.Facts) (hMg : Cert.Mg.Facts) (hMgIdeal : Cert.MgIdeal.Facts) (hMgRefIdeal : Cert.MgRefIdeal.Facts) (hFn : Cert.Fn.Facts) (hFnIdeal : Cert.FnIdeal.Facts) (hFnRefIdeal : Cert.FnRefIdeal.Facts) (hRs : Cert.Rs.Facts) (hRsIdeal : Cert.RsIdeal.Facts) (hRsRefIdeal : Cert.RsRefIdeal.Facts),
    quiescent_Rg (hRg := hRg)
    ∧ quiescent_RgIdeal (hRgIdeal := hRgIdeal)
    ∧ quiescent_RgRefIdeal (hRgRefIdeal := hRgRefIdeal)
    ∧ quiescent_Nm (hNm := hNm)
    ∧ quiescent_NmIdeal (hNmIdeal := hNmIdeal)
    ∧ quiescent_NmRefIdeal (hNmRefIdeal := hNmRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mg (hMg := hMg)
    ∧ quiescent_MgIdeal (hMgIdeal := hMgIdeal)
    ∧ quiescent_MgRefIdeal (hMgRefIdeal := hMgRefIdeal)
    ∧ quiescent_Fn (hFn := hFn)
    ∧ quiescent_FnIdeal (hFnIdeal := hFnIdeal)
    ∧ quiescent_FnRefIdeal (hFnRefIdeal := hFnRefIdeal)
    ∧ quiescent_Rs (hRs := hRs)
    ∧ quiescent_RsIdeal (hRsIdeal := hRsIdeal)
    ∧ quiescent_RsRefIdeal (hRsRefIdeal := hRsRefIdeal)
    ∧ preserves_Rg_RgIdeal
    ∧ algebraic_RgIdeal_RgRefIdeal (hRgIdeal := hRgIdeal) (hRgRefIdeal := hRgRefIdeal)
    ∧ preserves_Nm_NmIdeal
    ∧ algebraic_NmIdeal_NmRefIdeal (hNmIdeal := hNmIdeal) (hNmRefIdeal := hNmRefIdeal)
    ∧ preserves_Ffn_FfnIdeal
    ∧ algebraic_FfnIdeal_FfnRefIdeal (hFfnIdeal := hFfnIdeal) (hFfnRefIdeal := hFfnRefIdeal)
    ∧ preserves_Mg_MgIdeal
    ∧ algebraic_MgIdeal_MgRefIdeal (hMgIdeal := hMgIdeal) (hMgRefIdeal := hMgRefIdeal)
    ∧ preserves_Fn_FnIdeal
    ∧ algebraic_FnIdeal_FnRefIdeal (hFnIdeal := hFnIdeal) (hFnRefIdeal := hFnRefIdeal)
    ∧ preserves_Rs_RsIdeal
    ∧ algebraic_RsIdeal_RsRefIdeal (hRsIdeal := hRsIdeal) (hRsRefIdeal := hRsRefIdeal)
-- ==== Rg.lean ====
abbrev S4x4096x10240 : Shape := ⟨3, ![4, 4096, 10240]⟩
abbrev S4x1024 : Shape := ⟨2, ![4, 1024]⟩
abbrev S1024 : Shape := ⟨1, ![1024]⟩
abbrev S16x64x64 : Shape := ⟨3, ![16, 64, 64]⟩
abbrev S1x1024 : Shape := ⟨2, ![1, 1024]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x4096x1024 : Shape := ⟨3, ![4, 4096, 1024]⟩
abbrev S4x1x1024 : Shape := ⟨3, ![4, 1, 1024]⟩
abbrev S4x256x1024 : Shape := ⟨3, ![4, 256, 1024]⟩
abbrev S4x264x1024 : Shape := ⟨3, ![4, 264, 1024]⟩
abbrev S4x8x1024 : Shape := ⟨3, ![4, 8, 1024]⟩
abbrev S1x256x1024 : Shape := ⟨3, ![1, 256, 1024]⟩
abbrev S256x1024 : Shape := ⟨2, ![256, 1024]⟩
abbrev S1x8x1024 : Shape := ⟨3, ![1, 8, 1024]⟩
abbrev S8x1024 : Shape := ⟨2, ![8, 1024]⟩
abbrev S256x256 : Shape := ⟨2, ![256, 256]⟩
abbrev S1x256x256 : Shape := ⟨3, ![1, 256, 256]⟩
abbrev S1x1x1024 : Shape := ⟨3, ![1, 1, 1024]⟩

abbrev nBuf : Space → Nat
  | .hbm => 44
  | .vmem => 19
  | .smem => 0
  | _ => 0

abbrev bufTy : (tb : Table) → Fin (tcTables nBuf tb) → BufTy
  | .hbm, ⟨0, _⟩ => ⟨S4x4096x10240, .f32⟩
  | .hbm, ⟨1, _⟩ => ⟨S4x1024, .f32⟩
  | .hbm, ⟨2, _⟩ => ⟨S1024, .f32⟩
  | .hbm, ⟨3, _⟩ => ⟨S16x64x64, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4x4x64x64, .f32⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .f32⟩
  | .hbm, ⟨17, _⟩ => ⟨S4x4x64x1x64, .f32⟩
  | .hbm, ⟨18, _⟩ => ⟨S1x4x1x4x1, .f32⟩
  | .hbm, ⟨19, _⟩ => ⟨S4x4x64x4x64, .f32⟩
  | .hbm, ⟨20, _⟩ => ⟨S4x4x64x4x64, .f32⟩
  | .hbm, ⟨21, _⟩ => ⟨S4x4x64x4x64, .f32⟩
  | .hbm, ⟨22, _⟩ => ⟨S4x256x256, .f32⟩
  | .hbm, ⟨23, _⟩ => ⟨S4x256x256, .bf16⟩
  | .hbm, ⟨24, _⟩ => ⟨S1x1024, .f32⟩
  | .hbm, ⟨25, _⟩ => ⟨S4x4x64x64, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S4x4x64x1x64, .f32⟩
  | .hbm, ⟨34, _⟩ => ⟨S1x4x1x4x1, .f32⟩
  | .hbm, ⟨35, _⟩ => ⟨S4x4x64x4x64, .f32⟩
  | .hbm, ⟨36, _⟩ => ⟨S4x4x64x4x64, .f32⟩
  | .hbm, ⟨37, _⟩ => ⟨S4x4x64x4x64, .f32⟩
  | .hbm, ⟨38, _⟩ => ⟨S4x256x256, .f32⟩
  | .hbm, ⟨39, _⟩ => ⟨S4x256x256, .bf16⟩
  | .hbm, ⟨40, _⟩ => ⟨S1x1024, .f32⟩
  | .hbm, ⟨41, _⟩ => ⟨S1x1024, .f32⟩
  | .hbm, ⟨42, _⟩ => ⟨S4x4096x1024, .bf16⟩
  | .hbm, ⟨43, _⟩ => ⟨S4x1x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S4x256x1024, .bf16⟩
  | .local _ .vmem, ⟨12, _⟩ => ⟨S4x256x1024, .bf16⟩
  | .local _ .vmem, ⟨13, _⟩ => ⟨S4x1x1024, .f32⟩
  | .local _ .vmem, ⟨14, _⟩ => ⟨S4x264x1024, .f32⟩
  | .local _ .vmem, ⟨15, _⟩ => ⟨S4x8x1024, .f32⟩
  | .local _ .vmem, ⟨16, _⟩ => ⟨S4x256x1024, .f32⟩
  | .local _ .vmem, ⟨17, _⟩ => ⟨S4x256x1024, .f32⟩
  | .local _ .vmem, ⟨18, _⟩ => ⟨S4x256x1024, .f32⟩
  | _, _ => ⟨S4x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_297 : BitVec 32 := 0#32
  let c32_i32 : BitVec 32 := 32#32
  let v464 : BitVec 32 := Scalar.addi c0_i32_297 c32_i32
  let c1_i32 : BitVec 32 := 1#32
  ⟨c0_i32_297, v464, c1_i32⟩
def k0_mult1 (k0_t1 : Fin k0_t1_loop.trips) : BitVec 32 :=
  let c0_i32_297 : BitVec 32 := 0#32
  let c1_i32 : BitVec 32 := 1#32
  let arg17 : BitVec 32 := Scf.iv c0_i32_297 c1_i32 k0_t1
  let c8_i32 : BitVec 32 := 8#32
  let v578 : BitVec 32 := Scalar.muli arg17 c8_i32
  v578
def k0_off1 (k0_t1 : Fin k0_t1_loop.trips) : Fin 3 → Nat :=
  let c0_375 : Index := 0#32
  let c0_i32_297 : BitVec 32 := 0#32
  let c1_i32 : BitVec 32 := 1#32
  let arg17 : BitVec 32 := Scf.iv c0_i32_297 c1_i32 k0_t1
  let c8_i32 : BitVec 32 := 8#32
  let v578 : BitVec 32 := Scalar.muli arg17 c8_i32
  let v579 : BitVec 32 := v578
  let v580 : Index := Scalar.indexCast v579
  let c0_376 : Index := 0#32
  ![0, v580.toNat, 0]
def k0_off2 (k0_t1 : Fin k0_t1_loop.trips) : Fin 3 → Nat :=
  let c1_381 : Index := 1#32
  let c0_i32_297 : BitVec 32 := 0#32
  let c1_i32 : BitVec 32 := 1#32
  let arg17 : BitVec 32 := Scf.iv c0_i32_297 c1_i32 k0_t1
  let c8_i32 : BitVec 32 := 8#32
  let v578 : BitVec 32 := Scalar.muli arg17 c8_i32
  let v579 : BitVec 32 := v578
  let v623 : Index := Scalar.indexCast v579
  let c0_382 : Index := 0#32
  ![1, v623.toNat, 0]
def k0_off3 (k0_t1 : Fin k0_t1_loop.trips) : Fin 3 → Nat :=
  let c2_387 : Index := 2#32
  let c0_i32_297 : BitVec 32 := 0#32
  let c1_i32 : BitVec 32 := 1#32
  let arg17 : BitVec 32 := Scf.iv c0_i32_297 c1_i32 k0_t1
  let c8_i32 : BitVec 32 := 8#32
  let v578 : BitVec 32 := Scalar.muli arg17 c8_i32
  let v579 : BitVec 32 := v578
  let v666 : Index := Scalar.indexCast v579
  let c0_388 : Index := 0#32
  ![2, v666.toNat, 0]
def k0_off4 (k0_t1 : Fin k0_t1_loop.trips) : Fin 3 → Nat :=
  let c3_393 : Index := 3#32
  let c0_i32_297 : BitVec 32 := 0#32
  let c1_i32 : BitVec 32 := 1#32
  let arg17 : BitVec 32 := Scf.iv c0_i32_297 c1_i32 k0_t1
  let c8_i32 : BitVec 32 := 8#32
  let v578 : BitVec 32 := Scalar.muli arg17 c8_i32
  let v579 : BitVec 32 := v578
  let v709 : Index := Scalar.indexCast v579
  let c0_394 : Index := 0#32
  ![3, v709.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RgRefIdeal.lean ====
abbrev S4x4096x10240 : Shape := ⟨3, ![4, 4096, 10240]⟩
abbrev S4x1024 : Shape := ⟨2, ![4, 1024]⟩
abbrev S1024 : Shape := ⟨1, ![1024]⟩
abbrev S16x64x64 : Shape := ⟨3, ![16, 64, 64]⟩
abbrev S4x4096x1024 : Shape := ⟨3, ![4, 4096, 1024]⟩
abbrev S_ : Shape := ⟨0, ![]⟩
abbrev S4x3x1024 : Shape := ⟨3, ![4, 3, 1024]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x16x64 : Shape := ⟨4, ![4, 4096, 16, 64]⟩
abbrev S16x64x4x4096 : Shape := ⟨4, ![16, 64, 4, 4096]⟩
abbrev S4096x4x1024 : Shape := ⟨3, ![4096, 4, 1024]⟩
abbrev S1x4x1024 : Shape := ⟨3, ![1, 4, 1024]⟩
abbrev S4x1x1024 : Shape := ⟨3, ![4, 1, 1024]⟩

abbrev nBuf : Space → Nat
  | .hbm => 153
  | .vmem => 0
  | .smem => 0
  | _ => 0

abbrev hbmTy0_0 (i : Nat) : BufTy := match i % 128 with
  | 0 => ⟨S4x4096x10240, .f32⟩
  | 1 => ⟨S4x1024, .f32⟩
  | 2 => ⟨S1024, .f32⟩
  | 3 => ⟨S16x64x64, .f32⟩
  | 4 => ⟨S1024, .f32⟩
  | 5 => ⟨S16x64x64, .f32⟩
  | 6 => ⟨S1024, .f32⟩
  | 7 => ⟨S1024, .f32⟩
  | 8 => ⟨S4x4096x1024, .f32⟩
  | 9 => ⟨S_, .f32⟩
  | 10 => ⟨S4x3x1024, .f32⟩
  | 11 => ⟨S4x4099x1024, .f32⟩
  | 12 => ⟨S4x4096x1024, .f32⟩
  | 13 => ⟨S1x1024, .f32⟩
  | 14 => ⟨S1024, .f32⟩
  | 15 => ⟨S1x1x1024, .f32⟩
  | 16 => ⟨S4x4096x1024, .f32⟩
  | 17 => ⟨S4x4096x1024, .f32⟩
  | 18 => ⟨S4x4096x1024, .f32⟩
  | 19 => ⟨S1x1024, .f32⟩
  | 20 => ⟨S1024, .f32⟩
  | 21 => ⟨S1x1x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S1x1024, .f32⟩
  | 27 => ⟨S1024, .f32⟩
  | 28 => ⟨S1x1x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S1x1024, .f32⟩
  | 34 => ⟨S1024, .f32⟩
  | 35 => ⟨S1x1x1024, .f32⟩
  | 36 => ⟨S4x4096x1024, .f32⟩
  | 37 => ⟨S4x4096x1024, .f32⟩
  | 38 => ⟨S4x4096x1024, .f32⟩
  | 39 => ⟨S1x1x1024, .f32⟩
  | 40 => ⟨S4x4096x1024, .f32⟩
  | 41 => ⟨S4x4096x1024, .f32⟩
  | 42 => ⟨S4x4096x16x64, .f32⟩
  | 43 => ⟨S16x64x4x4096, .f32⟩
  | 44 => ⟨S4x4096x16x64, .f32⟩
  | 45 => ⟨S4x4096x1024, .f32⟩
  | 46 => ⟨S1x1x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S_, .f32⟩
  | 52 => ⟨S4x4096x1024, .f32⟩
  | 53 => ⟨S4x4096x1024, .f32⟩
  | 54 => ⟨S_, .f32⟩
  | 55 => ⟨S4x4096x1024, .f32⟩
  | 56 => ⟨S4x4096x1024, .f32⟩
  | 57 => ⟨S16x64x4x4096, .f32⟩
  | 58 => ⟨S4x4096x16x64, .f32⟩
  | 59 => ⟨S4x4096x1024, .f32⟩
  | 60 => ⟨S1x1x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S_, .f32⟩
  | 66 => ⟨S4x4096x1024, .f32⟩
  | 67 => ⟨S4x4096x1024, .f32⟩
  | 68 => ⟨S_, .f32⟩
  | 69 => ⟨S4x4096x1024, .f32⟩
  | 70 => ⟨S4x4096x1024, .f32⟩
  | 71 => ⟨S_, .f32⟩
  | 72 => ⟨S4x4096x1024, .f32⟩
  | 73 => ⟨S4x4096x1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S1024, .f32⟩
  | 80 => ⟨S1024, .i1⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1x1x1024, .f32⟩
  | 90 => ⟨S4x4096x1024, .f32⟩
  | 91 => ⟨S4x4096x1024, .f32⟩
  | 92 => ⟨S4x4096x1024, .f32⟩
  | 93 => ⟨S_, .f32⟩
  | 94 => ⟨S4x4096x1024, .f32⟩
  | 95 => ⟨S4x4096x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S_, .f32⟩
  | 102 => ⟨S4x1024, .f32⟩
  | 103 => ⟨S4096x4x1024, .f32⟩
  | 104 => ⟨S4096x4x1024, .f32⟩
  | 105 => ⟨S_, .f32⟩
  | 106 => ⟨S4096x4x1024, .f32⟩
  | 107 => ⟨S_, .i32⟩
  | 108 => ⟨S4096x4x1024, .f32⟩
  | 109 => ⟨S4096x4x1024, .f32⟩
  | 110 => ⟨S_, .i32⟩
  | 111 => ⟨S4x1024, .f32⟩
  | 112 => ⟨S4096x4x1024, .f32⟩
  | 113 => ⟨S_, .i32⟩
  | 114 => ⟨S_, .i1⟩
  | 115 => ⟨S_, .i32⟩
  | 116 => ⟨S_, .i32⟩
  | 117 => ⟨S1x4x1024, .f32⟩
  | 118 => ⟨S4x1024, .f32⟩
  | 119 => ⟨S_, .i32⟩
  | 120 => ⟨S_, .i32⟩
  | 121 => ⟨S1x4x1024, .f32⟩
  | 122 => ⟨S4x1024, .f32⟩
  | 123 => ⟨S4x1024, .f32⟩
  | 124 => ⟨S4x1024, .f32⟩
  | 125 => ⟨S1x4x1024, .f32⟩
  | 126 => ⟨S_, .i32⟩
  | 127 => ⟨S_, .i32⟩
  | _ => ⟨S4x4096x10240, .f32⟩

abbrev hbmTy0_1 (i : Nat) : BufTy := match i % 128 with
  | 0 => ⟨S4096x4x1024, .f32⟩
  | 1 => ⟨S_, .i32⟩
  | 2 => ⟨S_, .i32⟩
  | 3 => ⟨S4x4096x1024, .f32⟩
  | 4 => ⟨S4x4096x1024, .f32⟩
  | 5 => ⟨S4x4096x1024, .f32⟩
  | 6 => ⟨S_, .f32⟩
  | 7 => ⟨S4x4096x1024, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S4x4096x1024, .bf16⟩
  | 24 => ⟨S4x1x1024, .f32⟩
  | _ => ⟨S4x4096x10240, .f32⟩

abbrev hbmTy (i : Nat) : BufTy := match i / 128 with
  | 0 => hbmTy0_0 i
  | 1 => hbmTy0_1 i
  | _ => ⟨S4x4096x10240, .f32⟩

abbrev bufTy : (tb : Table) → Fin (tcTables nBuf tb) → BufTy
  | .hbm, ⟨i, _⟩ => hbmTy i
  | _, _ => ⟨S4x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_0 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_2 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_5 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_7 : Ref sig .tc := ⟨.hbm, 105, rfl⟩
abbrev main_v76 : Ref sig .tc := ⟨.hbm, 106, rfl⟩
abbrev main_c : Ref sig .tc := ⟨.hbm, 107, rfl⟩
abbrev main_v77_0 : Ref sig .tc := ⟨.hbm, 108, rfl⟩
abbrev main_v77_1 : Ref sig .tc := ⟨.hbm, 109, rfl⟩
abbrev main_v77_2 : Ref sig .tc := ⟨.hbm, 110, rfl⟩
abbrev main_v77_3 : Ref sig .tc := ⟨.hbm, 111, rfl⟩
abbrev main_v77_4 : Ref sig .tc := ⟨.hbm, 112, rfl⟩
abbrev main_while0c_c_16 : Ref sig .tc := ⟨.hbm, 113, rfl⟩
abbrev main_while0c_v96 : Ref sig .tc := ⟨.hbm, 114, rfl⟩
abbrev main_while0b_call1_c : Ref sig .tc := ⟨.hbm, 115, rfl⟩
abbrev main_while0b_call1_c_0 : Ref sig .tc := ⟨.hbm, 116, rfl⟩
abbrev main_while0b_call1_v0 : Ref sig .tc := ⟨.hbm, 117, rfl⟩
abbrev main_while0b_v96 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_v0 : Ref sig .tc := ⟨.hbm, 121, rfl⟩
abbrev main_while0b_v97 : Ref sig .tc := ⟨.hbm, 122, rfl⟩
abbrev main_while0b_v98 : Ref sig .tc := ⟨.hbm, 123, rfl⟩
abbrev main_while0b_v99 : Ref sig .tc := ⟨.hbm, 124, rfl⟩
abbrev main_while0b_call3_v0 : Ref sig .tc := ⟨.hbm, 125, rfl⟩
abbrev main_while0b_call3_c : Ref sig .tc := ⟨.hbm, 126, rfl⟩
abbrev main_while0b_call3_c_0 : Ref sig .tc := ⟨.hbm, 127, rfl⟩
abbrev main_while0b_v100 : Ref sig .tc := ⟨.hbm, 128, rfl⟩
abbrev main_while0b_c_16 : Ref sig .tc := ⟨.hbm, 129, rfl⟩
abbrev main_while0b_v101 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_8 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_9 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_10 : Ref sig .tc := ⟨.hbm, 142, rfl⟩
abbrev main_v87 : Ref sig .tc := ⟨.hbm, 143, rfl⟩
abbrev main_v88 : Ref sig .tc := ⟨.hbm, 144, rfl⟩
abbrev main_cst_11 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩

abbrev nD : Nat := 1
abbrev τ : Topo := Topo.v7x

variable {F : FTy → Type} [FloatOps F]

abbrev main_while0_count : Scf.Loop 32 := ⟨0#32, 4096#32, 1#32⟩
-- ==== Nm.lean ====
abbrev S16384x1024 : Shape := ⟨2, ![16384, 1024]⟩
abbrev S1024 : Shape := ⟨1, ![1024]⟩
abbrev S1024x10240 : Shape := ⟨2, ![1024, 10240]⟩
abbrev S1x1024 : Shape := ⟨2, ![1, 1024]⟩
abbrev S16384x10240 : Shape := ⟨2, ![16384, 10240]⟩
abbrev S1024x1024 : Shape := ⟨2, ![1024, 1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x10240, .bf16⟩
  | .hbm, ⟨3, _⟩ => ⟨S1x1024, .f32⟩
  | .hbm, ⟨4, _⟩ => ⟨S16384x10240, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NmRefIdeal.lean ====
abbrev S16384x1024 : Shape := ⟨2, ![16384, 1024]⟩
abbrev S1024 : Shape := ⟨1, ![1024]⟩
abbrev S1024x10240 : Shape := ⟨2, ![1024, 10240]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x10240 : Shape := ⟨2, ![16384, 10240]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x10240, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x10240, .f32⟩
  | .hbm, ⟨20, _⟩ => ⟨S16384x10240, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x5632, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S2816x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Mg.lean ====
abbrev S16384x1024 : Shape := ⟨2, ![16384, 1024]⟩
abbrev S16384x10240 : Shape := ⟨2, ![16384, 10240]⟩
abbrev S1024x1024 : Shape := ⟨2, ![1024, 1024]⟩
abbrev S512x1024 : Shape := ⟨2, ![512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x10240, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MgRefIdeal.lean ====
abbrev S16384x1024 : Shape := ⟨2, ![16384, 1024]⟩
abbrev S16384x10240 : Shape := ⟨2, ![16384, 10240]⟩
abbrev S1024x1024 : Shape := ⟨2, ![1024, 1024]⟩
abbrev S16384x3072 : Shape := ⟨2, ![16384, 3072]⟩
abbrev S16384x3x1024 : Shape := ⟨3, ![16384, 3, 1024]⟩
abbrev S_ : Shape := ⟨0, ![]⟩
abbrev S16384x1x1024 : Shape := ⟨3, ![16384, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x10240, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S16384x3072, .f32⟩
  | .hbm, ⟨10, _⟩ => ⟨S16384x3x1024, .f32⟩
  | .hbm, ⟨11, _⟩ => ⟨S16384x3x1024, .f32⟩
  | .hbm, ⟨12, _⟩ => ⟨S16384x3x1024, .f32⟩
  | .hbm, ⟨13, _⟩ => ⟨S_, .f32⟩
  | .hbm, ⟨14, _⟩ => ⟨S16384x3x1024, .f32⟩
  | .hbm, ⟨15, _⟩ => ⟨S16384x3x1024, .f32⟩
  | .hbm, ⟨16, _⟩ => ⟨S_, .f32⟩
  | .hbm, ⟨17, _⟩ => ⟨S16384x3x1024, .f32⟩
  | .hbm, ⟨18, _⟩ => ⟨S16384x3x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S1024x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S1024x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Fn.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FnRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Rs.lean ====
abbrev S4x4096x10240 : Shape := ⟨3, ![4, 4096, 10240]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4x4096x1024 : Shape := ⟨3, ![4, 4096, 1024]⟩
abbrev S4x4096x512 : Shape := ⟨3, ![4, 4096, 512]⟩
abbrev S4x32x2x4x64x128 : Shape := ⟨6, ![4, 32, 2, 4, 64, 128]⟩
abbrev S4x4x4096x64 : Shape := ⟨4, ![4, 4, 4096, 64]⟩
abbrev S4x4x16x64x256 : Shape := ⟨5, ![4, 4, 16, 64, 256]⟩
abbrev S1x512x1024 : Shape := ⟨3, ![1, 512, 1024]⟩
abbrev S1x512x512 : Shape := ⟨3, ![1, 512, 512]⟩
abbrev S512x128 : Shape := ⟨2, ![512, 128]⟩
abbrev S1x4x2x4x64x128 : Shape := ⟨6, ![1, 4, 2, 4, 64, 128]⟩
abbrev S1x4x512x64 : Shape := ⟨4, ![1, 4, 512, 64]⟩
abbrev S1x4x2x64x256 : Shape := ⟨5, ![1, 4, 2, 64, 256]⟩
abbrev S512x1024 : Shape := ⟨2, ![512, 1024]⟩
abbrev S512x512 : Shape := ⟨2, ![512, 512]⟩
abbrev S512x256 : Shape := ⟨2, ![512, 256]⟩
abbrev S256x512 : Shape := ⟨2, ![256, 512]⟩
abbrev S512x64 : Shape := ⟨2, ![512, 64]⟩
abbrev S1x1x512x64 : Shape := ⟨4, ![1, 1, 512, 64]⟩
abbrev S64x256 : Shape := ⟨2, ![64, 256]⟩
abbrev S1x1x1x64x256 : Shape := ⟨5, ![1, 1, 1, 64, 256]⟩
abbrev S64x128 : Shape := ⟨2, ![64, 128]⟩
abbrev S1x1x1x1x64x128 : Shape := ⟨6, ![1, 1, 1, 1, 64, 128]⟩

abbrev nBuf : Space → Nat
  | .hbm => 30
  | .vmem => 30
  | .smem => 0
  | _ => 0

abbrev bufTy : (tb : Table) → Fin (tcTables nBuf tb) → BufTy
  | .hbm, ⟨0, _⟩ => ⟨S4x4096x10240, .f32⟩
  | .hbm, ⟨1, _⟩ => ⟨S4096, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S4096, .f32⟩
  | .hbm, ⟨11, _⟩ => ⟨S4096x1, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x128, .f32⟩
  | .hbm, ⟨19, _⟩ => ⟨S4096x32, .f32⟩
  | .hbm, ⟨20, _⟩ => ⟨S4096x128, .f32⟩
  | .hbm, ⟨21, _⟩ => ⟨S4x4096x1024, .bf16⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x32x2x4x64x128, .f32⟩
  | .hbm, ⟨26, _⟩ => ⟨S4x4x4096x64, .bf16⟩
  | .hbm, ⟨27, _⟩ => ⟨S4x4x16x64x256, .bf16⟩
  | .hbm, ⟨28, _⟩ => ⟨S4x4x4096x64, .bf16⟩
  | .hbm, ⟨29, _⟩ => ⟨S4x4x16x64x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x4x2x4x64x128, .f32⟩
  | .local _ .vmem, ⟨21, _⟩ => ⟨S1x4x2x4x64x128, .f32⟩
  | .local _ .vmem, ⟨22, _⟩ => ⟨S1x4x512x64, .bf16⟩
  | .local _ .vmem, ⟨23, _⟩ => ⟨S1x4x512x64, .bf16⟩
  | .local _ .vmem, ⟨24, _⟩ => ⟨S1x4x2x64x256, .bf16⟩
  | .local _ .vmem, ⟨25, _⟩ => ⟨S1x4x2x64x256, .bf16⟩
  | .local _ .vmem, ⟨26, _⟩ => ⟨S1x4x512x64, .bf16⟩
  | .local _ .vmem, ⟨27, _⟩ => ⟨S1x4x512x64, .bf16⟩
  | .local _ .vmem, ⟨28, _⟩ => ⟨S1x4x2x64x256, .bf16⟩
  | .local _ .vmem, ⟨29, _⟩ => ⟨S1x4x2x64x256, .bf16⟩
  | _, _ => ⟨S4x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18_0 : Ref sig .tc := ⟨.hbm, 21, rfl⟩
abbrev main_v18_1 : Ref sig .tc := ⟨.hbm, 22, rfl⟩
abbrev main_v18_2 : Ref sig .tc := ⟨.hbm, 23, rfl⟩
abbrev main_v18_3 : Ref sig .tc := ⟨.hbm, 24, rfl⟩
abbrev main_v18_4 : Ref sig .tc := ⟨.hbm, 25, rfl⟩
abbrev main_v18_5 : Ref sig .tc := ⟨.hbm, 26, rfl⟩
abbrev main_v18_6 : Ref sig .tc := ⟨.hbm, 27, rfl⟩
abbrev main_v18_7 : Ref sig .tc := ⟨.hbm, 28, rfl⟩
abbrev main_v18_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x2x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x2x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x2x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RsRefIdeal.lean ====
abbrev S4x4096x10240 : Shape := ⟨3, ![4, 4096, 10240]⟩
abbrev S4x4096x1024 : Shape := ⟨3, ![4, 4096, 1024]⟩
abbrev S4x4096x16x64 : Shape := ⟨4, ![4, 4096, 16, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x16x32 : Shape := ⟨4, ![4, 4096, 16, 32]⟩
abbrev S4x4096x512 : Shape := ⟨3, ![4, 4096, 512]⟩
abbrev S4x4096x2x4x64 : Shape := ⟨5, ![4, 4096, 2, 4, 64]⟩
abbrev S4x4096x1x4x64 : Shape := ⟨5, ![4, 4096, 1, 4, 64]⟩
abbrev S4x4096x4x64 : Shape := ⟨4, ![4, 4096, 4, 64]⟩
abbrev S4x4096x4x32 : Shape := ⟨4, ![4, 4096, 4, 32]⟩

abbrev nBuf : Space → Nat
  | .hbm => 166
  | .vmem => 0
  | .smem => 0
  | _ => 0

abbrev hbmTy0_0 (i : Nat) : BufTy := match i % 128 with
  | 0 => ⟨S4x4096x10240, .f32⟩
  | 1 => ⟨S4x4096x1024, .f32⟩
  | 2 => ⟨S4x4096x16x64, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S4096, .i32⟩
  | 12 => ⟨S4096, .f32⟩
  | 13 => ⟨S4096x1, .f32⟩
  | 14 => ⟨S1x32, .f32⟩
  | 15 => ⟨S4096x32, .f32⟩
  | 16 => ⟨S4096x32, .f32⟩
  | 17 => ⟨S4096x32, .f32⟩
  | 18 => ⟨S4096x32, .f32⟩
  | 19 => ⟨S1x4096x1x32, .f32⟩
  | 20 => ⟨S4096x32, .f32⟩
  | 21 => ⟨S1x4096x1x32, .f32⟩
  | 22 => ⟨S4x4096x16x32, .f32⟩
  | 23 => ⟨S4x4096x16x32, .f32⟩
  | 24 => ⟨S4x4096x16x32, .f32⟩
  | 25 => ⟨S4x4096x16x32, .f32⟩
  | 26 => ⟨S4x4096x16x32, .f32⟩
  | 27 => ⟨S4x4096x16x32, .f32⟩
  | 28 => ⟨S4x4096x16x32, .f32⟩
  | 29 => ⟨S4x4096x16x32, .f32⟩
  | 30 => ⟨S4x4096x16x32, .f32⟩
  | 31 => ⟨S4x4096x16x32, .f32⟩
  | 32 => ⟨S4x4096x16x32, .f32⟩
  | 33 => ⟨S4x4096x16x32, .f32⟩
  | 34 => ⟨S4x4096x16x64, .f32⟩
  | 35 => ⟨S_, .f32⟩
  | 36 => ⟨S4x4096x16x64, .f32⟩
  | 37 => ⟨S4x4096x16x64, .f32⟩
  | 38 => ⟨S4x4096x512, .f32⟩
  | 39 => ⟨S4x4096x2x4x64, .f32⟩
  | 40 => ⟨S4x4096x512, .f32⟩
  | 41 => ⟨S4x4096x2x4x64, .f32⟩
  | 42 => ⟨S4x4096x512, .f32⟩
  | 43 => ⟨S4x4096x2x4x64, .f32⟩
  | 44 => ⟨S4x4096x1x4x64, .f32⟩
  | 45 => ⟨S4x4096x4x64, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S4096, .i32⟩
  | 55 => ⟨S4096, .f32⟩
  | 56 => ⟨S4096x1, .f32⟩
  | 57 => ⟨S1x32, .f32⟩
  | 58 => ⟨S4096x32, .f32⟩
  | 59 => ⟨S4096x32, .f32⟩
  | 60 => ⟨S4096x32, .f32⟩
  | 61 => ⟨S4096x32, .f32⟩
  | 62 => ⟨S1x4096x1x32, .f32⟩
  | 63 => ⟨S4096x32, .f32⟩
  | 64 => ⟨S1x4096x1x32, .f32⟩
  | 65 => ⟨S4x4096x4x32, .f32⟩
  | 66 => ⟨S4x4096x4x32, .f32⟩
  | 67 => ⟨S4x4096x4x32, .f32⟩
  | 68 => ⟨S4x4096x4x32, .f32⟩
  | 69 => ⟨S4x4096x4x32, .f32⟩
  | 70 => ⟨S4x4096x4x32, .f32⟩
  | 71 => ⟨S4x4096x4x32, .f32⟩
  | 72 => ⟨S4x4096x4x32, .f32⟩
  | 73 => ⟨S4x4096x4x32, .f32⟩
  | 74 => ⟨S4x4096x4x32, .f32⟩
  | 75 => ⟨S4x4096x4x32, .f32⟩
  | 76 => ⟨S4x4096x4x32, .f32⟩
  | 77 => ⟨S4x4096x4x64, .f32⟩
  | 78 => ⟨S4x4096x1x4x64, .f32⟩
  | 79 => ⟨S4x4096x4x64, .f32⟩
  | 80 => ⟨S4x4096x1x4x64, .f32⟩
  | 81 => ⟨S4x4096x4x64, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S4096, .i32⟩
  | 91 => ⟨S4096, .f32⟩
  | 92 => ⟨S4096x1, .f32⟩
  | 93 => ⟨S1x32, .f32⟩
  | 94 => ⟨S4096x32, .f32⟩
  | 95 => ⟨S4096x32, .f32⟩
  | 96 => ⟨S4096x32, .f32⟩
  | 97 => ⟨S4096x32, .f32⟩
  | 98 => ⟨S1x4096x1x32, .f32⟩
  | 99 => ⟨S4096x32, .f32⟩
  | 100 => ⟨S1x4096x1x32, .f32⟩
  | 101 => ⟨S4x4096x4x32, .f32⟩
  | 102 => ⟨S4x4096x4x32, .f32⟩
  | 103 => ⟨S4x4096x4x32, .f32⟩
  | 104 => ⟨S4x4096x4x32, .f32⟩
  | 105 => ⟨S4x4096x4x32, .f32⟩
  | 106 => ⟨S4x4096x4x32, .f32⟩
  | 107 => ⟨S4x4096x4x32, .f32⟩
  | 108 => ⟨S4x4096x4x32, .f32⟩
  | 109 => ⟨S4x4096x4x32, .f32⟩
  | 110 => ⟨S4x4096x4x32, .f32⟩
  | 111 => ⟨S4x4096x4x32, .f32⟩
  | 112 => ⟨S4x4096x4x32, .f32⟩
  | 113 => ⟨S4x4096x4x64, .f32⟩
  | 114 => ⟨S4x4096x1x4x64, .f32⟩
  | 115 => ⟨S4x4096x4x64, .f32⟩
  | 116 => ⟨S4x4096x1x4x64, .f32⟩
  | 117 => ⟨S4x4096x4x64, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S4096, .i32⟩
  | 127 => ⟨S4096, .f32⟩
  | _ => ⟨S4x4096x10240, .f32⟩

abbrev hbmTy0_1 (i : Nat) : BufTy := match i % 128 with
  | 0 => ⟨S4096x1, .f32⟩
  | 1 => ⟨S1x32, .f32⟩
  | 2 => ⟨S4096x32, .f32⟩
  | 3 => ⟨S4096x32, .f32⟩
  | 4 => ⟨S4096x32, .f32⟩
  | 5 => ⟨S4096x32, .f32⟩
  | 6 => ⟨S1x4096x1x32, .f32⟩
  | 7 => ⟨S4096x32, .f32⟩
  | 8 => ⟨S1x4096x1x32, .f32⟩
  | 9 => ⟨S4x4096x4x32, .f32⟩
  | 10 => ⟨S4x4096x4x32, .f32⟩
  | 11 => ⟨S4x4096x4x32, .f32⟩
  | 12 => ⟨S4x4096x4x32, .f32⟩
  | 13 => ⟨S4x4096x4x32, .f32⟩
  | 14 => ⟨S4x4096x4x32, .f32⟩
  | 15 => ⟨S4x4096x4x32, .f32⟩
  | 16 => ⟨S4x4096x4x32, .f32⟩
  | 17 => ⟨S4x4096x4x32, .f32⟩
  | 18 => ⟨S4x4096x4x32, .f32⟩
  | 19 => ⟨S4x4096x4x32, .f32⟩
  | 20 => ⟨S4x4096x4x32, .f32⟩
  | 21 => ⟨S4x4096x4x64, .f32⟩
  | 22 => ⟨S4x4096x1x4x64, .f32⟩
  | 23 => ⟨S4x4096x4x64, .f32⟩
  | 24 => ⟨S4x4096x1x4x64, .f32⟩
  | 25 => ⟨S4x4096x1x4x64, .f32⟩
  | 26 => ⟨S4x4096x2x4x64, .f32⟩
  | 27 => ⟨S4x4096x512, .f32⟩
  | 28 => ⟨S4x4096x1x4x64, .f32⟩
  | 29 => ⟨S4x4096x1x4x64, .f32⟩
  | 30 => ⟨S4x4096x2x4x64, .f32⟩
  | 31 => ⟨S4x4096x512, .f32⟩
  | 32 => ⟨S4x4096x1x4x64, .f32⟩
  | 33 => ⟨S4x4096x1x4x64, .f32⟩
  | 34 => ⟨S4x4096x2x4x64, .f32⟩
  | 35 => ⟨S4x4096x512, .f32⟩
  | 36 => ⟨S4x4096x1024, .f32⟩
  | 37 => ⟨S4x4096x1024, .bf16⟩
  | _ => ⟨S4x4096x10240, .f32⟩

abbrev hbmTy (i : Nat) : BufTy := match i / 128 with
  | 0 => hbmTy0_0 i
  | 1 => hbmTy0_1 i
  | _ => ⟨S4x4096x10240, .f32⟩

abbrev bufTy : (tb : Table) → Fin (tcTables nBuf tb) → BufTy
  | .hbm, ⟨i, _⟩ => hbmTy i
  | _, _ => ⟨S4x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst_1 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_cst_2 : Ref sig .tc := ⟨.hbm, 48, rfl⟩
abbrev main_v44 : Ref sig .tc := ⟨.hbm, 49, rfl⟩
abbrev main_v45 : Ref sig .tc := ⟨.hbm, 50, rfl⟩
abbrev main_cst_3 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_cst_4 : Ref sig .tc := ⟨.hbm, 84, rfl⟩
abbrev main_v78 : Ref sig .tc := ⟨.hbm, 85, rfl⟩
abbrev main_v79 : Ref sig .tc := ⟨.hbm, 86, rfl⟩
abbrev main_cst_5 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_cst_6 : Ref sig .tc := ⟨.hbm, 120, rfl⟩
abbrev main_v112 : Ref sig .tc := ⟨.hbm, 121, rfl⟩
abbrev main_v113 : Ref sig .tc := ⟨.hbm, 122, rfl⟩
abbrev main_cst_7 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩

abbrev nD : Nat := 1
abbrev τ : Topo := Topo.v7x

variable {F : FTy → Type} [FloatOps F]
-- ==== Proof.RgIdeal.Runs.lean ====
/-
  What the body's runs are stated over: the condition of its one `if` (the first point), the staging memrefs as the
  pipeline passes them, the scratch operands, and the region's invariant with the scratches as memrefs.
-/
module

public import proofs.«01_k».proof.Proof.Gen.RgIdeal.Frame
public import proofs.«01_k».proof.Proof.Gen.RgIdeal.Loops

@[expose] public section

set_option maxRecDepth 16384

noncomputable section

namespace Cert.RgIdeal.Body

open Cert.RgIdeal Cert.RgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `if`: the grid coordinate is 0. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

/-! Each window's current staging memref at point `t`, and its wholeness. -/

abbrev ms0 (t : Fin cfg0.N) : Memref sig .tc .vmem S4x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x256x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x256x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S4x1x1024 .f32 := win0_10.stage (cfg0.slots t 10)
abbrev hs10 (t : Fin cfg0.N) : (ms10 t).IsWhole := hstage0_10 ((cfg0.slots t 10).cast nbuf0_10)

/-! The scratch operands: whole buffers of the kernel's own. -/

abbrev scM0 : Memref sig .tc .vmem S4x264x1024 .f32 := Memref.whole cc0_scratch0
abbrev scM1 : Memref sig .tc .vmem S4x8x1024 .f32 := Memref.whole cc0_scratch1
abbrev scM2 : Memref sig .tc .vmem S4x256x1024 .f32 := Memref.whole cc0_scratch2
abbrev scM3 : Memref sig .tc .vmem S4x256x1024 .f32 := Memref.whole cc0_scratch3
abbrev scM4 : Memref sig .tc .vmem S4x256x1024 .f32 := Memref.whole cc0_scratch4

/-- The region's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

end Cert.RgIdeal.Body

end
-- ==== Proof.RgIdeal.RunA.lean ====
/-
  The kernel body run once, at the first point of the grid.
-/
module

public import proofs.«01_k».proof.Proof.RgIdeal.Runs

@[expose] public section

set_option maxRecDepth 16384

noncomputable section

namespace Cert.RgIdeal.Body

open Cert.RgIdeal Cert.RgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One run of the kernel body at the first point, where both carried scratches are zeroed first: from its inputs' blocks `x0` … `x8` and the scratches' contents `xs0` … `xs4`, the pieces it
    leaves in the two outputs and in the two carried scratches (found by the run); the other scratches hold anything after. -/
def runA (c : Dev nD) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S4x256x1024 .bf16) (harg10 : arg10.IsWhole) (arg11 : Memref sig .tc .vmem S4x1x1024 .f32) (harg11 : arg11.IsWhole) (arg12 : Memref sig .tc .vmem S4x264x1024 .f32) (harg12 : arg12.IsWhole) (arg13 : Memref sig .tc .vmem S4x8x1024 .f32) (harg13 : arg13.IsWhole) (arg14 : Memref sig .tc .vmem S4x256x1024 .f32) (harg14 : arg14.IsWhole) (arg15 : Memref sig .tc .vmem S4x256x1024 .f32) (harg15 : arg15.IsWhole) (arg16 : Memref sig .tc .vmem S4x256x1024 .f32) (harg16 : arg16.IsWhole) (hc0 : cond0 i)
  (x0 : Vec F S4x256x1024 .f32)
  (x1 : Vec F S4x256x1024 .f32)
  (x2 : Vec F S4x1024 .f32)
  (x3 : Vec F S1x1024 .f32)
  (x4 : Vec F S4x256x256 .bf16)
  (x5 : Vec F S1x1024 .f32)
  (x6 : Vec F S4x256x256 .bf16)
  (x7 : Vec F S1x1024 .f32)
  (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) :
    Σ' (L10 : List (View.Piece (Elt F) S4x256x1024 .bf16)) (L11 : List (View.Piece (Elt F) S4x1x1024 .f32))
      (LS0 : List (View.Piece (Elt F) S4x264x1024 .f32)), { LS1 : List (View.Piece (Elt F) S4x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rglru_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_rglru_prompt_eq_skeleton]; unfold cc0_rglru_prompt_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg14.eq_unread hf14; obtain rfl := harg15.eq_unread hf15; obtain rfl := harg16.eq_unread hf16
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.RgIdeal.Body

end
-- ==== Proof.RgIdeal.RunB.lean ====
/-
  The kernel body run once, at a later point of the grid.
-/
module

public import proofs.«01_k».proof.Proof.RgIdeal.Runs

@[expose] public section

set_option maxRecDepth 16384

noncomputable section

namespace Cert.RgIdeal.Body

open Cert.RgIdeal Cert.RgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One run of the kernel body at a later point: from its inputs' blocks `x0` … `x8` and the scratches' contents `xs0` … `xs4`, the pieces it
    leaves in the two outputs and in the two carried scratches (found by the run); the other scratches hold anything after. -/
def runB (c : Dev nD) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S4x256x1024 .bf16) (harg10 : arg10.IsWhole) (arg11 : Memref sig .tc .vmem S4x1x1024 .f32) (harg11 : arg11.IsWhole) (arg12 : Memref sig .tc .vmem S4x264x1024 .f32) (harg12 : arg12.IsWhole) (arg13 : Memref sig .tc .vmem S4x8x1024 .f32) (harg13 : arg13.IsWhole) (arg14 : Memref sig .tc .vmem S4x256x1024 .f32) (harg14 : arg14.IsWhole) (arg15 : Memref sig .tc .vmem S4x256x1024 .f32) (harg15 : arg15.IsWhole) (arg16 : Memref sig .tc .vmem S4x256x1024 .f32) (harg16 : arg16.IsWhole) (hc0 : ¬cond0 i)
  (x0 : Vec F S4x256x1024 .f32)
  (x1 : Vec F S4x256x1024 .f32)
  (x2 : Vec F S4x1024 .f32)
  (x3 : Vec F S1x1024 .f32)
  (x4 : Vec F S4x256x256 .bf16)
  (x5 : Vec F S1x1024 .f32)
  (x6 : Vec F S4x256x256 .bf16)
  (x7 : Vec F S1x1024 .f32)
  (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) :
    Σ' (L10 : List (View.Piece (Elt F) S4x256x1024 .bf16)) (L11 : List (View.Piece (Elt F) S4x1x1024 .f32))
      (LS0 : List (View.Piece (Elt F) S4x264x1024 .f32)), { LS1 : List (View.Piece (Elt F) S4x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f LS0) ∗ (arg13.view.loc (c : Thread nD τ) ↦[arg13.view.set]{fullShare} arg13.view.writes (Elt F) (harg13.unread xs1) LS1) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rglru_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_rglru_prompt_eq_skeleton]; unfold cc0_rglru_prompt_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg14.eq_unread hf14; obtain rfl := harg15.eq_unread hf15; obtain rfl := harg16.eq_unread hf16
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexact H13
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.RgIdeal.Body

end
-- ==== Proof.RgIdeal.Loop.lean ====
/-
The rows the kernel's loop computes. Each of its 32 trips takes eight rows of every batch's slab and computes
`h = a * h + b` row by row, carrying the last row of each batch; so after the loop the slab of batch `b` holds the rows of one
recurrence of 256 steps, whatever it held before.
-/
module
public import proofs.«01_k».proof.Proof.RgIdeal.Runs
public import Idealize.ShloMosaic.Lib.Pointwise
public import Idealize.ShloMosaic.Lib.WritesUnit

@[expose] public section

set_option maxRecDepth 16384

noncomputable section

namespace Cert.RgIdeal.Body

open Cert.RgIdeal Cert.RgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row after `r` steps from the row `h`, over the eight rows of the slabs `u` (the factors) and `v` (the summands). -/
def chunk (u v : Vec F S1x8x1024 .f32) (h : FVec F S1x1024 .f32) : ℕ → FVec F S1x1024 .f32
  | 0 => h
  | r + 1 => fun i => FloatOps.addf (FloatOps.mulf (u (ix3 0 ⟨r % 8, Nat.mod_lt _ (by decide)⟩ (i 1))) (chunk u v h r i))
      (v (ix3 0 ⟨r % 8, Nat.mod_lt _ (by decide)⟩ (i 1)))

/-- The row after `n` steps of the recurrence of batch `b` from the row `h`: factors `A`, summands `B`. -/
def hs (A B : Vec F S4x256x1024 .f32) (h : FVec F S1x1024 .f32) (b : Fin 4) : ℕ → FVec F S1x1024 .f32
  | 0 => h
  | n + 1 => fun i => FloatOps.addf (FloatOps.mulf (A (ix3 b ⟨n % 256, Nat.mod_lt _ (by decide)⟩ (i 1))) (hs A B h b n i))
      (B (ix3 b ⟨n % 256, Nat.mod_lt _ (by decide)⟩ (i 1)))

/-- Eight rows read at row `8 k` of the batch are eight steps of its recurrence. -/
theorem chunk_hs (A B : Vec F S4x256x1024 .f32) (h : FVec F S1x1024 .f32) (b : Fin 4) (k : ℕ) (hk : k < 32)
    (u v : Vec F S1x8x1024 .f32)
    (hu : ∀ (r : Fin 8) (d : Fin 1024), u (ix3 0 r d) = A (ix3 b ⟨8 * k + r.val, by omega⟩ d))
    (hv : ∀ (r : Fin 8) (d : Fin 1024), v (ix3 0 r d) = B (ix3 b ⟨8 * k + r.val, by omega⟩ d)) :
    ∀ r, r ≤ 8 → chunk u v (hs A B h b (8 * k)) r = hs A B h b (8 * k + r)
  | 0, _ => rfl
  | r + 1, hr => by
    have e1 : r % 8 = r := Nat.mod_eq_of_lt (by omega)
    have e2 : (8 * k + r) % 256 = 8 * k + r := Nat.mod_eq_of_lt (by omega)
    funext i
    show FloatOps.addf (FloatOps.mulf (u (ix3 0 ⟨r % 8, _⟩ (i 1))) (chunk u v (hs A B h b (8 * k)) r i)) (v (ix3 0 ⟨r % 8, _⟩ (i 1)))
      = FloatOps.addf (FloatOps.mulf (A (ix3 b ⟨(8 * k + r) % 256, _⟩ (i 1))) (hs A B h b (8 * k + r) i)) (B (ix3 b ⟨(8 * k + r) % 256, _⟩ (i 1)))
    simp only [chunk_hs A B h b k hk u v hu hv r (by omega), e1, e2]
    exact congrArg₂ (fun s t => FloatOps.addf (FloatOps.mulf s (hs A B h b (8 * k + r) i)) t) (hu ⟨r, by omega⟩ (i 1)) (hv ⟨r, by omega⟩ (i 1))

theorem last1 (h : FVec F S1x1024 .f32) (u v : Vec F S1x8x1024 .f32) : k0_pay11 h u v = chunk u v h 8 := by
  funext i
  pointwise [k0_pay2, k0_pay3, k0_pay4, k0_pay5, k0_pay6, k0_pay7, k0_pay8, k0_pay9, k0_pay10, k0_pay11, k0_pay12, chunk]

theorem rows1 (h : FVec F S1x1024 .f32) (u v : Vec F S1x8x1024 .f32) (r : Fin 8) (d : Fin 1024) :
    k0_pay12 h u v (ix3 0 r d) = chunk u v h (r.val + 1) (ix2 0 d) := by
  fin_cases r <;> pointwise [k0_pay2, k0_pay3, k0_pay4, k0_pay5, k0_pay6, k0_pay7, k0_pay8, k0_pay9, k0_pay10, k0_pay11, k0_pay12, chunk]

theorem off1 : ∀ k : Fin k0_t1_loop.trips, k0_off1 k = ![0, 8 * k.val, 0] := by decide +kernel

theorem inb1 (k : Fin k0_t1_loop.trips) : ∀ a, k0_off1 k a + S1x8x1024.size a ≤ S4x256x1024.size a := by
  have hk : k.val < 32 := Nat.lt_of_lt_of_le k.isLt k0_t1_abs.2.1
  rw [off1]
  intro a
  fin_cases a <;> simp [S1x8x1024, S4x256x1024] <;> omega

/-- The slab of eight rows read at trip `k`. -/
theorem slab1 {arg : Memref sig .tc .vmem S4x256x1024 .f32} (X : BufTy.Contents (Elt F) arg.view.ty) (k : Fin k0_t1_loop.trips) (hk : k.val < 32)
    (r : Fin 8) (d : Fin 1024) :
    View.readAt (Elt F) arg.view (Rect.unit (s := S4x256x1024) (k0_off1 k) S1x8x1024.size (inb1 k)).toLoadRect X (ix3 0 r d)
      = arg.view.read (Elt F) X (ix3 0 ⟨8 * k.val + r.val, by omega⟩ d) := by
  have hi := off1 k
  rw [View.readAt_apply]
  congr 1
  funext a
  apply Fin.ext
  show k0_off1 k a + 1 * (ix3 (0 : Fin 1) r d a).val = _
  rw [hi]
  fin_cases a <;> simp [ix3]

theorem last2 (h : FVec F S1x1024 .f32) (u v : Vec F S1x8x1024 .f32) : k0_pay22 h (k0_pay13 u) v = chunk u v h 8 := by
  funext i
  pointwise [k0_pay13, k0_pay14, k0_pay15, k0_pay16, k0_pay17, k0_pay18, k0_pay19, k0_pay20, k0_pay21, k0_pay22, k0_pay23, chunk]

theorem rows2 (h : FVec F S1x1024 .f32) (u v : Vec F S1x8x1024 .f32) (r : Fin 8) (d : Fin 1024) :
    k0_pay23 h (k0_pay13 u) v (ix3 0 r d) = chunk u v h (r.val + 1) (ix2 0 d) := by
  fin_cases r <;> pointwise [k0_pay13, k0_pay14, k0_pay15, k0_pay16, k0_pay17, k0_pay18, k0_pay19, k0_pay20, k0_pay21, k0_pay22, k0_pay23, chunk]

theorem off2 : ∀ k : Fin k0_t1_loop.trips, k0_off2 k = ![1, 8 * k.val, 0] := by decide +kernel

theorem inb2 (k : Fin k0_t1_loop.trips) : ∀ a, k0_off2 k a + S1x8x1024.size a ≤ S4x256x1024.size a := by
  have hk : k.val < 32 := Nat.lt_of_lt_of_le k.isLt k0_t1_abs.2.1
  rw [off2]
  intro a
  fin_cases a <;> simp [S1x8x1024, S4x256x1024] <;> omega

/-- The slab of eight rows read at trip `k`. -/
theorem slab2 {arg : Memref sig .tc .vmem S4x256x1024 .f32} (X : BufTy.Contents (Elt F) arg.view.ty) (k : Fin k0_t1_loop.trips) (hk : k.val < 32)
    (r : Fin 8) (d : Fin 1024) :
    View.readAt (Elt F) arg.view (Rect.unit (s := S4x256x1024) (k0_off2 k) S1x8x1024.size (inb2 k)).toLoadRect X (ix3 0 r d)
      = arg.view.read (Elt F) X (ix3 1 ⟨8 * k.val + r.val, by omega⟩ d) := by
  have hi := off2 k
  rw [View.readAt_apply]
  congr 1
  funext a
  apply Fin.ext
  show k0_off2 k a + 1 * (ix3 (0 : Fin 1) r d a).val = _
  rw [hi]
  fin_cases a <;> simp [ix3]

theorem last3 (h : FVec F S1x1024 .f32) (u v : Vec F S1x8x1024 .f32) : k0_pay34 (k0_pay24 u) (k0_pay25 v) (k0_pay27 h u v) = chunk u v h 8 := by
  funext i
  pointwise [k0_pay24, k0_pay25, k0_pay26, k0_pay27, k0_pay28, k0_pay29, k0_pay30, k0_pay31, k0_pay32, k0_pay33, k0_pay34, k0_pay35, chunk]

theorem rows3 (h : FVec F S1x1024 .f32) (u v : Vec F S1x8x1024 .f32) (r : Fin 8) (d : Fin 1024) :
    k0_pay35 (k0_pay24 u) (k0_pay25 v) (k0_pay26 h u v) (k0_pay27 h u v) (ix3 0 r d) = chunk u v h (r.val + 1) (ix2 0 d) := by
  fin_cases r <;> pointwise [k0_pay24, k0_pay25, k0_pay26, k0_pay27, k0_pay28, k0_pay29, k0_pay30, k0_pay31, k0_pay32, k0_pay33, k0_pay34, k0_pay35, chunk]

theorem off3 : ∀ k : Fin k0_t1_loop.trips, k0_off3 k = ![2, 8 * k.val, 0] := by decide +kernel

theorem inb3 (k : Fin k0_t1_loop.trips) : ∀ a, k0_off3 k a + S1x8x1024.size a ≤ S4x256x1024.size a := by
  have hk : k.val < 32 := Nat.lt_of_lt_of_le k.isLt k0_t1_abs.2.1
  rw [off3]
  intro a
  fin_cases a <;> simp [S1x8x1024, S4x256x1024] <;> omega

/-- The slab of eight rows read at trip `k`. -/
theorem slab3 {arg : Memref sig .tc .vmem S4x256x1024 .f32} (X : BufTy.Contents (Elt F) arg.view.ty) (k : Fin k0_t1_loop.trips) (hk : k.val < 32)
    (r : Fin 8) (d : Fin 1024) :
    View.readAt (Elt F) arg.view (Rect.unit (s := S4x256x1024) (k0_off3 k) S1x8x1024.size (inb3 k)).toLoadRect X (ix3 0 r d)
      = arg.view.read (Elt F) X (ix3 2 ⟨8 * k.val + r.val, by omega⟩ d) := by
  have hi := off3 k
  rw [View.readAt_apply]
  congr 1
  funext a
  apply Fin.ext
  show k0_off3 k a + 1 * (ix3 (0 : Fin 1) r d a).val = _
  rw [hi]
  fin_cases a <;> simp [ix3]

theorem last4 (h : FVec F S1x1024 .f32) (u v : Vec F S1x8x1024 .f32) : k0_pay118 (k0_pay36 u) (k0_pay37 v) (k0_pay41 h u v) = chunk u v h 8 := by
  funext i
  pointwise [k0_pay36, k0_pay37, k0_pay38, k0_pay39, k0_pay40, k0_pay41, k0_pay115, k0_pay116, k0_pay117, k0_pay118, k0_pay119, chunk]

theorem rows4 (h : FVec F S1x1024 .f32) (u v : Vec F S1x8x1024 .f32) (r : Fin 8) (d : Fin 1024) :
    k0_pay119 (k0_pay36 u) (k0_pay37 v) (k0_pay38 h u v) (k0_pay39 h u v) (k0_pay40 h u v) (k0_pay41 h u v) (ix3 0 r d) = chunk u v h (r.val + 1) (ix2 0 d) := by
  fin_cases r <;> pointwise [k0_pay36, k0_pay37, k0_pay38, k0_pay39, k0_pay40, k0_pay41, k0_pay115, k0_pay116, k0_pay117, k0_pay118, k0_pay119, chunk]

theorem off4 : ∀ k : Fin k0_t1_loop.trips, k0_off4 k = ![3, 8 * k.val, 0] := by decide +kernel

theorem inb4 (k : Fin k0_t1_loop.trips) : ∀ a, k0_off4 k a + S1x8x1024.size a ≤ S4x256x1024.size a := by
  have hk : k.val < 32 := Nat.lt_of_lt_of_le k.isLt k0_t1_abs.2.1
  rw [off4]
  intro a
  fin_cases a <;> simp [S1x8x1024, S4x256x1024] <;> omega

/-- The slab of eight rows read at trip `k`. -/
theorem slab4 {arg : Memref sig .tc .vmem S4x256x1024 .f32} (X : BufTy.Contents (Elt F) arg.view.ty) (k : Fin k0_t1_loop.trips) (hk : k.val < 32)
    (r : Fin 8) (d : Fin 1024) :
    View.readAt (Elt F) arg.view (Rect.unit (s := S4x256x1024) (k0_off4 k) S1x8x1024.size (inb4 k)).toLoadRect X (ix3 0 r d)
      = arg.view.read (Elt F) X (ix3 3 ⟨8 * k.val + r.val, by omega⟩ d) := by
  have hi := off4 k
  rw [View.readAt_apply]
  congr 1
  funext a
  apply Fin.ext
  show k0_off4 k a + 1 * (ix3 (0 : Fin 1) r d a).val = _
  rw [hi]
  fin_cases a <;> simp [ix3]

section
variable (𝒱 : Variants) (c : Dev nD) (bd : Option 𝒱.V) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S4x256x1024 .bf16) (harg10 : arg10.IsWhole) (arg11 : Memref sig .tc .vmem S4x1x1024 .f32) (harg11 : arg11.IsWhole) (arg12 : Memref sig .tc .vmem S4x264x1024 .f32) (harg12 : arg12.IsWhole) (arg13 : Memref sig .tc .vmem S4x8x1024 .f32) (harg13 : arg13.IsWhole) (arg14 : Memref sig .tc .vmem S4x256x1024 .f32) (harg14 : arg14.IsWhole) (arg15 : Memref sig .tc .vmem S4x256x1024 .f32) (harg15 : arg15.IsWhole) (arg16 : Memref sig .tc .vmem S4x256x1024 .f32) (harg16 : arg16.IsWhole) (v457 : FVec F S1x1024 .f32) (v459 : FVec F S1x1024 .f32) (X14 : BufTy.Contents (Elt F) arg14.view.ty) (X15 : BufTy.Contents (Elt F) arg15.view.ty)

theorem trip_rows (k : Fin k0_t1_loop.trips) (acc : FVec F S1x1024 .f32 × FVec F S1x1024 .f32 × FVec F S1x1024 .f32 × FVec F S1x1024 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 k acc = (chunk (View.readAt (Elt F) arg14.view (Rect.unit (s := S4x256x1024) (k0_off1 k) S1x8x1024.size (inb1 k)).toLoadRect X14) (View.readAt (Elt F) arg15.view (Rect.unit (s := S4x256x1024) (k0_off1 k) S1x8x1024.size (inb1 k)).toLoadRect X15) acc.1 8, chunk (View.readAt (Elt F) arg14.view (Rect.unit (s := S4x256x1024) (k0_off2 k) S1x8x1024.size (inb2 k)).toLoadRect X14) (View.readAt (Elt F) arg15.view (Rect.unit (s := S4x256x1024) (k0_off2 k) S1x8x1024.size (inb2 k)).toLoadRect X15) acc.2.1 8, chunk (View.readAt (Elt F) arg14.view (Rect.unit (s := S4x256x1024) (k0_off3 k) S1x8x1024.size (inb3 k)).toLoadRect X14) (View.readAt (Elt F) arg15.view (Rect.unit (s := S4x256x1024) (k0_off3 k) S1x8x1024.size (inb3 k)).toLoadRect X15) acc.2.2.1 8, chunk (View.readAt (Elt F) arg14.view (Rect.unit (s := S4x256x1024) (k0_off4 k) S1x8x1024.size (inb4 k)).toLoadRect X14) (View.readAt (Elt F) arg15.view (Rect.unit (s := S4x256x1024) (k0_off4 k) S1x8x1024.size (inb4 k)).toLoadRect X15) acc.2.2.2 8) := by
  rw [← last1, ← last2, ← last3, ← last4]
  unfold tripR_k0_t1 trip_k0_t1
  rfl

theorem trip_pieces (k : Fin k0_t1_loop.trips) (acc : FVec F S1x1024 .f32 × FVec F S1x1024 .f32 × FVec F S1x1024 .f32 × FVec F S1x1024 .f32) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 k acc = [⟨Rect.unit (s := S4x256x1024) (k0_off4 k) S1x8x1024.size (inb4 k), k0_pay119 (k0_pay36 (View.readAt (Elt F) arg14.view (Rect.unit (s := S4x256x1024) (k0_off4 k) S1x8x1024.size (inb4 k)).toLoadRect X14)) (k0_pay37 (View.readAt (Elt F) arg15.view (Rect.unit (s := S4x256x1024) (k0_off4 k) S1x8x1024.size (inb4 k)).toLoadRect X15)) (k0_pay38 acc.2.2.2 (View.readAt (Elt F) arg14.view (Rect.unit (s := S4x256x1024) (k0_off4 k) S1x8x1024.size (inb4 k)).toLoadRect X14) (View.readAt (Elt F) arg15.view (Rect.unit (s := S4x256x1024) (k0_off4 k) S1x8x1024.size (inb4 k)).toLoadRect X15)) (k0_pay39 acc.2.2.2 (View.readAt (Elt F) arg14.view (Rect.unit (s := S4x256x1024) (k0_off4 k) S1x8x1024.size (inb4 k)).toLoadRect X14) (View.readAt (Elt F) arg15.view (Rect.unit (s := S4x256x1024) (k0_off4 k) S1x8x1024.size (inb4 k)).toLoadRect X15)) (k0_pay40 acc.2.2.2 (View.readAt (Elt F) arg14.view (Rect.unit (s := S4x256x1024) (k0_off4 k) S1x8x1024.size (inb4 k)).toLoadRect X14) (View.readAt (Elt F) arg15.view (Rect.unit (s := S4x256x1024) (k0_off4 k) S1x8x1024.size (inb4 k)).toLoadRect X15)) (k0_pay41 acc.2.2.2 (View.readAt (Elt F) arg14.view (Rect.unit (s := S4x256x1024) (k0_off4 k) S1x8x1024.size (inb4 k)).toLoadRect X14) (View.readAt (Elt F) arg15.view (Rect.unit (s := S4x256x1024) (k0_off4 k) S1x8x1024.size (inb4 k)).toLoadRect X15))⟩, ⟨Rect.unit (s := S4x256x1024) (k0_off3 k) S1x8x1024.size (inb3 k), k0_pay35 (k0_pay24 (View.readAt (Elt F) arg14.view (Rect.unit (s := S4x256x1024) (k0_off3 k) S1x8x1024.size (inb3 k)).toLoadRect X14)) (k0_pay25 (View.readAt (Elt F) arg15.view (Rect.unit (s := S4x256x1024) (k0_off3 k) S1x8x1024.size (inb3 k)).toLoadRect X15)) (k0_pay26 acc.2.2.1 (View.readAt (Elt F) arg14.view (Rect.unit (s := S4x256x1024) (k0_off3 k) S1x8x1024.size (inb3 k)).toLoadRect X14) (View.readAt (Elt F) arg15.view (Rect.unit (s := S4x256x1024) (k0_off3 k) S1x8x1024.size (inb3 k)).toLoadRect X15)) (k0_pay27 acc.2.2.1 (View.readAt (Elt F) arg14.view (Rect.unit (s := S4x256x1024) (k0_off3 k) S1x8x1024.size (inb3 k)).toLoadRect X14) (View.readAt (Elt F) arg15.view (Rect.unit (s := S4x256x1024) (k0_off3 k) S1x8x1024.size (inb3 k)).toLoadRect X15))⟩, ⟨Rect.unit (s := S4x256x1024) (k0_off2 k) S1x8x1024.size (inb2 k), k0_pay23 acc.2.1 (k0_pay13 (View.readAt (Elt F) arg14.view (Rect.unit (s := S4x256x1024) (k0_off2 k) S1x8x1024.size (inb2 k)).toLoadRect X14)) (View.readAt (Elt F) arg15.view (Rect.unit (s := S4x256x1024) (k0_off2 k) S1x8x1024.size (inb2 k)).toLoadRect X15)⟩, ⟨Rect.unit (s := S4x256x1024) (k0_off1 k) S1x8x1024.size (inb1 k), k0_pay12 acc.1 (View.readAt (Elt F) arg14.view (Rect.unit (s := S4x256x1024) (k0_off1 k) S1x8x1024.size (inb1 k)).toLoadRect X14) (View.readAt (Elt F) arg15.view (Rect.unit (s := S4x256x1024) (k0_off1 k) S1x8x1024.size (inb1 k)).toLoadRect X15)⟩] := by
  unfold tripL_k0_t1 trip_k0_t1
  rfl

/-- The four rows carried after `k` trips: `8 k` steps of each batch's recurrence. -/
theorem st_rows (init : FVec F S1x1024 .f32 × FVec F S1x1024 .f32 × FVec F S1x1024 .f32 × FVec F S1x1024 .f32) : ∀ k, k ≤ 32 →
    (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init k).1
      = (hs (arg14.view.read (Elt F) X14) (arg15.view.read (Elt F) X15) init.1 0 (8 * k), hs (arg14.view.read (Elt F) X14) (arg15.view.read (Elt F) X15) init.2.1 1 (8 * k), hs (arg14.view.read (Elt F) X14) (arg15.view.read (Elt F) X15) init.2.2.1 2 (8 * k), hs (arg14.view.read (Elt F) X14) (arg15.view.read (Elt F) X15) init.2.2.2 3 (8 * k))
  | 0, _ => rfl
  | k + 1, hk => by
    have ht : k < k0_t1_loop.trips := lt_of_lt_of_eq (show k < 32 by omega) (by decide +kernel)
    have hk' : k < 32 := by omega
    have ih := st_rows init k (by omega)
    rw [show k + 1 = (⟨k, ht⟩ : Fin k0_t1_loop.trips).val + 1 from rfl, st_k0_t1_succ]
    show tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 ⟨k, ht⟩ (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init k).1 = _
    rw [ih, trip_rows]
    refine Prod.ext ?_ (Prod.ext ?_ (Prod.ext ?_ ?_))
    · exact chunk_hs _ _ _ 0 k hk' _ _ (fun r d => slab1 X14 ⟨k, ht⟩ hk' r d) (fun r d => slab1 X15 ⟨k, ht⟩ hk' r d) 8 le_rfl
    · exact chunk_hs _ _ _ 1 k hk' _ _ (fun r d => slab2 X14 ⟨k, ht⟩ hk' r d) (fun r d => slab2 X15 ⟨k, ht⟩ hk' r d) 8 le_rfl
    · exact chunk_hs _ _ _ 2 k hk' _ _ (fun r d => slab3 X14 ⟨k, ht⟩ hk' r d) (fun r d => slab3 X15 ⟨k, ht⟩ hk' r d) 8 le_rfl
    · exact chunk_hs _ _ _ 3 k hk' _ _ (fun r d => slab4 X14 ⟨k, ht⟩ hk' r d) (fun r d => slab4 X15 ⟨k, ht⟩ hk' r d) 8 le_rfl

/-- The row of the slab's batch `b` after `k` trips holds the recurrence's value after it, at every row the trips have reached. -/
theorem st_read (init : FVec F S1x1024 .f32 × FVec F S1x1024 .f32 × FVec F S1x1024 .f32 × FVec F S1x1024 .f32) (G : BufTy.Contents (Elt F) arg16.view.ty) : ∀ k, k ≤ 32 → ∀ (b : Fin 4) (n : Fin 256) (d : Fin 1024), n.val < 8 * k →
    arg16.view.read (Elt F) (arg16.view.writes (Elt F) G (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init k).2) (ix3 b n d)
      = hs (arg14.view.read (Elt F) X14) (arg15.view.read (Elt F) X15) (![init.1, init.2.1, init.2.2.1, init.2.2.2] b) b (n.val + 1) (ix2 0 d)
  | 0, _ => fun _ _ _ h => absurd h (by omega)
  | k + 1, hk => by
    intro b n d hn
    have ht : k < k0_t1_loop.trips := lt_of_lt_of_eq (show k < 32 by omega) (by decide +kernel)
    have hk' : k < 32 := by omega
    have ih := st_read init G k (by omega)
    have hr := st_rows  𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init k (by omega)
    rw [show k + 1 = (⟨k, ht⟩ : Fin k0_t1_loop.trips).val + 1 from rfl, st_k0_t1_succ]
    show arg16.view.read (Elt F) (arg16.view.writes (Elt F) G (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 ⟨k, ht⟩ (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init k).1 ++ (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init k).2)) (ix3 b n d) = _
    rw [hr, trip_pieces]
    simp only [List.cons_append, List.nil_append]
    by_cases hlt : n.val < 8 * k
    · rw [View.read_writes_cons_unit_of_not_mem _ _ _ _ _ _ (off4 ⟨k, ht⟩) (1 : Fin 3) (Or.inl hlt), View.read_writes_cons_unit_of_not_mem _ _ _ _ _ _ (off3 ⟨k, ht⟩) (1 : Fin 3) (Or.inl hlt), View.read_writes_cons_unit_of_not_mem _ _ _ _ _ _ (off2 ⟨k, ht⟩) (1 : Fin 3) (Or.inl hlt), View.read_writes_cons_unit_of_not_mem _ _ _ _ _ _ (off1 ⟨k, ht⟩) (1 : Fin 3) (Or.inl hlt)]
      exact ih b n d hlt
    · obtain ⟨r, hrn⟩ : ∃ r : Fin 8, n.val = 8 * k + r.val := ⟨⟨n.val - 8 * k, by omega⟩, by show n.val = 8 * k + (n.val - 8 * k); omega⟩
      fin_cases b
      · rw [View.read_writes_cons_unit_of_not_mem _ _ _ _ _ _ (off4 ⟨k, ht⟩) (0 : Fin 3) (Or.inl (show 0 < 3 by decide))]
        rw [View.read_writes_cons_unit_of_not_mem _ _ _ _ _ _ (off3 ⟨k, ht⟩) (0 : Fin 3) (Or.inl (show 0 < 2 by decide))]
        rw [View.read_writes_cons_unit_of_not_mem _ _ _ _ _ _ (off2 ⟨k, ht⟩) (0 : Fin 3) (Or.inl (show 0 < 1 by decide))]
        rw [View.read_writes_cons_unit_of_mem _ _ _ _ _ _ (ix3 0 r d) (off1 ⟨k, ht⟩) (by intro a; fin_cases a <;> simp [ix3, hrn]), rows1]
        have e := chunk_hs (arg14.view.read (Elt F) X14) (arg15.view.read (Elt F) X15) init.1 0 k hk' _ _ (fun r d => slab1 X14 ⟨k, ht⟩ hk' r d) (fun r d => slab1 X15 ⟨k, ht⟩ hk' r d) (r.val + 1) (by omega)
        rw [show n.val + 1 = 8 * k + (r.val + 1) by omega]
        exact congrFun e (ix2 0 d)
      · rw [View.read_writes_cons_unit_of_not_mem _ _ _ _ _ _ (off4 ⟨k, ht⟩) (0 : Fin 3) (Or.inl (show 1 < 3 by decide))]
        rw [View.read_writes_cons_unit_of_not_mem _ _ _ _ _ _ (off3 ⟨k, ht⟩) (0 : Fin 3) (Or.inl (show 1 < 2 by decide))]
        rw [View.read_writes_cons_unit_of_mem _ _ _ _ _ _ (ix3 0 r d) (off2 ⟨k, ht⟩) (by intro a; fin_cases a <;> simp [ix3, hrn]), rows2]
        have e := chunk_hs (arg14.view.read (Elt F) X14) (arg15.view.read (Elt F) X15) init.2.1 1 k hk' _ _ (fun r d => slab2 X14 ⟨k, ht⟩ hk' r d) (fun r d => slab2 X15 ⟨k, ht⟩ hk' r d) (r.val + 1) (by omega)
        rw [show n.val + 1 = 8 * k + (r.val + 1) by omega]
        exact congrFun e (ix2 0 d)
      · rw [View.read_writes_cons_unit_of_not_mem _ _ _ _ _ _ (off4 ⟨k, ht⟩) (0 : Fin 3) (Or.inl (show 2 < 3 by decide))]
        rw [View.read_writes_cons_unit_of_mem _ _ _ _ _ _ (ix3 0 r d) (off3 ⟨k, ht⟩) (by intro a; fin_cases a <;> simp [ix3, hrn]), rows3]
        have e := chunk_hs (arg14.view.read (Elt F) X14) (arg15.view.read (Elt F) X15) init.2.2.1 2 k hk' _ _ (fun r d => slab3 X14 ⟨k, ht⟩ hk' r d) (fun r d => slab3 X15 ⟨k, ht⟩ hk' r d) (r.val + 1) (by omega)
        rw [show n.val + 1 = 8 * k + (r.val + 1) by omega]
        exact congrFun e (ix2 0 d)
      · rw [View.read_writes_cons_unit_of_mem _ _ _ _ _ _ (ix3 0 r d) (off4 ⟨k, ht⟩) (by intro a; fin_cases a <;> simp [ix3, hrn]), rows4]
        have e := chunk_hs (arg14.view.read (Elt F) X14) (arg15.view.read (Elt F) X15) init.2.2.2 3 k hk' _ _ (fun r d => slab4 X14 ⟨k, ht⟩ hk' r d) (fun r d => slab4 X15 ⟨k, ht⟩ hk' r d) (r.val + 1) (by omega)
        rw [show n.val + 1 = 8 * k + (r.val + 1) by omega]
        exact congrFun e (ix2 0 d)

end

end Cert.RgIdeal.Body
-- ==== Proof.RgIdeal.Pieces.lean ====
/-
What the kernel's body leaves at a grid point: the pieces of each output and of each carried scratch, over the rows of the
recurrence that its loop computes.
-/
module

public import proofs.«01_k».proof.Proof.RgIdeal.RunA
public import proofs.«01_k».proof.Proof.RgIdeal.RunB
public import proofs.«01_k».proof.Proof.RgIdeal.Loop

@[expose] public section

set_option maxRecDepth 16384

noncomputable section

namespace Cert.RgIdeal.Body

open Cert.RgIdeal Cert.RgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A reference to a buffer of the kernel's. -/
local notation "𝕎" => @Memref sig Kind.tc Space.vmem

/-- The rows of one batch after each of the 256 steps, as a slab. -/
def slabOf (row : ℕ → FVec F S1x1024 .f32) : Vec F S1x256x1024 .f32 :=
  fun j => row ((j (1 : Fin 3)).val + 1) (ix2 (0 : Fin 1) (j (2 : Fin 3) : Fin 1024))

section
variable (𝒱 : Variants) (c : Dev nD) (bd : Option 𝒱.V) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (v457 : FVec F S1x1024 .f32) (v459 : FVec F S1x1024 .f32) (X14 : BufTy.Contents (Elt F) arg14.view.ty) (X15 : BufTy.Contents (Elt F) arg15.view.ty)
  (init : FVec F S1x1024 .f32 × FVec F S1x1024 .f32 × FVec F S1x1024 .f32 × FVec F S1x1024 .f32)

theorem trips_eq : Scf.trips k0_t1_loop.lb k0_t1_loop.ub k0_t1_loop.st = 32 := by decide +kernel

/-- The slab of batch 0 read after the loop. -/
theorem st_slab0 (G : BufTy.Contents (Elt F) arg16.view.ty) :
    View.readAt (Elt F) arg16.view (Rect.unit (s := S4x256x1024) ![0, 0, 0] S1x256x1024.size inb_S4x256x1024_S1x256x1024_0_0_0).toLoadRect
      (arg16.view.writes (Elt F) G (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init (Scf.trips k0_t1_loop.lb k0_t1_loop.ub k0_t1_loop.st)).2)
      = slabOf (hs (arg14.view.read (Elt F) X14) (arg15.view.read (Elt F) X15) init.1 0) := by
  funext j
  rw [trips_eq, View.readAt_apply]
  have hi : (Rect.unit (s := S4x256x1024) ![0, 0, 0] S1x256x1024.size inb_S4x256x1024_S1x256x1024_0_0_0).toLoadRect.idx j
      = (ix3 (0 : Fin 4) (j (1 : Fin 3) : Fin 256) (j (2 : Fin 3) : Fin 1024) : S4x256x1024.Idx) := by
    funext a
    apply Fin.ext
    fin_cases a
    · show 0 + 1 * (j (0 : Fin 3)).val = 0
      have : (j (0 : Fin 3)).val < 1 := (j (0 : Fin 3)).isLt
      omega
    · show 0 + 1 * (j (1 : Fin 3)).val = (j (1 : Fin 3)).val
      omega
    · show 0 + 1 * (j (2 : Fin 3)).val = (j (2 : Fin 3)).val
      omega
  rw [hi]
  exact st_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init G 32 le_rfl 0 (j (1 : Fin 3)) (j (2 : Fin 3)) (j (1 : Fin 3)).isLt

/-- The slab of batch 1 read after the loop. -/
theorem st_slab1 (G : BufTy.Contents (Elt F) arg16.view.ty) :
    View.readAt (Elt F) arg16.view (Rect.unit (s := S4x256x1024) ![1, 0, 0] S1x256x1024.size inb_S4x256x1024_S1x256x1024_1_0_0).toLoadRect
      (arg16.view.writes (Elt F) G (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init (Scf.trips k0_t1_loop.lb k0_t1_loop.ub k0_t1_loop.st)).2)
      = slabOf (hs (arg14.view.read (Elt F) X14) (arg15.view.read (Elt F) X15) init.2.1 1) := by
  funext j
  rw [trips_eq, View.readAt_apply]
  have hi : (Rect.unit (s := S4x256x1024) ![1, 0, 0] S1x256x1024.size inb_S4x256x1024_S1x256x1024_1_0_0).toLoadRect.idx j
      = (ix3 (1 : Fin 4) (j (1 : Fin 3) : Fin 256) (j (2 : Fin 3) : Fin 1024) : S4x256x1024.Idx) := by
    funext a
    apply Fin.ext
    fin_cases a
    · show 1 + 1 * (j (0 : Fin 3)).val = 1
      have : (j (0 : Fin 3)).val < 1 := (j (0 : Fin 3)).isLt
      omega
    · show 0 + 1 * (j (1 : Fin 3)).val = (j (1 : Fin 3)).val
      omega
    · show 0 + 1 * (j (2 : Fin 3)).val = (j (2 : Fin 3)).val
      omega
  rw [hi]
  exact st_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init G 32 le_rfl 1 (j (1 : Fin 3)) (j (2 : Fin 3)) (j (1 : Fin 3)).isLt

/-- The slab of batch 2 read after the loop. -/
theorem st_slab2 (G : BufTy.Contents (Elt F) arg16.view.ty) :
    View.readAt (Elt F) arg16.view (Rect.unit (s := S4x256x1024) ![2, 0, 0] S1x256x1024.size inb_S4x256x1024_S1x256x1024_2_0_0).toLoadRect
      (arg16.view.writes (Elt F) G (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init (Scf.trips k0_t1_loop.lb k0_t1_loop.ub k0_t1_loop.st)).2)
      = slabOf (hs (arg14.view.read (Elt F) X14) (arg15.view.read (Elt F) X15) init.2.2.1 2) := by
  funext j
  rw [trips_eq, View.readAt_apply]
  have hi : (Rect.unit (s := S4x256x1024) ![2, 0, 0] S1x256x1024.size inb_S4x256x1024_S1x256x1024_2_0_0).toLoadRect.idx j
      = (ix3 (2 : Fin 4) (j (1 : Fin 3) : Fin 256) (j (2 : Fin 3) : Fin 1024) : S4x256x1024.Idx) := by
    funext a
    apply Fin.ext
    fin_cases a
    · show 2 + 1 * (j (0 : Fin 3)).val = 2
      have : (j (0 : Fin 3)).val < 1 := (j (0 : Fin 3)).isLt
      omega
    · show 0 + 1 * (j (1 : Fin 3)).val = (j (1 : Fin 3)).val
      omega
    · show 0 + 1 * (j (2 : Fin 3)).val = (j (2 : Fin 3)).val
      omega
  rw [hi]
  exact st_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init G 32 le_rfl 2 (j (1 : Fin 3)) (j (2 : Fin 3)) (j (1 : Fin 3)).isLt

/-- The slab of batch 3 read after the loop. -/
theorem st_slab3 (G : BufTy.Contents (Elt F) arg16.view.ty) :
    View.readAt (Elt F) arg16.view (Rect.unit (s := S4x256x1024) ![3, 0, 0] S1x256x1024.size inb_S4x256x1024_S1x256x1024_3_0_0).toLoadRect
      (arg16.view.writes (Elt F) G (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init (Scf.trips k0_t1_loop.lb k0_t1_loop.ub k0_t1_loop.st)).2)
      = slabOf (hs (arg14.view.read (Elt F) X14) (arg15.view.read (Elt F) X15) init.2.2.2 3) := by
  funext j
  rw [trips_eq, View.readAt_apply]
  have hi : (Rect.unit (s := S4x256x1024) ![3, 0, 0] S1x256x1024.size inb_S4x256x1024_S1x256x1024_3_0_0).toLoadRect.idx j
      = (ix3 (3 : Fin 4) (j (1 : Fin 3) : Fin 256) (j (2 : Fin 3) : Fin 1024) : S4x256x1024.Idx) := by
    funext a
    apply Fin.ext
    fin_cases a
    · show 3 + 1 * (j (0 : Fin 3)).val = 3
      have : (j (0 : Fin 3)).val < 1 := (j (0 : Fin 3)).isLt
      omega
    · show 0 + 1 * (j (1 : Fin 3)).val = (j (1 : Fin 3)).val
      omega
    · show 0 + 1 * (j (2 : Fin 3)).val = (j (2 : Fin 3)).val
      omega
  rw [hi]
  exact st_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init G 32 le_rfl 3 (j (1 : Fin 3)) (j (2 : Fin 3)) (j (1 : Fin 3)).isLt

/-- The rows carried out of the loop. -/
theorem st_last : (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init (Scf.trips k0_t1_loop.lb k0_t1_loop.ub k0_t1_loop.st)).1
    = (hs (arg14.view.read (Elt F) X14) (arg15.view.read (Elt F) X15) init.1 0 256, hs (arg14.view.read (Elt F) X14) (arg15.view.read (Elt F) X15) init.2.1 1 256, hs (arg14.view.read (Elt F) X14) (arg15.view.read (Elt F) X15) init.2.2.1 2 256, hs (arg14.view.read (Elt F) X14) (arg15.view.read (Elt F) X15) init.2.2.2 3 256) := by
  rw [trips_eq]
  exact st_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v457 v459 X14 X15 init 32 le_rfl

end

/-! ## At the first point -/

/-- The factors the loop reads. -/
def facA (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : Vec F S4x256x1024 .f32 := arg14.view.read (Elt F) (arg14.view.writes (Elt F) arg14.view.junk (runA.sl.H14_4 c arg1 harg1 arg3 harg3 arg4 harg4 arg5 harg5 arg6 harg6 arg9 harg9 arg12 x0 x2 x3 x4 x5 x8))

/-- The summands the loop reads. -/
def addA (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : Vec F S4x256x1024 .f32 := arg15.view.read (Elt F) (arg15.view.writes (Elt F) arg15.view.junk (runA.sl.H15_4 c arg1 harg1 arg3 harg3 arg4 harg4 arg5 harg5 arg6 harg6 arg7 harg7 arg8 harg8 arg9 harg9 arg12 x0 x2 x3 x4 x5 x6 x7 x8))

/-- The row of batch 0 after `n` steps. -/
def rowA0 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : ℕ → FVec F S1x1024 .f32 := hs (facA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (addA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (runA.sl.r_40 c arg13) 0

/-- The row of batch 1 after `n` steps. -/
def rowA1 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : ℕ → FVec F S1x1024 .f32 := hs (facA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (addA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (runA.sl.r_41 c arg13) 1

/-- The row of batch 2 after `n` steps. -/
def rowA2 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : ℕ → FVec F S1x1024 .f32 := hs (facA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (addA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (k0_pay113 (runA.sl.v460 c arg13)) 2

/-- The row of batch 3 after `n` steps. -/
def rowA3 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : ℕ → FVec F S1x1024 .f32 := hs (facA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (addA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) (k0_pay114 (runA.sl.v462 c arg13)) 3

/-- The second output's four pieces, from the batches' last rows. -/
def lastRows (h0 h1 h2 h3 : FVec F S1x1024 .f32) : List (View.Piece (Elt F) S4x1x1024 .f32) :=
  [⟨Rect.unit (s := S4x1x1024) ![3, 0, 0] S1x1x1024.size inb_S4x1x1024_S1x1x1024_3_0_0, k0_pay131 h3⟩, ⟨Rect.unit (s := S4x1x1024) ![2, 0, 0] S1x1x1024.size inb_S4x1x1024_S1x1x1024_2_0_0, k0_pay128 h2⟩, ⟨Rect.unit (s := S4x1x1024) ![1, 0, 0] S1x1x1024.size inb_S4x1x1024_S1x1x1024_1_0_0, k0_pay125 h1⟩, ⟨Rect.unit (s := S4x1x1024) ![0, 0, 0] S1x1x1024.size inb_S4x1x1024_S1x1x1024_0_0_0, k0_pay121 h0⟩]

/-- The carried scratch's four pieces, from the batches' last rows. -/
def keptRows (h0 h1 h2 h3 : FVec F S1x1024 .f32) : List (View.Piece (Elt F) S4x8x1024 .f32) :=
  [⟨Rect.unit (s := S4x8x1024) ![3, 0, 0] S1x1x1024.size inb_S4x8x1024_S1x1x1024_3_0_0, k0_pay130 h3⟩, ⟨Rect.unit (s := S4x8x1024) ![2, 0, 0] S1x1x1024.size inb_S4x8x1024_S1x1x1024_2_0_0, k0_pay127 h2⟩, ⟨Rect.unit (s := S4x8x1024) ![1, 0, 0] S1x1x1024.size inb_S4x8x1024_S1x1x1024_1_0_0, k0_pay124 h1⟩, ⟨Rect.unit (s := S4x8x1024) ![0, 0, 0] S1x1x1024.size inb_S4x8x1024_S1x1x1024_0_0_0, k0_pay120 h0⟩]

/-- The first output's four pieces, from the rows of the four batches. -/
def layout (arg2 : 𝕎 S4x256x1024 .f32) (harg2 : arg2.IsWhole) (x1 : Vec F S4x256x1024 .f32) (s0 s1 s2 s3 : Vec F S1x256x1024 .f32) : List (View.Piece (Elt F) S4x256x1024 .bf16) :=
  [⟨Rect.unit (s := S4x256x1024) ![3, 0, 0] S1x256x1024.size inb_S4x256x1024_S1x256x1024_3_0_0, k0_pay1 (View.readAt (Elt F) arg2.view (Rect.unit (s := S4x256x1024) ![3, 0, 0] S1x256x1024.size inb_S4x256x1024_S1x256x1024_3_0_0).toLoadRect (harg2.unread x1)) s3⟩, ⟨Rect.unit (s := S4x256x1024) ![2, 0, 0] S1x256x1024.size inb_S4x256x1024_S1x256x1024_2_0_0, k0_pay129 (View.readAt (Elt F) arg2.view (Rect.unit (s := S4x256x1024) ![2, 0, 0] S1x256x1024.size inb_S4x256x1024_S1x256x1024_2_0_0).toLoadRect (harg2.unread x1)) s2⟩, ⟨Rect.unit (s := S4x256x1024) ![1, 0, 0] S1x256x1024.size inb_S4x256x1024_S1x256x1024_1_0_0, k0_pay126 (View.readAt (Elt F) arg2.view (Rect.unit (s := S4x256x1024) ![1, 0, 0] S1x256x1024.size inb_S4x256x1024_S1x256x1024_1_0_0).toLoadRect (harg2.unread x1)) s1⟩, ⟨Rect.unit (s := S4x256x1024) ![0, 0, 0] S1x256x1024.size inb_S4x256x1024_S1x256x1024_0_0_0, k0_pay123 (k0_pay122 (View.readAt (Elt F) arg2.view (Rect.unit (s := S4x256x1024) ![0, 0, 0] S1x256x1024.size inb_S4x256x1024_S1x256x1024_0_0_0).toLoadRect (harg2.unread x1)) s0)⟩]

def piecesA_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : List (View.Piece (Elt F) S4x256x1024 .bf16) :=
  layout arg2 harg2 x1 (slabOf (rowA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)) (slabOf (rowA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)) (slabOf (rowA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)) (slabOf (rowA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8))

def piecesA_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : List (View.Piece (Elt F) S4x1x1024 .f32) :=
  lastRows (rowA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256) (rowA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256) (rowA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256) (rowA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256)

def piecesA_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : List (View.Piece (Elt F) S4x264x1024 .f32) :=
  runA.sl.H12_9 c arg1 harg1 arg12 x0

def piecesA_hc (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : List (View.Piece (Elt F) S4x8x1024 .f32) :=
  keptRows (rowA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256) (rowA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256) (rowA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256) (rowA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256) ++ [⟨Rect.unit (s := S4x8x1024) ![0, 0, 0] S4x8x1024.size inb_S4x8x1024_S4x8x1024_0_0_0, k0_pay43⟩]

theorem vA0 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runA.sl.v487 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4 = slabOf (rowA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) :=
  st_slab0 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem vA1 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runA.sl.v515 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4 = slabOf (rowA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) :=
  st_slab1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem vA2 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runA.sl.v543 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4 = slabOf (rowA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) :=
  st_slab2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem vA3 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runA.sl.v571 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4 = slabOf (rowA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) :=
  st_slab3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem listA_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).1 = piecesA_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 := by
  refine Eq.trans (b := layout arg2 harg2 x1 (runA.sl.v487 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4) (runA.sl.v515 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4) (runA.sl.v543 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4) (runA.sl.v571 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs4)) ?_ ?_
  · unfold runA; rfl
  · exact congr (congr (congr (congrArg (layout arg2 harg2 x1) (vA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)) (vA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)) (vA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)) (vA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)

theorem listA_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).2.1 = piecesA_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 := by
  have e := st_last Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (runA.sl.r_40 c arg13) (runA.sl.r_41 c arg13) (arg14.view.writes (Elt F) arg14.view.junk (runA.sl.H14_4 c arg1 harg1 arg3 harg3 arg4 harg4 arg5 harg5 arg6 harg6 arg9 harg9 arg12 x0 x2 x3 x4 x5 x8)) (arg15.view.writes (Elt F) arg15.view.junk (runA.sl.H15_4 c arg1 harg1 arg3 harg3 arg4 harg4 arg5 harg5 arg6 harg6 arg7 harg7 arg8 harg8 arg9 harg9 arg12 x0 x2 x3 x4 x5 x6 x7 x8)) ((runA.sl.r_40 c arg13), (runA.sl.r_41 c arg13), (k0_pay113 (runA.sl.v460 c arg13)), (k0_pay114 (runA.sl.v462 c arg13)))
  have e0 : _ = rowA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.1) e
  have e1 : _ = rowA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.2.1) e
  have e2 : _ = rowA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.2.2.1) e
  have e3 : _ = rowA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.2.2.2) e
  have q := congr (congr (congr (congrArg (lastRows (F := F)) e0) e1) e2) e3
  refine Eq.trans ?_ q
  unfold runA; rfl

theorem listA_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).2.2.1 = piecesA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 := by
  rfl

theorem listA_hc (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).2.2.2.1 = piecesA_hc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 := by
  have e := st_last Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (runA.sl.r_40 c arg13) (runA.sl.r_41 c arg13) (arg14.view.writes (Elt F) arg14.view.junk (runA.sl.H14_4 c arg1 harg1 arg3 harg3 arg4 harg4 arg5 harg5 arg6 harg6 arg9 harg9 arg12 x0 x2 x3 x4 x5 x8)) (arg15.view.writes (Elt F) arg15.view.junk (runA.sl.H15_4 c arg1 harg1 arg3 harg3 arg4 harg4 arg5 harg5 arg6 harg6 arg7 harg7 arg8 harg8 arg9 harg9 arg12 x0 x2 x3 x4 x5 x6 x7 x8)) ((runA.sl.r_40 c arg13), (runA.sl.r_41 c arg13), (k0_pay113 (runA.sl.v460 c arg13)), (k0_pay114 (runA.sl.v462 c arg13)))
  have e0 : _ = rowA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.1) e
  have e1 : _ = rowA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.2.1) e
  have e2 : _ = rowA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.2.2.1) e
  have e3 : _ = rowA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 256 := congrArg (fun p => p.2.2.2) e
  have q := congr (congr (congr (congrArg (fun a b c d => keptRows a b c d ++ [⟨Rect.unit (s := S4x8x1024) ![0, 0, 0] S4x8x1024.size inb_S4x8x1024_S4x8x1024_0_0_0, k0_pay43⟩]) e0) e1) e2) e3
  refine Eq.trans ?_ q
  unfold runA; rfl

/-! ## At a later point -/

/-- The factors the loop reads. -/
def facB (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : Vec F S4x256x1024 .f32 := arg14.view.read (Elt F) (arg14.view.writes (Elt F) arg14.view.junk (runB.sl.H14_4 c arg1 harg1 arg3 harg3 arg4 harg4 arg5 harg5 arg6 harg6 arg9 harg9 arg12 harg12 x0 x2 x3 x4 x5 x8 xs0))

/-- The summands the loop reads. -/
def addB (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : Vec F S4x256x1024 .f32 := arg15.view.read (Elt F) (arg15.view.writes (Elt F) arg15.view.junk (runB.sl.H15_4 c arg1 harg1 arg3 harg3 arg4 harg4 arg5 harg5 arg6 harg6 arg7 harg7 arg8 harg8 arg9 harg9 arg12 harg12 x0 x2 x3 x4 x5 x6 x7 x8 xs0))

/-- The row of batch 0 after `n` steps. -/
def rowB0 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : ℕ → FVec F S1x1024 .f32 := hs (facB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (addB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (runB.sl.r_40 c arg13 harg13 xs1) 0

/-- The row of batch 1 after `n` steps. -/
def rowB1 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : ℕ → FVec F S1x1024 .f32 := hs (facB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (addB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (runB.sl.r_41 c arg13 harg13 xs1) 1

/-- The row of batch 2 after `n` steps. -/
def rowB2 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : ℕ → FVec F S1x1024 .f32 := hs (facB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (addB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (k0_pay113 (View.readAt (Elt F) arg13.view (Rect.unit (s := S4x8x1024) ![2, 0, 0] S1x1x1024.size inb_S4x8x1024_S1x1x1024_2_0_0).toLoadRect (harg13.unread xs1))) 2

/-- The row of batch 3 after `n` steps. -/
def rowB3 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : ℕ → FVec F S1x1024 .f32 := hs (facB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (addB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) (k0_pay114 (View.readAt (Elt F) arg13.view (Rect.unit (s := S4x8x1024) ![3, 0, 0] S1x1x1024.size inb_S4x8x1024_S1x1x1024_3_0_0).toLoadRect (harg13.unread xs1))) 3

def piecesB_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : List (View.Piece (Elt F) S4x256x1024 .bf16) :=
  layout arg2 harg2 x1 (slabOf (rowB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1)) (slabOf (rowB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1)) (slabOf (rowB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1)) (slabOf (rowB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1))

def piecesB_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : List (View.Piece (Elt F) S4x1x1024 .f32) :=
  lastRows (rowB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256) (rowB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256) (rowB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256) (rowB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256)

def piecesB_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : List (View.Piece (Elt F) S4x264x1024 .f32) :=
  runB.sl.H12_8 c arg1 harg1 arg12 x0

def piecesB_hc (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : List (View.Piece (Elt F) S4x8x1024 .f32) :=
  keptRows (rowB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256) (rowB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256) (rowB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256) (rowB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256)

theorem vB0 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runB.sl.v487 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4 = slabOf (rowB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) :=
  st_slab0 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem vB1 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runB.sl.v515 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4 = slabOf (rowB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) :=
  st_slab1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem vB2 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runB.sl.v543 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4 = slabOf (rowB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) :=
  st_slab2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem vB3 (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : runB.sl.v571 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4 = slabOf (rowB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) :=
  st_slab3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _

theorem listB_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).1 = piecesB_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 := by
  refine Eq.trans (b := layout arg2 harg2 x1 (runB.sl.v487 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4) (runB.sl.v515 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4) (runB.sl.v543 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4) (runB.sl.v571 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 x5 x6 x7 x8 xs0 xs1 xs4)) ?_ ?_
  · unfold runB; rfl
  · exact congr (congr (congr (congrArg (layout arg2 harg2 x1) (vB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)) (vB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)) (vB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)) (vB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4)

theorem listB_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).2.1 = piecesB_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 := by
  have e := st_last Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (runB.sl.r_40 c arg13 harg13 xs1) (runB.sl.r_41 c arg13 harg13 xs1) (arg14.view.writes (Elt F) arg14.view.junk (runB.sl.H14_4 c arg1 harg1 arg3 harg3 arg4 harg4 arg5 harg5 arg6 harg6 arg9 harg9 arg12 harg12 x0 x2 x3 x4 x5 x8 xs0)) (arg15.view.writes (Elt F) arg15.view.junk (runB.sl.H15_4 c arg1 harg1 arg3 harg3 arg4 harg4 arg5 harg5 arg6 harg6 arg7 harg7 arg8 harg8 arg9 harg9 arg12 harg12 x0 x2 x3 x4 x5 x6 x7 x8 xs0)) ((runB.sl.r_40 c arg13 harg13 xs1), (runB.sl.r_41 c arg13 harg13 xs1), (k0_pay113 (View.readAt (Elt F) arg13.view (Rect.unit (s := S4x8x1024) ![2, 0, 0] S1x1x1024.size inb_S4x8x1024_S1x1x1024_2_0_0).toLoadRect (harg13.unread xs1))), (k0_pay114 (View.readAt (Elt F) arg13.view (Rect.unit (s := S4x8x1024) ![3, 0, 0] S1x1x1024.size inb_S4x8x1024_S1x1x1024_3_0_0).toLoadRect (harg13.unread xs1))))
  have e0 : _ = rowB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.1) e
  have e1 : _ = rowB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.2.1) e
  have e2 : _ = rowB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.2.2.1) e
  have e3 : _ = rowB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.2.2.2) e
  have q := congr (congr (congr (congrArg (lastRows (F := F)) e0) e1) e2) e3
  refine Eq.trans ?_ q
  unfold runB; rfl

theorem listB_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).2.2.1 = piecesB_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 := by
  rfl

theorem listB_hc (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole) (hc0 : ¬cond0 i) (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (xs2 : Vec F S4x256x1024 .f32) (xs3 : Vec F S4x256x1024 .f32) (xs4 : Vec F S4x256x1024 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 xs4).2.2.2.1 = piecesB_hc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 := by
  have e := st_last Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (runB.sl.r_40 c arg13 harg13 xs1) (runB.sl.r_41 c arg13 harg13 xs1) (arg14.view.writes (Elt F) arg14.view.junk (runB.sl.H14_4 c arg1 harg1 arg3 harg3 arg4 harg4 arg5 harg5 arg6 harg6 arg9 harg9 arg12 harg12 x0 x2 x3 x4 x5 x8 xs0)) (arg15.view.writes (Elt F) arg15.view.junk (runB.sl.H15_4 c arg1 harg1 arg3 harg3 arg4 harg4 arg5 harg5 arg6 harg6 arg7 harg7 arg8 harg8 arg9 harg9 arg12 harg12 x0 x2 x3 x4 x5 x6 x7 x8 xs0)) ((runB.sl.r_40 c arg13 harg13 xs1), (runB.sl.r_41 c arg13 harg13 xs1), (k0_pay113 (View.readAt (Elt F) arg13.view (Rect.unit (s := S4x8x1024) ![2, 0, 0] S1x1x1024.size inb_S4x8x1024_S1x1x1024_2_0_0).toLoadRect (harg13.unread xs1))), (k0_pay114 (View.readAt (Elt F) arg13.view (Rect.unit (s := S4x8x1024) ![3, 0, 0] S1x1x1024.size inb_S4x8x1024_S1x1x1024_3_0_0).toLoadRect (harg13.unread xs1))))
  have e0 : _ = rowB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.1) e
  have e1 : _ = rowB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.2.1) e
  have e2 : _ = rowB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.2.2.1) e
  have e3 : _ = rowB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 256 := congrArg (fun p => p.2.2.2) e
  have q := congr (congr (congr (congrArg (keptRows (F := F)) e0) e1) e2) e3
  refine Eq.trans ?_ q
  unfold runB; rfl

end Cert.RgIdeal.Body

end
-- ==== Proof.RgIdeal.Gates.lean ====
/-
  The gates of the recurrence at one position, over real numbers: the convolution, the two gates' sums and what they make
  of the decay and of the input.
-/
module

public import proofs.«01_k».proof.Proof.Gen.RgIdeal.Skeleton
public import Idealize.ShloMosaic.Lib.Pointwise

@[expose] public section

set_option maxRecDepth 16384

noncomputable section

namespace Cert.RgIdeal.Body

open Cert.RgIdeal Cert.RgIdeal.Gen
open Idealize.ShloMosaic Idealize.ShloMosaic.TcCoe

/-! ## The scalars -/

/-- The convolution at one channel: the bias, then the four taps, `u` the newest and `t1` the oldest. -/
def convAt (x2 : FVec Ideal S4x1024 .f32) (x3 : FVec Ideal S1x1024 .f32) (d : Fin 1024) (u t1 t2 t3 : EReal) : EReal :=
  x3 (ix2 (0 : Fin 1) d) + x2 (ix2 (3 : Fin 4) d) * u + x2 (ix2 (0 : Fin 4) d) * t1 + x2 (ix2 (1 : Fin 4) d) * t2 + x2 (ix2 (2 : Fin 4) d) * t3

/-- One gate's sum at channel `d`: over the 256 channels of the block that `d` lies in. -/
def gateSum (X : Fin 1024 → EReal) (W : FVec Ideal S4x256x256 .bf16) (d : Fin 1024) : EReal :=
  ∑ k : Fin 256, X ⟨d.val / 256 * 256 + k.val, by omega⟩ * W (ix3 (⟨d.val / 256, by omega⟩ : Fin 4) k (⟨d.val % 256, by omega⟩ : Fin 256))

/-- The logarithm of the decay, from the gate's sum, its bias and the channel's parameter. -/
def logDecay (g ba lam : EReal) : EReal :=
  Ideal.ofBits .f32 3238002688#32 * Ideal.logistic (g + ba) * (max (-lam) 0 + Ideal.log1p (Ideal.exp (-FloatOps.absf (F := Ideal) (φ := .f32) (-lam))))

/-- The input's share of the new value: from the decay's logarithm, the other gate's sum, its bias and the input. -/
def inputShare (L g bi x : EReal) : EReal :=
  Ideal.sqrt (-(Ideal.exp (Ideal.ofBits .f32 1073741824#32 * L) - 1)) * (Ideal.logistic (g + bi) * x)

theorem two_eq : Ideal.ofBits .f32 1073741824#32 = (2 : EReal) := by
  norm_num [Ideal.ofBits, Ideal.ieee]
  have h : (1073741824 >>> 23 % 256 : ℕ) = 128 := by decide
  have h' : ¬BitVec.extractLsb' 31 1 1073741824#32 = 1#1 := by decide
  have h2 : ((1073741824 : ℤ) >>> (23 : ℕ) % 256) = 128 := by decide
  simp only [h, h2, if_neg h']
  norm_num
  rfl

/-- `1 - exp (2 L)`, from the hyperbolic tangent and the square of `exp L`. -/
theorem tanh_form (L : EReal) : -Ideal.tanh L * (Ideal.exp L * Ideal.exp L + 1) = -(Ideal.exp (Ideal.ofBits .f32 1073741824#32 * L) - 1) := by
  rw [two_eq]
  induction L using EReal.rec with
  | bot =>
    have h1 : Ideal.tanh (⊥ : EReal) = -1 := rfl
    have h2 : Ideal.exp (⊥ : EReal) = 0 := rfl
    have h3 : (2 : EReal) * ⊥ = ⊥ := EReal.mul_bot_of_pos (by norm_num)
    rw [h3, h1, h2]
    norm_num
  | top =>
    have h1 : Ideal.tanh (⊤ : EReal) = 1 := rfl
    have h2 : Ideal.exp (⊤ : EReal) = ⊤ := rfl
    have h3 : (2 : EReal) * ⊤ = ⊤ := EReal.mul_top_of_pos (by norm_num)
    rw [h3, h1, h2]
    have h4 : (⊤ : EReal) * ⊤ = ⊤ := rfl
    have h5 : (⊤ : EReal) + 1 = ⊤ := rfl
    have h6 : (⊤ : EReal) - 1 = ⊤ := rfl
    rw [h4, h5, h6]
    rw [EReal.neg_mul, one_mul]
  | coe r =>
    have h1 : Ideal.tanh (r : EReal) = ((Real.tanh r : ℝ) : EReal) := rfl
    have h2 : ∀ q : ℝ, Ideal.exp (q : EReal) = ((Real.exp q : ℝ) : EReal) := fun _ => rfl
    have h3 : (2 : EReal) * (r : EReal) = ((2 * r : ℝ) : EReal) := by push_cast; rfl
    rw [h3, h1, h2, h2]
    have key : -Real.tanh r * (Real.exp r * Real.exp r + 1) = -(Real.exp (2 * r) - 1) := by
      have he : Real.exp (2 * r) = Real.exp r * Real.exp r := by rw [two_mul, Real.exp_add]
      have hp : Real.exp r ≠ 0 := Real.exp_ne_zero r
      rw [he, Real.tanh_eq_sinh_div_cosh, Real.sinh_eq, Real.cosh_eq, Real.exp_neg]
      have hq : Real.exp r + (Real.exp r)⁻¹ ≠ 0 := by positivity
      field_simp
    have := congrArg (fun q : ℝ => (q : EReal)) key
    push_cast at this
    exact this

/-! ## The payloads -/

theorem conv_at (x2 : FVec Ideal S4x1024 .f32) (x3 : FVec Ideal S1x1024 .f32) (u t1 t2 t3 : FVec Ideal S1x256x1024 .f32) (n : Fin 256) (d : Fin 1024) :
    k0_pay46 (F := Ideal) x2 u x3 t1 t2 t3 (ix2 n d)
      = convAt x2 x3 d (u (ix3 (0 : Fin 1) n d)) (t1 (ix3 (0 : Fin 1) n d)) (t2 (ix3 (0 : Fin 1) n d)) (t3 (ix3 (0 : Fin 1) n d)) := by
  unfold convAt
  pointwise [k0_pay46, k0_pay44]

/-- A block of the packed weights, as read. -/
def Block (W : FVec Ideal S4x256x256 .bf16) (w : FVec Ideal S1x256x256 .bf16) (i : Fin 4) : Prop :=
  ∀ k e : Fin 256, w (ix3 (0 : Fin 1) k e) = W (ix3 i k e)

variable (X : FVec Ideal S256x1024 .f32) {W : FVec Ideal S4x256x256 .bf16} {w0 w1 w2 w3 : FVec Ideal S1x256x256 .bf16}

theorem gate_at (h0 : Block W w0 0) (h1 : Block W w1 1) (h2 : Block W w2 2) (h3 : Block W w3 3) (n : Fin 256) (d : Fin 1024) :
    k0_pay49 (F := Ideal) X w0 w1 w2 w3 (ix2 n d) = gateSum (fun e => X (ix2 n e)) W d := by
  have e : k0_pay49 (F := Ideal) X w0 w1 w2 w3 (ix2 n d) =
      (if h : d.val < 256 then ∑ x : Fin 256, X (ix2 n (⟨x.val, by omega⟩ : Fin 1024)) * w0 (ix3 (0 : Fin 1) x (⟨d.val, h⟩ : Fin 256))
       else if h : d.val - 256 < 256 then ∑ x : Fin 256, X (ix2 n (⟨256 + x.val, by omega⟩ : Fin 1024)) * w1 (ix3 (0 : Fin 1) x (⟨d.val - 256, h⟩ : Fin 256))
       else if h : d.val - 256 - 256 < 256 then ∑ x : Fin 256, X (ix2 n (⟨512 + x.val, by omega⟩ : Fin 1024)) * w2 (ix3 (0 : Fin 1) x (⟨d.val - 256 - 256, h⟩ : Fin 256))
       else ∑ x : Fin 256, X (ix2 n (⟨768 + x.val, by omega⟩ : Fin 1024)) * w3 (ix3 (0 : Fin 1) x (⟨d.val - 256 - 256 - 256, by omega⟩ : Fin 256))) := by
    pointwise [k0_pay49, k0_pay48]
  rw [e]
  unfold gateSum
  have hX : ∀ (a b : Fin 1024), a.val = b.val → X (ix2 n a) = X (ix2 n b) := fun a b hab => by rw [Fin.ext hab]
  have hW : ∀ (i j : Fin 4) (k p q : Fin 256), i.val = j.val → p.val = q.val → W (ix3 i k p) = W (ix3 j k q) := fun i j k p q hi hp => by
    rw [Fin.ext hi, Fin.ext hp]
  split_ifs with a1 a2 a3
  · refine Finset.sum_congr rfl fun x _ => ?_
    rw [h0]
    exact congrArg₂ (· * ·) (hX _ _ (by show x.val = d.val / 256 * 256 + x.val; omega)) (hW _ _ _ _ _ (by show 0 = d.val / 256; omega) (by show d.val = d.val % 256; omega))
  · refine Finset.sum_congr rfl fun x _ => ?_
    rw [h1]
    exact congrArg₂ (· * ·) (hX _ _ (by show 256 + x.val = d.val / 256 * 256 + x.val; omega)) (hW _ _ _ _ _ (by show 1 = d.val / 256; omega) (by show d.val - 256 = d.val % 256; omega))
  · refine Finset.sum_congr rfl fun x _ => ?_
    rw [h2]
    exact congrArg₂ (· * ·) (hX _ _ (by show 512 + x.val = d.val / 256 * 256 + x.val; omega)) (hW _ _ _ _ _ (by show 2 = d.val / 256; omega) (by show d.val - 256 - 256 = d.val % 256; omega))
  · refine Finset.sum_congr rfl fun x _ => ?_
    rw [h3]
    exact congrArg₂ (· * ·) (hX _ _ (by show 768 + x.val = d.val / 256 * 256 + x.val; omega)) (hW _ _ _ _ _ (by show 3 = d.val / 256; omega) (by show d.val - 256 - 256 - 256 = d.val % 256; omega))

/-- The other gate, as the kernel groups its products. -/
theorem gate2_at (h0 : Block W w0 0) (h1 : Block W w1 1) (h2 : Block W w2 2) (h3 : Block W w3 3) (bi : FVec Ideal S1x1024 .f32) (n : Fin 256) (d : Fin 1024) :
    k0_pay52 (F := Ideal) (k0_pay48 X) (k0_pay50 X w0) (k0_pay51 X w1) w2 w3 bi (ix2 n d)
      = Ideal.logistic (gateSum (fun e => X (ix2 n e)) W d + bi (ix2 (0 : Fin 1) d)) := by
  rw [← gate_at X h0 h1 h2 h3 n d]
  pointwise [k0_pay52, k0_pay50, k0_pay51, k0_pay49, k0_pay48]

variable (G V : FVec Ideal S256x1024 .f32) (ba lam : FVec Ideal S1x1024 .f32)

/-- The decay, from the gate's sums. -/
theorem decay_of (n : Fin 256) (d : Fin 1024) :
    k0_pay57 (F := Ideal) (k0_pay54 G ba lam) (ix3 (0 : Fin 1) n d) = Ideal.exp (logDecay (G (ix2 n d)) (ba (ix2 (0 : Fin 1) d)) (lam (ix2 (0 : Fin 1) d))) := by
  unfold logDecay
  pointwise [k0_pay57, k0_pay54, k0_pay53]
  simp only [zero_sub]

/-- The input's share, from the gates. -/
theorem share_of (n : Fin 256) (d : Fin 1024) (g bi : EReal) (hV : V (ix2 n d) = Ideal.logistic (g + bi)) :
    k0_pay58 (F := Ideal) X V (k0_pay55 G ba lam) (k0_pay56 G ba lam) (Scalar.ofBits .f32 0x3F800000#32) (ix3 (0 : Fin 1) n d)
      = inputShare (logDecay (G (ix2 n d)) (ba (ix2 (0 : Fin 1) d)) (lam (ix2 (0 : Fin 1) d))) g bi (X (ix2 n d)) := by
  unfold inputShare
  rw [← tanh_form, ← hV]
  unfold logDecay
  pointwise [k0_pay58, k0_pay55, k0_pay56, k0_pay54, k0_pay53]
  simp only [zero_sub]

/-- The decay at one position, from the convolution. -/
theorem decay_at (h0 : Block W w0 0) (h1 : Block W w1 1) (h2 : Block W w2 2) (h3 : Block W w3 3) (n : Fin 256) (d : Fin 1024) :
    k0_pay57 (F := Ideal) (k0_pay54 (k0_pay49 X w0 w1 w2 w3) ba lam) (ix3 (0 : Fin 1) n d)
      = Ideal.exp (logDecay (gateSum (fun e => X (ix2 n e)) W d) (ba (ix2 (0 : Fin 1) d)) (lam (ix2 (0 : Fin 1) d))) := by
  rw [decay_of, gate_at X h0 h1 h2 h3]

/-- The input's share at one position, from the convolution. -/
theorem share_at (h0 : Block W w0 0) (h1 : Block W w1 1) (h2 : Block W w2 2) (h3 : Block W w3 3) {W' : FVec Ideal S4x256x256 .bf16} {w0' w1' w2' w3' : FVec Ideal S1x256x256 .bf16}
    (h0' : Block W' w0' 0) (h1' : Block W' w1' 1) (h2' : Block W' w2' 2) (h3' : Block W' w3' 3) (bi : FVec Ideal S1x1024 .f32) (n : Fin 256) (d : Fin 1024) :
    k0_pay58 (F := Ideal) X (k0_pay52 (k0_pay48 X) (k0_pay50 X w0') (k0_pay51 X w1') w2' w3' bi) (k0_pay55 (k0_pay49 X w0 w1 w2 w3) ba lam) (k0_pay56 (k0_pay49 X w0 w1 w2 w3) ba lam) (Scalar.ofBits .f32 0x3F800000#32) (ix3 (0 : Fin 1) n d)
      = inputShare (logDecay (gateSum (fun e => X (ix2 n e)) W d) (ba (ix2 (0 : Fin 1) d)) (lam (ix2 (0 : Fin 1) d)))
          (gateSum (fun e => X (ix2 n e)) W' d) (bi (ix2 (0 : Fin 1) d)) (X (ix2 n d)) := by
  rw [share_of X _ _ _ _ n d _ _ (gate2_at X h0' h1' h2' h3' bi n d), gate_at X h0 h1 h2 h3]

end Cert.RgIdeal.Body

end
-- ==== Proof.RgIdeal.Taps.lean ====
/-
  The rows the convolution reads: at each batch the input's rows of this block, and before them the last rows of the block
  before, kept in the carried scratch (zeros at the first block).
-/
module

public import proofs.«01_k».proof.Proof.RgIdeal.Pieces
public import proofs.«01_k».proof.Proof.RgIdeal.Gates
public import Idealize.ShloMosaic.Lib.WritesUnit

@[expose] public section

set_option maxRecDepth 16384

noncomputable section

namespace Cert.RgIdeal.Body

open Cert.RgIdeal Cert.RgIdeal.Gen
open Idealize.ShloMosaic Idealize.ShloMosaic.TcCoe
open View (readAt_apply read_writes_cons_unit_of_mem read_writes_cons_unit_of_not_mem)

/-- Row `r` of one batch's input with the eight rows before it in front. -/
def tap (prev : Fin 4 → Fin 8 → Fin 1024 → EReal) (x0 : FVec Ideal S4x256x1024 .f32) (b : Fin 4) (r : Fin 264) (d : Fin 1024) : EReal :=
  if h : r.val < 8 then prev b ⟨r.val, h⟩ d else x0 (ix3 b (⟨r.val - 8, by omega⟩ : Fin 256) d)

/-- The rows before the first block: zeros. -/
def noRows : Fin 4 → Fin 8 → Fin 1024 → EReal := fun _ _ _ => 0

/-- The rows before a later block: the first eight of the carried scratch. -/
def oldRows (xs0 : FVec Ideal S4x264x1024 .f32) : Fin 4 → Fin 8 → Fin 1024 → EReal :=
  fun b r d => xs0 (ix3 b (⟨r.val, by omega⟩ : Fin 264) d)

/-! ## Reads of whole arguments -/

theorem from_zero (n : ℕ) : 0 + 1 * n = n := by omega

/-- Where a read of 256 rows from row `o` of batch `p` falls. -/
theorem row_at (p : Fin 4) (o : ℕ) (h : ∀ a, (![p.val, o, 0] : Fin 3 → ℕ) a + S1x256x1024.size a ≤ S4x264x1024.size a) (n : Fin 256) (d : Fin 1024) :
    (Rect.unit (s := S4x264x1024) ![p.val, o, 0] S1x256x1024.size h).toLoadRect.idx (ix3 (0 : Fin 1) n d : S1x256x1024.Idx)
      = (ix3 p (⟨n.val + o, by have : o + 256 ≤ 264 := h 1; omega⟩ : Fin 264) d : S4x264x1024.Idx) := by
  funext a
  apply Fin.ext
  fin_cases a
  exacts [rfl, (show o + 1 * n.val = n.val + o by omega), from_zero d.val]

/-- Where a read of the last eight rows of batch `p` falls. -/
theorem end_at (p : Fin 4) (h : ∀ a, (![p.val, 256, 0] : Fin 3 → ℕ) a + S1x8x1024.size a ≤ S4x264x1024.size a) (n : Fin 8) (d : Fin 1024) :
    (Rect.unit (s := S4x264x1024) ![p.val, 256, 0] S1x8x1024.size h).toLoadRect.idx (ix3 (0 : Fin 1) n d : S1x8x1024.Idx)
      = (ix3 p (⟨256 + n.val, by omega⟩ : Fin 264) d : S4x264x1024.Idx) := by
  funext a
  apply Fin.ext
  fin_cases a
  exacts [rfl, (show 256 + 1 * n.val = 256 + n.val by omega), from_zero d.val]

section
variable (arg : Memref sig .tc .vmem S4x256x1024 .f32) (h : arg.IsWhole) (x : FVec Ideal S4x256x1024 .f32) (n : Fin 256) (d : Fin 1024)

theorem slab_read0 : View.readAt (Elt Ideal) arg.view (Rect.unit (s := S4x256x1024) ![0, 0, 0] S1x256x1024.size inb_S4x256x1024_S1x256x1024_0_0_0).toLoadRect (h.unread x) (ix3 (0 : Fin 1) n d) = x (ix3 (0 : Fin 4) n d) := by
  rw [readAt_apply, h.read_unread]
  refine congrArg x ?_
  funext a
  apply Fin.ext
  fin_cases a
  exacts [rfl, from_zero n.val, from_zero d.val]

theorem slab_read1 : View.readAt (Elt Ideal) arg.view (Rect.unit (s := S4x256x1024) ![1, 0, 0] S1x256x1024.size inb_S4x256x1024_S1x256x1024_1_0_0).toLoadRect (h.unread x) (ix3 (0 : Fin 1) n d) = x (ix3 (1 : Fin 4) n d) := by
  rw [readAt_apply, h.read_unread]
  refine congrArg x ?_
  funext a
  apply Fin.ext
  fin_cases a
  exacts [rfl, from_zero n.val, from_zero d.val]

theorem slab_read2 : View.readAt (Elt Ideal) arg.view (Rect.unit (s := S4x256x1024) ![2, 0, 0] S1x256x1024.size inb_S4x256x1024_S1x256x1024_2_0_0).toLoadRect (h.unread x) (ix3 (0 : Fin 1) n d) = x (ix3 (2 : Fin 4) n d) := by
  rw [readAt_apply, h.read_unread]
  refine congrArg x ?_
  funext a
  apply Fin.ext
  fin_cases a
  exacts [rfl, from_zero n.val, from_zero d.val]

theorem slab_read3 : View.readAt (Elt Ideal) arg.view (Rect.unit (s := S4x256x1024) ![3, 0, 0] S1x256x1024.size inb_S4x256x1024_S1x256x1024_3_0_0).toLoadRect (h.unread x) (ix3 (0 : Fin 1) n d) = x (ix3 (3 : Fin 4) n d) := by
  rw [readAt_apply, h.read_unread]
  refine congrArg x ?_
  funext a
  apply Fin.ext
  fin_cases a
  exacts [rfl, from_zero n.val, from_zero d.val]

end

theorem block_read0 (arg : Memref sig .tc .vmem S4x256x256 .bf16) (h : arg.IsWhole) (x : FVec Ideal S4x256x256 .bf16) :
    Block x (View.readAt (Elt Ideal) arg.view (Rect.unit (s := S4x256x256) ![0, 0, 0] S1x256x256.size inb_S4x256x256_S1x256x256_0_0_0).toLoadRect (h.unread x)) 0 := by
  intro k e
  rw [readAt_apply, h.read_unread]
  refine congrArg x ?_
  funext a
  apply Fin.ext
  fin_cases a
  exacts [rfl, from_zero k.val, from_zero e.val]

theorem block_read1 (arg : Memref sig .tc .vmem S4x256x256 .bf16) (h : arg.IsWhole) (x : FVec Ideal S4x256x256 .bf16) :
    Block x (View.readAt (Elt Ideal) arg.view (Rect.unit (s := S4x256x256) ![1, 0, 0] S1x256x256.size inb_S4x256x256_S1x256x256_1_0_0).toLoadRect (h.unread x)) 1 := by
  intro k e
  rw [readAt_apply, h.read_unread]
  refine congrArg x ?_
  funext a
  apply Fin.ext
  fin_cases a
  exacts [rfl, from_zero k.val, from_zero e.val]

theorem block_read2 (arg : Memref sig .tc .vmem S4x256x256 .bf16) (h : arg.IsWhole) (x : FVec Ideal S4x256x256 .bf16) :
    Block x (View.readAt (Elt Ideal) arg.view (Rect.unit (s := S4x256x256) ![2, 0, 0] S1x256x256.size inb_S4x256x256_S1x256x256_2_0_0).toLoadRect (h.unread x)) 2 := by
  intro k e
  rw [readAt_apply, h.read_unread]
  refine congrArg x ?_
  funext a
  apply Fin.ext
  fin_cases a
  exacts [rfl, from_zero k.val, from_zero e.val]

theorem block_read3 (arg : Memref sig .tc .vmem S4x256x256 .bf16) (h : arg.IsWhole) (x : FVec Ideal S4x256x256 .bf16) :
    Block x (View.readAt (Elt Ideal) arg.view (Rect.unit (s := S4x256x256) ![3, 0, 0] S1x256x256.size inb_S4x256x256_S1x256x256_3_0_0).toLoadRect (h.unread x)) 3 := by
  intro k e
  rw [readAt_apply, h.read_unread]
  refine congrArg x ?_
  funext a
  apply Fin.ext
  fin_cases a
  exacts [rfl, from_zero k.val, from_zero e.val]

theorem row_read (arg : Memref sig .tc .vmem S1x1024 .f32) (h : arg.IsWhole) (x : FVec Ideal S1x1024 .f32) :
    View.readAt (Elt Ideal) arg.view (Rect.unit (s := S1x1024) ![0, 0] S1x1024.size inb_S1x1024_S1x1024_0_0).toLoadRect (h.unread x) = x := by
  funext j
  rw [readAt_apply, h.read_unread]
  refine congrArg x ?_
  funext a
  apply Fin.ext
  fin_cases a
  · show 0 + 1 * (j (0 : Fin 2)).val = (j (0 : Fin 2)).val
    omega
  · show 0 + 1 * (j (1 : Fin 2)).val = (j (1 : Fin 2)).val
    omega

theorem taps_read (arg : Memref sig .tc .vmem S4x1024 .f32) (h : arg.IsWhole) (x : FVec Ideal S4x1024 .f32) :
    View.readAt (Elt Ideal) arg.view (Rect.unit (s := S4x1024) ![0, 0] S4x1024.size inb_S4x1024_S4x1024_0_0).toLoadRect (h.unread x) = x := by
  funext j
  rw [readAt_apply, h.read_unread]
  refine congrArg x ?_
  funext a
  apply Fin.ext
  fin_cases a
  · show 0 + 1 * (j (0 : Fin 2)).val = (j (0 : Fin 2)).val
    omega
  · show 0 + 1 * (j (1 : Fin 2)).val = (j (1 : Fin 2)).val
    omega

/-! ## The payloads that only lay values out -/

theorem slab_pay0 (v : FVec Ideal S1x256x1024 .f32) (n : Fin 256) (d : Fin 1024) : k0_pay45 (F := Ideal) v (ix3 (0 : Fin 1) n d) = v (ix3 (0 : Fin 1) n d) := by
  pointwise [k0_pay45, k0_pay44]

theorem kept_pay0 (v : FVec Ideal S1x8x1024 .f32) (n : Fin 8) (d : Fin 1024) : k0_pay47 (F := Ideal) v (ix3 (0 : Fin 1) n d) = v (ix3 (0 : Fin 1) n d) := by
  pointwise [k0_pay47]

theorem slab_pay1 (v : FVec Ideal S1x256x1024 .f32) (n : Fin 256) (d : Fin 1024) : k0_pay60 (F := Ideal) v (ix3 (0 : Fin 1) n d) = v (ix3 (0 : Fin 1) n d) := by
  pointwise [k0_pay60, k0_pay59]

theorem kept_pay1 (v : FVec Ideal S1x8x1024 .f32) (n : Fin 8) (d : Fin 1024) : k0_pay64 (F := Ideal) v (ix3 (0 : Fin 1) n d) = v (ix3 (0 : Fin 1) n d) := by
  pointwise [k0_pay64]

theorem slab_pay2 (v : FVec Ideal S1x256x1024 .f32) (n : Fin 256) (d : Fin 1024) : k0_pay78 (F := Ideal) v (ix3 (0 : Fin 1) n d) = v (ix3 (0 : Fin 1) n d) := by
  pointwise [k0_pay78, k0_pay77]

theorem kept_pay2 (v : FVec Ideal S1x8x1024 .f32) (n : Fin 8) (d : Fin 1024) : k0_pay81 (F := Ideal) v (ix3 (0 : Fin 1) n d) = v (ix3 (0 : Fin 1) n d) := by
  pointwise [k0_pay81]

theorem slab_pay3 (v : FVec Ideal S1x256x1024 .f32) (n : Fin 256) (d : Fin 1024) : k0_pay96 (F := Ideal) v (ix3 (0 : Fin 1) n d) = v (ix3 (0 : Fin 1) n d) := by
  pointwise [k0_pay96, k0_pay95]

theorem kept_pay3 (v : FVec Ideal S1x8x1024 .f32) (n : Fin 8) (d : Fin 1024) : k0_pay100 (F := Ideal) v (ix3 (0 : Fin 1) n d) = v (ix3 (0 : Fin 1) n d) := by
  pointwise [k0_pay100]

theorem zero_pay (i : S4x8x1024.Idx) : k0_pay42 (F := Ideal) i = 0 := by
  pointwise [k0_pay42]

section
variable (c : Dev nD) (arg1 : Memref sig .tc .vmem S4x256x1024 .f32) (harg1 : arg1.IsWhole) (arg12 : Memref sig .tc .vmem S4x264x1024 .f32) (harg12 : arg12.IsWhole) (x0 : FVec Ideal S4x256x1024 .f32)

theorem v17A (n : Fin 256) (d : Fin 1024) : runA.sl.v17 (F := Ideal) c arg1 harg1 arg12 x0 (ix3 (0 : Fin 1) n d) = tap noRows x0 0 ⟨n.val + 5, by omega⟩ d := by
  unfold runA.sl.v17 View.readCov
  rw [readAt_apply]
  refine (congrArg _ (row_at 0 5 _ n d)).trans ?_
  unfold tap runA.sl.H12_2
  by_cases h : n.val + 5 < 8
  · rw [dif_pos h, read_writes_cons_unit_of_not_mem _ _ _ _ _ _ rfl (1 : Fin 3) (Or.inl h), read_writes_cons_unit_of_mem _ _ _ _ _ _ (ix3 (0 : Fin 4) (⟨n.val + 5, h⟩ : Fin 8) d) rfl (by intro a; fin_cases a <;> simp [ix3]), zero_pay]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay0, slab_read0]

theorem v23A (n : Fin 256) (d : Fin 1024) : runA.sl.v23 (F := Ideal) c arg1 harg1 arg12 x0 (ix3 (0 : Fin 1) n d) = tap noRows x0 0 ⟨n.val + 6, by omega⟩ d := by
  unfold runA.sl.v23 View.readCov
  rw [readAt_apply]
  refine (congrArg _ (row_at 0 6 _ n d)).trans ?_
  unfold tap runA.sl.H12_2
  by_cases h : n.val + 6 < 8
  · rw [dif_pos h, read_writes_cons_unit_of_not_mem _ _ _ _ _ _ rfl (1 : Fin 3) (Or.inl h), read_writes_cons_unit_of_mem _ _ _ _ _ _ (ix3 (0 : Fin 4) (⟨n.val + 6, h⟩ : Fin 8) d) rfl (by intro a; fin_cases a <;> simp [ix3]), zero_pay]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay0, slab_read0]

theorem v29A (n : Fin 256) (d : Fin 1024) : runA.sl.v29 (F := Ideal) c arg1 harg1 arg12 x0 (ix3 (0 : Fin 1) n d) = tap noRows x0 0 ⟨n.val + 7, by omega⟩ d := by
  unfold runA.sl.v29 View.readCov
  rw [readAt_apply]
  refine (congrArg _ (row_at 0 7 _ n d)).trans ?_
  unfold tap runA.sl.H12_2
  by_cases h : n.val + 7 < 8
  · rw [dif_pos h, read_writes_cons_unit_of_not_mem _ _ _ _ _ _ rfl (1 : Fin 3) (Or.inl h), read_writes_cons_unit_of_mem _ _ _ _ _ _ (ix3 (0 : Fin 4) (⟨n.val + 7, h⟩ : Fin 8) d) rfl (by intro a; fin_cases a <;> simp [ix3]), zero_pay]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay0, slab_read0]

theorem v34A (n : Fin 8) (d : Fin 1024) : runA.sl.v34 (F := Ideal) c arg1 harg1 arg12 x0 (ix3 (0 : Fin 1) n d) = x0 (ix3 (0 : Fin 4) (⟨248 + n.val, by omega⟩ : Fin 256) d) := by
  unfold runA.sl.v34 View.readCov
  rw [readAt_apply]
  refine (congrArg _ (end_at 0 _ n d)).trans ?_
  unfold runA.sl.H12_2
  rw [read_writes_cons_unit_of_mem _ _ _ _ _ _ (ix3 (0 : Fin 1) (⟨248 + n.val, by omega⟩ : Fin 256) d) rfl (by intro a; fin_cases a <;> simp [ix3] <;> omega), slab_pay0, slab_read0]

theorem v130A (n : Fin 256) (d : Fin 1024) : runA.sl.v130 (F := Ideal) c arg1 harg1 arg12 x0 (ix3 (0 : Fin 1) n d) = tap noRows x0 1 ⟨n.val + 5, by omega⟩ d := by
  unfold runA.sl.v130 View.readCov
  rw [readAt_apply]
  refine (congrArg _ (row_at 1 5 _ n d)).trans ?_
  unfold tap runA.sl.H12_4
  by_cases h : n.val + 5 < 8
  · rw [dif_pos h, read_writes_cons_unit_of_not_mem _ _ _ _ _ _ rfl (1 : Fin 3) (Or.inl h), read_writes_cons_unit_of_not_mem _ _ _ _ _ _ rfl (0 : Fin 3) (Or.inr (show 0 + 1 ≤ 1 by decide))]
    unfold runA.sl.H12_2
    rw [read_writes_cons_unit_of_not_mem _ _ _ _ _ _ rfl (0 : Fin 3) (Or.inr (show 0 + 1 ≤ 1 by decide)), read_writes_cons_unit_of_mem _ _ _ _ _ _ (ix3 (1 : Fin 4) (⟨n.val + 5, h⟩ : Fin 8) d) rfl (by intro a; fin_cases a <;> simp [ix3]), zero_pay]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay1, slab_read1]

theorem v136A (n : Fin 256) (d : Fin 1024) : runA.sl.v136 (F := Ideal) c arg1 harg1 arg12 x0 (ix3 (0 : Fin 1) n d) = tap noRows x0 1 ⟨n.val + 6, by omega⟩ d := by
  unfold runA.sl.v136 View.readCov
  rw [readAt_apply]
  refine (congrArg _ (row_at 1 6 _ n d)).trans ?_
  unfold tap runA.sl.H12_4
  by_cases h : n.val + 6 < 8
  · rw [dif_pos h, read_writes_cons_unit_of_not_mem _ _ _ _ _ _ rfl (1 : Fin 3) (Or.inl h), read_writes_cons_unit_of_not_mem _ _ _ _ _ _ rfl (0 : Fin 3) (Or.inr (show 0 + 1 ≤ 1 by decide))]
    unfold runA.sl.H12_2
    rw [read_writes_cons_unit_of_not_mem _ _ _ _ _ _ rfl (0 : Fin 3) (Or.inr (show 0 + 1 ≤ 1 by decide)), read_writes_cons_unit_of_mem _ _ _ _ _ _ (ix3 (1 : Fin 4) (⟨n.val + 6, h⟩ : Fin 8) d) rfl (by intro a; fin_cases a <;> simp [ix3]), zero_pay]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay1, slab_read1]

theorem v142A (n : Fin 256) (d : Fin 1024) : runA.sl.v142 (F := Ideal) c arg1 harg1 arg12 x0 (ix3 (0 : Fin 1) n d) = tap noRows x0 1 ⟨n.val + 7, by omega⟩ d := by
  unfold runA.sl.v142 View.readCov
  rw [readAt_apply]
  refine (congrArg _ (row_at 1 7 _ n d)).trans ?_
  unfold tap runA.sl.H12_4
  by_cases h : n.val + 7 < 8
  · rw [dif_pos h, read_writes_cons_unit_of_not_mem _ _ _ _ _ _ rfl (1 : Fin 3) (Or.inl h), read_writes_cons_unit_of_not_mem _ _ _ _ _ _ rfl (0 : Fin 3) (Or.inr (show 0 + 1 ≤ 1 by decide))]
    unfold runA.sl.H12_2
    rw [read_writes_cons_unit_of_not_mem _ _ _ _ _ _ rfl (0 : Fin 3) (Or.inr (show 0 + 1 ≤ 1 by decide)), read_writes_cons_unit_of_mem _ _ _ _ _ _ (ix3 (1 : Fin 4) (⟨n.val + 7, h⟩ : Fin 8) d) rfl (by intro a; fin_cases a <;> simp [ix3]), zero_pay]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay1, slab_read1]

theorem v147A (n : Fin 8) (d : Fin 1024) : runA.sl.v147 (F := Ideal) c arg1 harg1 arg12 x0 (ix3 (0 : Fin 1) n d) = x0 (ix3 (1 : Fin 4) (⟨248 + n.val, by omega⟩ : Fin 256) d) := by
  unfold runA.sl.v147 View.readCov
  rw [readAt_apply]
  refine (congrArg _ (end_at 1 _ n d)).trans ?_
  unfold runA.sl.H12_4
  rw [read_writes_cons_unit_of_mem _ _ _ _ _ _ (ix3 (0 : Fin 1) (⟨248 + n.val, by omega⟩ : Fin 256) d) rfl (by intro a; fin_cases a <;> simp [ix3] <;> omega), slab_pay1, slab_read1]

theorem v243A (n : Fin 256) (d : Fin 1024) : runA.sl.v243 (F := Ideal) c arg1 harg1 arg12 x0 (ix3 (0 : Fin 1) n d) = tap noRows x0 2 ⟨n.val + 5, by omega⟩ d := by
  unfold runA.sl.v243 View.readCov
  rw [readAt_apply]
  refine (congrArg _ (row_at 2 5 _ n d)).trans ?_
  unfold tap runA.sl.H12_6
  by_cases h : n.val + 5 < 8
  · rw [dif_pos h, read_writes_cons_unit_of_not_mem _ _ _ _ _ _ rfl (1 : Fin 3) (Or.inl h), read_writes_cons_unit_of_not_mem _ _ _ _ _ _ rfl (0 : Fin 3) (Or.inr (show 1 + 1 ≤ 2 by decide))]
    unfold runA.sl.H12_4
    rw [read_writes_cons_unit_of_not_mem _ _ _ _ _ _ rfl (0 : Fin 3) (Or.inr (show 1 + 1 ≤ 2 by decide)), read_writes_cons_unit_of_not_mem _ _ _ _ _ _ rfl (0 : Fin 3) (Or.inr (show 0 + 1 ≤ 2 by decide))]
    unfold runA.sl.H12_2
    rw [read_writes_cons_unit_of_not_mem _ _ _ _ _ _ rfl (0 : Fin 3) (Or.inr (show 0 + 1 ≤ 2 by decide)), read_writes_cons_unit_of_mem _ _ _ _ _ _ (ix3 (2 : Fin 4) (⟨n.val + 5, h⟩ : Fin 8) d) rfl (by intro a; fin_cases a <;> simp [ix3]), zero_pay]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay2, slab_read2]

theorem v249A (n : Fin 256) (d : Fin 1024) : runA.sl.v249 (F := Ideal) c arg1 harg1 arg12 x0 (ix3 (0 : Fin 1) n d) = tap noRows x0 2 ⟨n.val + 6, by omega⟩ d := by
  unfold runA.sl.v249 View.readCov
  rw [readAt_apply]
  refine (congrArg _ (row_at 2 6 _ n d)).trans ?_
  unfold tap runA.sl.H12_6
  by_cases h : n.val + 6 < 8
  · rw [dif_pos h, read_writes_cons_unit_of_not_mem _ _ _ _ _ _ rfl (1 : Fin 3) (Or.inl h), read_writes_cons_unit_of_not_mem _ _ _ _ _ _ rfl (0 : Fin 3) (Or.inr (show 1 + 1 ≤ 2 by decide))]
    unfold runA.sl.H12_4
    rw [read_writes_cons_unit_of_not_mem _ _ _ _ _ _ rfl (0 : Fin 3) (Or.inr (show 1 + 1 ≤ 2 by decide)), read_writes_cons_unit_of_not_mem _ _ _ _ _ _ rfl (0 : Fin 3) (Or.inr (show 0 + 1 ≤ 2 by decide))]
    unfold runA.sl.H12_2
    rw [read_writes_cons_unit_of_not_mem _ _ _ _ _ _ rfl (0 : Fin 3) (Or.inr (show 0 + 1 ≤ 2 by decide)), read_writes_cons_unit_of_mem _ _ _ _ _ _ (ix3 (2 : Fin 4) (⟨n.val + 6, h⟩ : Fin 8) d) rfl (by intro a; fin_cases a <;> simp [ix3]), zero_pay]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay2, slab_read2]

theorem v255A (n : Fin 256) (d : Fin 1024) : runA.sl.v255 (F := Ideal) c arg1 harg1 arg12 x0 (ix3 (0 : Fin 1) n d) = tap noRows x0 2 ⟨n.val + 7, by omega⟩ d := by
  unfold runA.sl.v255 View.readCov
  rw [readAt_apply]
  refine (congrArg _ (row_at 2 7 _ n d)).trans ?_
  unfold tap runA.sl.H12_6
  by_cases h : n.val + 7 < 8
  · rw [dif_pos h, read_writes_cons_unit_of_not_mem _ _ _ _ _ _ rfl (1 : Fin 3) (Or.inl h), read_writes_cons_unit_of_not_mem _ _ _ _ _ _ rfl (0 : Fin 3) (Or.inr (show 1 + 1 ≤ 2 by decide))]
    unfold runA.sl.H12_4
    rw [read_writes_cons_unit_of_not_mem _ _ _ _ _ _ rfl (0 : Fin 3) (Or.inr (show 1 + 1 ≤ 2 by decide)), read_writes_cons_unit_of_not_mem _ _ _ _ _ _ rfl (0 : Fin 3) (Or.inr (show 0 + 1 ≤ 2 by decide))]
    unfold runA.sl.H12_2
    rw [read_writes_cons_unit_of_not_mem _ _ _ _ _ _ rfl (0 : Fin 3) (Or.inr (show 0 + 1 ≤ 2 by decide)), read_writes_cons_unit_of_mem _ _ _ _ _ _ (ix3 (2 : Fin 4) (⟨n.val + 7, h⟩ : Fin 8) d) rfl (by intro a; fin_cases a <;> simp [ix3]), zero_pay]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay2, slab_read2]

theorem v260A (n : Fin 8) (d : Fin 1024) : runA.sl.v260 (F := Ideal) c arg1 harg1 arg12 x0 (ix3 (0 : Fin 1) n d) = x0 (ix3 (2 : Fin 4) (⟨248 + n.val, by omega⟩ : Fin 256) d) := by
  unfold runA.sl.v260 View.readCov
  rw [readAt_apply]
  refine (congrArg _ (end_at 2 _ n d)).trans ?_
  unfold runA.sl.H12_6
  rw [read_writes_cons_unit_of_mem _ _ _ _ _ _ (ix3 (0 : Fin 1) (⟨248 + n.val, by omega⟩ : Fin 256) d) rfl (by intro a; fin_cases a <;> simp [ix3] <;> omega), slab_pay2, slab_read2]

theorem v356A (n : Fin 256) (d : Fin 1024) : runA.sl.v356 (F := Ideal) c arg1 harg1 arg12 x0 (ix3 (0 : Fin 1) n d) = tap noRows x0 3 ⟨n.val + 5, by omega⟩ d := by
  unfold runA.sl.v356 View.readCov
  rw [readAt_apply]
  refine (congrArg _ (row_at 3 5 _ n d)).trans ?_
  unfold tap runA.sl.H12_8
  by_cases h : n.val + 5 < 8
  · rw [dif_pos h, read_writes_cons_unit_of_not_mem _ _ _ _ _ _ rfl (1 : Fin 3) (Or.inl h), read_writes_cons_unit_of_not_mem _ _ _ _ _ _ rfl (0 : Fin 3) (Or.inr (show 2 + 1 ≤ 3 by decide))]
    unfold runA.sl.H12_6
    rw [read_writes_cons_unit_of_not_mem _ _ _ _ _ _ rfl (0 : Fin 3) (Or.inr (show 2 + 1 ≤ 3 by decide)), read_writes_cons_unit_of_not_mem _ _ _ _ _ _ rfl (0 : Fin 3) (Or.inr (show 1 + 1 ≤ 3 by decide))]
    unfold runA.sl.H12_4
    rw [read_writes_cons_unit_of_not_mem _ _ _ _ _ _ rfl (0 : Fin 3) (Or.inr (show 1 + 1 ≤ 3 by decide)), read_writes_cons_unit_of_not_mem _ _ _ _ _ _ rfl (0 : Fin 3) (Or.inr (show 0 + 1 ≤ 3 by decide))]
    unfold runA.sl.H12_2
    rw [read_writes_cons_unit_of_not_mem _ _ _ _ _ _ rfl (0 : Fin 3) (Or.inr (show 0 + 1 ≤ 3 by decide)), read_writes_cons_unit_of_mem _ _ _ _ _ _ (ix3 (3 : Fin 4) (⟨n.val + 5, h⟩ : Fin 8) d) rfl (by intro a; fin_cases a <;> simp [ix3]), zero_pay]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay3, slab_read3]

theorem v362A (n : Fin 256) (d : Fin 1024) : runA.sl.v362 (F := Ideal) c arg1 harg1 arg12 x0 (ix3 (0 : Fin 1) n d) = tap noRows x0 3 ⟨n.val + 6, by omega⟩ d := by
  unfold runA.sl.v362 View.readCov
  rw [readAt_apply]
  refine (congrArg _ (row_at 3 6 _ n d)).trans ?_
  unfold tap runA.sl.H12_8
  by_cases h : n.val + 6 < 8
  · rw [dif_pos h, read_writes_cons_unit_of_not_mem _ _ _ _ _ _ rfl (1 : Fin 3) (Or.inl h), read_writes_cons_unit_of_not_mem _ _ _ _ _ _ rfl (0 : Fin 3) (Or.inr (show 2 + 1 ≤ 3 by decide))]
    unfold runA.sl.H12_6
    rw [read_writes_cons_unit_of_not_mem _ _ _ _ _ _ rfl (0 : Fin 3) (Or.inr (show 2 + 1 ≤ 3 by decide)), read_writes_cons_unit_of_not_mem _ _ _ _ _ _ rfl (0 : Fin 3) (Or.inr (show 1 + 1 ≤ 3 by decide))]
    unfold runA.sl.H12_4
    rw [read_writes_cons_unit_of_not_mem _ _ _ _ _ _ rfl (0 : Fin 3) (Or.inr (show 1 + 1 ≤ 3 by decide)), read_writes_cons_unit_of_not_mem _ _ _ _ _ _ rfl (0 : Fin 3) (Or.inr (show 0 + 1 ≤ 3 by decide))]
    unfold runA.sl.H12_2
    rw [read_writes_cons_unit_of_not_mem _ _ _ _ _ _ rfl (0 : Fin 3) (Or.inr (show 0 + 1 ≤ 3 by decide)), read_writes_cons_unit_of_mem _ _ _ _ _ _ (ix3 (3 : Fin 4) (⟨n.val + 6, h⟩ : Fin 8) d) rfl (by intro a; fin_cases a <;> simp [ix3]), zero_pay]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay3, slab_read3]

theorem v368A (n : Fin 256) (d : Fin 1024) : runA.sl.v368 (F := Ideal) c arg1 harg1 arg12 x0 (ix3 (0 : Fin 1) n d) = tap noRows x0 3 ⟨n.val + 7, by omega⟩ d := by
  unfold runA.sl.v368 View.readCov
  rw [readAt_apply]
  refine (congrArg _ (row_at 3 7 _ n d)).trans ?_
  unfold tap runA.sl.H12_8
  by_cases h : n.val + 7 < 8
  · rw [dif_pos h, read_writes_cons_unit_of_not_mem _ _ _ _ _ _ rfl (1 : Fin 3) (Or.inl h), read_writes_cons_unit_of_not_mem _ _ _ _ _ _ rfl (0 : Fin 3) (Or.inr (show 2 + 1 ≤ 3 by decide))]
    unfold runA.sl.H12_6
    rw [read_writes_cons_unit_of_not_mem _ _ _ _ _ _ rfl (0 : Fin 3) (Or.inr (show 2 + 1 ≤ 3 by decide)), read_writes_cons_unit_of_not_mem _ _ _ _ _ _ rfl (0 : Fin 3) (Or.inr (show 1 + 1 ≤ 3 by decide))]
    unfold runA.sl.H12_4
    rw [read_writes_cons_unit_of_not_mem _ _ _ _ _ _ rfl (0 : Fin 3) (Or.inr (show 1 + 1 ≤ 3 by decide)), read_writes_cons_unit_of_not_mem _ _ _ _ _ _ rfl (0 : Fin 3) (Or.inr (show 0 + 1 ≤ 3 by decide))]
    unfold runA.sl.H12_2
    rw [read_writes_cons_unit_of_not_mem _ _ _ _ _ _ rfl (0 : Fin 3) (Or.inr (show 0 + 1 ≤ 3 by decide)), read_writes_cons_unit_of_mem _ _ _ _ _ _ (ix3 (3 : Fin 4) (⟨n.val + 7, h⟩ : Fin 8) d) rfl (by intro a; fin_cases a <;> simp [ix3]), zero_pay]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay3, slab_read3]

theorem v373A (n : Fin 8) (d : Fin 1024) : runA.sl.v373 (F := Ideal) c arg1 harg1 arg12 x0 (ix3 (0 : Fin 1) n d) = x0 (ix3 (3 : Fin 4) (⟨248 + n.val, by omega⟩ : Fin 256) d) := by
  unfold runA.sl.v373 View.readCov
  rw [readAt_apply]
  refine (congrArg _ (end_at 3 _ n d)).trans ?_
  unfold runA.sl.H12_8
  rw [read_writes_cons_unit_of_mem _ _ _ _ _ _ (ix3 (0 : Fin 1) (⟨248 + n.val, by omega⟩ : Fin 256) d) rfl (by intro a; fin_cases a <;> simp [ix3] <;> omega), slab_pay3, slab_read3]

theorem v17B (xs0 : FVec Ideal S4x264x1024 .f32) (n : Fin 256) (d : Fin 1024) : runB.sl.v17 (F := Ideal) c arg1 harg1 arg12 harg12 x0 xs0 (ix3 (0 : Fin 1) n d) = tap (oldRows xs0) x0 0 ⟨n.val + 5, by omega⟩ d := by
  unfold runB.sl.v17
  rw [readAt_apply]
  refine (congrArg _ (row_at 0 5 _ n d)).trans ?_
  unfold tap runB.sl.H12_1
  by_cases h : n.val + 5 < 8
  · rw [dif_pos h, read_writes_cons_unit_of_not_mem _ _ _ _ _ _ rfl (1 : Fin 3) (Or.inl h), View.writes_nil, harg12.read_unread]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay0, slab_read0]

theorem v23B (xs0 : FVec Ideal S4x264x1024 .f32) (n : Fin 256) (d : Fin 1024) : runB.sl.v23 (F := Ideal) c arg1 harg1 arg12 harg12 x0 xs0 (ix3 (0 : Fin 1) n d) = tap (oldRows xs0) x0 0 ⟨n.val + 6, by omega⟩ d := by
  unfold runB.sl.v23
  rw [readAt_apply]
  refine (congrArg _ (row_at 0 6 _ n d)).trans ?_
  unfold tap runB.sl.H12_1
  by_cases h : n.val + 6 < 8
  · rw [dif_pos h, read_writes_cons_unit_of_not_mem _ _ _ _ _ _ rfl (1 : Fin 3) (Or.inl h), View.writes_nil, harg12.read_unread]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay0, slab_read0]

theorem v29B (xs0 : FVec Ideal S4x264x1024 .f32) (n : Fin 256) (d : Fin 1024) : runB.sl.v29 (F := Ideal) c arg1 harg1 arg12 harg12 x0 xs0 (ix3 (0 : Fin 1) n d) = tap (oldRows xs0) x0 0 ⟨n.val + 7, by omega⟩ d := by
  unfold runB.sl.v29
  rw [readAt_apply]
  refine (congrArg _ (row_at 0 7 _ n d)).trans ?_
  unfold tap runB.sl.H12_1
  by_cases h : n.val + 7 < 8
  · rw [dif_pos h, read_writes_cons_unit_of_not_mem _ _ _ _ _ _ rfl (1 : Fin 3) (Or.inl h), View.writes_nil, harg12.read_unread]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay0, slab_read0]

theorem v34B (n : Fin 8) (d : Fin 1024) : runB.sl.v34 (F := Ideal) c arg1 harg1 arg12 x0 (ix3 (0 : Fin 1) n d) = x0 (ix3 (0 : Fin 4) (⟨248 + n.val, by omega⟩ : Fin 256) d) := by
  unfold runB.sl.v34 View.readCov
  rw [readAt_apply]
  refine (congrArg _ (end_at 0 _ n d)).trans ?_
  unfold runB.sl.H12_1
  rw [read_writes_cons_unit_of_mem _ _ _ _ _ _ (ix3 (0 : Fin 1) (⟨248 + n.val, by omega⟩ : Fin 256) d) rfl (by intro a; fin_cases a <;> simp [ix3] <;> omega), slab_pay0, slab_read0]

theorem v130B (xs0 : FVec Ideal S4x264x1024 .f32) (n : Fin 256) (d : Fin 1024) : runB.sl.v130 (F := Ideal) c arg1 harg1 arg12 harg12 x0 xs0 (ix3 (0 : Fin 1) n d) = tap (oldRows xs0) x0 1 ⟨n.val + 5, by omega⟩ d := by
  unfold runB.sl.v130
  rw [readAt_apply]
  refine (congrArg _ (row_at 1 5 _ n d)).trans ?_
  unfold tap runB.sl.H12_3
  by_cases h : n.val + 5 < 8
  · rw [dif_pos h, read_writes_cons_unit_of_not_mem _ _ _ _ _ _ rfl (1 : Fin 3) (Or.inl h), read_writes_cons_unit_of_not_mem _ _ _ _ _ _ rfl (0 : Fin 3) (Or.inr (show 0 + 1 ≤ 1 by decide))]
    unfold runB.sl.H12_1
    rw [read_writes_cons_unit_of_not_mem _ _ _ _ _ _ rfl (0 : Fin 3) (Or.inr (show 0 + 1 ≤ 1 by decide)), View.writes_nil, harg12.read_unread]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay1, slab_read1]

theorem v136B (xs0 : FVec Ideal S4x264x1024 .f32) (n : Fin 256) (d : Fin 1024) : runB.sl.v136 (F := Ideal) c arg1 harg1 arg12 harg12 x0 xs0 (ix3 (0 : Fin 1) n d) = tap (oldRows xs0) x0 1 ⟨n.val + 6, by omega⟩ d := by
  unfold runB.sl.v136
  rw [readAt_apply]
  refine (congrArg _ (row_at 1 6 _ n d)).trans ?_
  unfold tap runB.sl.H12_3
  by_cases h : n.val + 6 < 8
  · rw [dif_pos h, read_writes_cons_unit_of_not_mem _ _ _ _ _ _ rfl (1 : Fin 3) (Or.inl h), read_writes_cons_unit_of_not_mem _ _ _ _ _ _ rfl (0 : Fin 3) (Or.inr (show 0 + 1 ≤ 1 by decide))]
    unfold runB.sl.H12_1
    rw [read_writes_cons_unit_of_not_mem _ _ _ _ _ _ rfl (0 : Fin 3) (Or.inr (show 0 + 1 ≤ 1 by decide)), View.writes_nil, harg12.read_unread]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay1, slab_read1]

theorem v142B (xs0 : FVec Ideal S4x264x1024 .f32) (n : Fin 256) (d : Fin 1024) : runB.sl.v142 (F := Ideal) c arg1 harg1 arg12 harg12 x0 xs0 (ix3 (0 : Fin 1) n d) = tap (oldRows xs0) x0 1 ⟨n.val + 7, by omega⟩ d := by
  unfold runB.sl.v142
  rw [readAt_apply]
  refine (congrArg _ (row_at 1 7 _ n d)).trans ?_
  unfold tap runB.sl.H12_3
  by_cases h : n.val + 7 < 8
  · rw [dif_pos h, read_writes_cons_unit_of_not_mem _ _ _ _ _ _ rfl (1 : Fin 3) (Or.inl h), read_writes_cons_unit_of_not_mem _ _ _ _ _ _ rfl (0 : Fin 3) (Or.inr (show 0 + 1 ≤ 1 by decide))]
    unfold runB.sl.H12_1
    rw [read_writes_cons_unit_of_not_mem _ _ _ _ _ _ rfl (0 : Fin 3) (Or.inr (show 0 + 1 ≤ 1 by decide)), View.writes_nil, harg12.read_unread]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay1, slab_read1]

theorem v147B (n : Fin 8) (d : Fin 1024) : runB.sl.v147 (F := Ideal) c arg1 harg1 arg12 x0 (ix3 (0 : Fin 1) n d) = x0 (ix3 (1 : Fin 4) (⟨248 + n.val, by omega⟩ : Fin 256) d) := by
  unfold runB.sl.v147 View.readCov
  rw [readAt_apply]
  refine (congrArg _ (end_at 1 _ n d)).trans ?_
  unfold runB.sl.H12_3
  rw [read_writes_cons_unit_of_mem _ _ _ _ _ _ (ix3 (0 : Fin 1) (⟨248 + n.val, by omega⟩ : Fin 256) d) rfl (by intro a; fin_cases a <;> simp [ix3] <;> omega), slab_pay1, slab_read1]

theorem v243B (xs0 : FVec Ideal S4x264x1024 .f32) (n : Fin 256) (d : Fin 1024) : runB.sl.v243 (F := Ideal) c arg1 harg1 arg12 harg12 x0 xs0 (ix3 (0 : Fin 1) n d) = tap (oldRows xs0) x0 2 ⟨n.val + 5, by omega⟩ d := by
  unfold runB.sl.v243
  rw [readAt_apply]
  refine (congrArg _ (row_at 2 5 _ n d)).trans ?_
  unfold tap runB.sl.H12_5
  by_cases h : n.val + 5 < 8
  · rw [dif_pos h, read_writes_cons_unit_of_not_mem _ _ _ _ _ _ rfl (1 : Fin 3) (Or.inl h), read_writes_cons_unit_of_not_mem _ _ _ _ _ _ rfl (0 : Fin 3) (Or.inr (show 1 + 1 ≤ 2 by decide))]
    unfold runB.sl.H12_3
    rw [read_writes_cons_unit_of_not_mem _ _ _ _ _ _ rfl (0 : Fin 3) (Or.inr (show 1 + 1 ≤ 2 by decide)), read_writes_cons_unit_of_not_mem _ _ _ _ _ _ rfl (0 : Fin 3) (Or.inr (show 0 + 1 ≤ 2 by decide))]
    unfold runB.sl.H12_1
    rw [read_writes_cons_unit_of_not_mem _ _ _ _ _ _ rfl (0 : Fin 3) (Or.inr (show 0 + 1 ≤ 2 by decide)), View.writes_nil, harg12.read_unread]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay2, slab_read2]

theorem v249B (xs0 : FVec Ideal S4x264x1024 .f32) (n : Fin 256) (d : Fin 1024) : runB.sl.v249 (F := Ideal) c arg1 harg1 arg12 harg12 x0 xs0 (ix3 (0 : Fin 1) n d) = tap (oldRows xs0) x0 2 ⟨n.val + 6, by omega⟩ d := by
  unfold runB.sl.v249
  rw [readAt_apply]
  refine (congrArg _ (row_at 2 6 _ n d)).trans ?_
  unfold tap runB.sl.H12_5
  by_cases h : n.val + 6 < 8
  · rw [dif_pos h, read_writes_cons_unit_of_not_mem _ _ _ _ _ _ rfl (1 : Fin 3) (Or.inl h), read_writes_cons_unit_of_not_mem _ _ _ _ _ _ rfl (0 : Fin 3) (Or.inr (show 1 + 1 ≤ 2 by decide))]
    unfold runB.sl.H12_3
    rw [read_writes_cons_unit_of_not_mem _ _ _ _ _ _ rfl (0 : Fin 3) (Or.inr (show 1 + 1 ≤ 2 by decide)), read_writes_cons_unit_of_not_mem _ _ _ _ _ _ rfl (0 : Fin 3) (Or.inr (show 0 + 1 ≤ 2 by decide))]
    unfold runB.sl.H12_1
    rw [read_writes_cons_unit_of_not_mem _ _ _ _ _ _ rfl (0 : Fin 3) (Or.inr (show 0 + 1 ≤ 2 by decide)), View.writes_nil, harg12.read_unread]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay2, slab_read2]

theorem v255B (xs0 : FVec Ideal S4x264x1024 .f32) (n : Fin 256) (d : Fin 1024) : runB.sl.v255 (F := Ideal) c arg1 harg1 arg12 harg12 x0 xs0 (ix3 (0 : Fin 1) n d) = tap (oldRows xs0) x0 2 ⟨n.val + 7, by omega⟩ d := by
  unfold runB.sl.v255
  rw [readAt_apply]
  refine (congrArg _ (row_at 2 7 _ n d)).trans ?_
  unfold tap runB.sl.H12_5
  by_cases h : n.val + 7 < 8
  · rw [dif_pos h, read_writes_cons_unit_of_not_mem _ _ _ _ _ _ rfl (1 : Fin 3) (Or.inl h), read_writes_cons_unit_of_not_mem _ _ _ _ _ _ rfl (0 : Fin 3) (Or.inr (show 1 + 1 ≤ 2 by decide))]
    unfold runB.sl.H12_3
    rw [read_writes_cons_unit_of_not_mem _ _ _ _ _ _ rfl (0 : Fin 3) (Or.inr (show 1 + 1 ≤ 2 by decide)), read_writes_cons_unit_of_not_mem _ _ _ _ _ _ rfl (0 : Fin 3) (Or.inr (show 0 + 1 ≤ 2 by decide))]
    unfold runB.sl.H12_1
    rw [read_writes_cons_unit_of_not_mem _ _ _ _ _ _ rfl (0 : Fin 3) (Or.inr (show 0 + 1 ≤ 2 by decide)), View.writes_nil, harg12.read_unread]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay2, slab_read2]

theorem v260B (n : Fin 8) (d : Fin 1024) : runB.sl.v260 (F := Ideal) c arg1 harg1 arg12 x0 (ix3 (0 : Fin 1) n d) = x0 (ix3 (2 : Fin 4) (⟨248 + n.val, by omega⟩ : Fin 256) d) := by
  unfold runB.sl.v260 View.readCov
  rw [readAt_apply]
  refine (congrArg _ (end_at 2 _ n d)).trans ?_
  unfold runB.sl.H12_5
  rw [read_writes_cons_unit_of_mem _ _ _ _ _ _ (ix3 (0 : Fin 1) (⟨248 + n.val, by omega⟩ : Fin 256) d) rfl (by intro a; fin_cases a <;> simp [ix3] <;> omega), slab_pay2, slab_read2]

theorem v356B (xs0 : FVec Ideal S4x264x1024 .f32) (n : Fin 256) (d : Fin 1024) : runB.sl.v356 (F := Ideal) c arg1 harg1 arg12 harg12 x0 xs0 (ix3 (0 : Fin 1) n d) = tap (oldRows xs0) x0 3 ⟨n.val + 5, by omega⟩ d := by
  unfold runB.sl.v356
  rw [readAt_apply]
  refine (congrArg _ (row_at 3 5 _ n d)).trans ?_
  unfold tap runB.sl.H12_7
  by_cases h : n.val + 5 < 8
  · rw [dif_pos h, read_writes_cons_unit_of_not_mem _ _ _ _ _ _ rfl (1 : Fin 3) (Or.inl h), read_writes_cons_unit_of_not_mem _ _ _ _ _ _ rfl (0 : Fin 3) (Or.inr (show 2 + 1 ≤ 3 by decide))]
    unfold runB.sl.H12_5
    rw [read_writes_cons_unit_of_not_mem _ _ _ _ _ _ rfl (0 : Fin 3) (Or.inr (show 2 + 1 ≤ 3 by decide)), read_writes_cons_unit_of_not_mem _ _ _ _ _ _ rfl (0 : Fin 3) (Or.inr (show 1 + 1 ≤ 3 by decide))]
    unfold runB.sl.H12_3
    rw [read_writes_cons_unit_of_not_mem _ _ _ _ _ _ rfl (0 : Fin 3) (Or.inr (show 1 + 1 ≤ 3 by decide)), read_writes_cons_unit_of_not_mem _ _ _ _ _ _ rfl (0 : Fin 3) (Or.inr (show 0 + 1 ≤ 3 by decide))]
    unfold runB.sl.H12_1
    rw [read_writes_cons_unit_of_not_mem _ _ _ _ _ _ rfl (0 : Fin 3) (Or.inr (show 0 + 1 ≤ 3 by decide)), View.writes_nil, harg12.read_unread]
    rfl
  · rw [dif_neg h, read_writes_cons_unit_of_mem _ _ _ _ _ _ (ix3 (0 : Fin 1) (⟨n.val + 5 - 8, by omega⟩ : Fin 256) d) rfl (by intro a; fin_cases a <;> simp [ix3] <;> omega), slab_pay3, slab_read3]

theorem v362B (xs0 : FVec Ideal S4x264x1024 .f32) (n : Fin 256) (d : Fin 1024) : runB.sl.v362 (F := Ideal) c arg1 harg1 arg12 harg12 x0 xs0 (ix3 (0 : Fin 1) n d) = tap (oldRows xs0) x0 3 ⟨n.val + 6, by omega⟩ d := by
  unfold runB.sl.v362
  rw [readAt_apply]
  refine (congrArg _ (row_at 3 6 _ n d)).trans ?_
  unfold tap runB.sl.H12_7
  by_cases h : n.val + 6 < 8
  · rw [dif_pos h, read_writes_cons_unit_of_not_mem _ _ _ _ _ _ rfl (1 : Fin 3) (Or.inl h), read_writes_cons_unit_of_not_mem _ _ _ _ _ _ rfl (0 : Fin 3) (Or.inr (show 2 + 1 ≤ 3 by decide))]
    unfold runB.sl.H12_5
    rw [read_writes_cons_unit_of_not_mem _ _ _ _ _ _ rfl (0 : Fin 3) (Or.inr (show 2 + 1 ≤ 3 by decide)), read_writes_cons_unit_of_not_mem _ _ _ _ _ _ rfl (0 : Fin 3) (Or.inr (show 1 + 1 ≤ 3 by decide))]
    unfold runB.sl.H12_3
    rw [read_writes_cons_unit_of_not_mem _ _ _ _ _ _ rfl (0 : Fin 3) (Or.inr (show 1 + 1 ≤ 3 by decide)), read_writes_cons_unit_of_not_mem _ _ _ _ _ _ rfl (0 : Fin 3) (Or.inr (show 0 + 1 ≤ 3 by decide))]
    unfold runB.sl.H12_1
    rw [read_writes_cons_unit_of_not_mem _ _ _ _ _ _ rfl (0 : Fin 3) (Or.inr (show 0 + 1 ≤ 3 by decide)), View.writes_nil, harg12.read_unread]
    rfl
  · rw [dif_neg h, read_writes_cons_unit_of_mem _ _ _ _ _ _ (ix3 (0 : Fin 1) (⟨n.val + 6 - 8, by omega⟩ : Fin 256) d) rfl (by intro a; fin_cases a <;> simp [ix3] <;> omega), slab_pay3, slab_read3]

theorem v368B (xs0 : FVec Ideal S4x264x1024 .f32) (n : Fin 256) (d : Fin 1024) : runB.sl.v368 (F := Ideal) c arg1 harg1 arg12 harg12 x0 xs0 (ix3 (0 : Fin 1) n d) = tap (oldRows xs0) x0 3 ⟨n.val + 7, by omega⟩ d := by
  unfold runB.sl.v368
  rw [readAt_apply]
  refine (congrArg _ (row_at 3 7 _ n d)).trans ?_
  unfold tap runB.sl.H12_7
  by_cases h : n.val + 7 < 8
  · rw [dif_pos h, read_writes_cons_unit_of_not_mem _ _ _ _ _ _ rfl (1 : Fin 3) (Or.inl h), read_writes_cons_unit_of_not_mem _ _ _ _ _ _ rfl (0 : Fin 3) (Or.inr (show 2 + 1 ≤ 3 by decide))]
    unfold runB.sl.H12_5
    rw [read_writes_cons_unit_of_not_mem _ _ _ _ _ _ rfl (0 : Fin 3) (Or.inr (show 2 + 1 ≤ 3 by decide)), read_writes_cons_unit_of_not_mem _ _ _ _ _ _ rfl (0 : Fin 3) (Or.inr (show 1 + 1 ≤ 3 by decide))]
    unfold runB.sl.H12_3
    rw [read_writes_cons_unit_of_not_mem _ _ _ _ _ _ rfl (0 : Fin 3) (Or.inr (show 1 + 1 ≤ 3 by decide)), read_writes_cons_unit_of_not_mem _ _ _ _ _ _ rfl (0 : Fin 3) (Or.inr (show 0 + 1 ≤ 3 by decide))]
    unfold runB.sl.H12_1
    rw [read_writes_cons_unit_of_not_mem _ _ _ _ _ _ rfl (0 : Fin 3) (Or.inr (show 0 + 1 ≤ 3 by decide)), View.writes_nil, harg12.read_unread]
    rfl
  · rw [dif_neg h, read_writes_cons_unit_of_mem _ _ _ _ _ _ (ix3 (0 : Fin 1) (⟨n.val + 7 - 8, by omega⟩ : Fin 256) d) rfl (by intro a; fin_cases a <;> simp [ix3] <;> omega), slab_pay3, slab_read3]

theorem v373B (n : Fin 8) (d : Fin 1024) : runB.sl.v373 (F := Ideal) c arg1 harg1 arg12 x0 (ix3 (0 : Fin 1) n d) = x0 (ix3 (3 : Fin 4) (⟨248 + n.val, by omega⟩ : Fin 256) d) := by
  unfold runB.sl.v373 View.readCov
  rw [readAt_apply]
  refine (congrArg _ (end_at 3 _ n d)).trans ?_
  unfold runB.sl.H12_7
  rw [read_writes_cons_unit_of_mem _ _ _ _ _ _ (ix3 (0 : Fin 1) (⟨248 + n.val, by omega⟩ : Fin 256) d) rfl (by intro a; fin_cases a <;> simp [ix3] <;> omega), slab_pay3, slab_read3]

end

/-! ## The rows kept for the next block -/

section
variable (c : Dev nD) (arg1 : Memref sig .tc .vmem S4x256x1024 .f32) (harg1 : arg1.IsWhole) (arg12 : Memref sig .tc .vmem S4x264x1024 .f32) (x0 : FVec Ideal S4x256x1024 .f32) (v : View sig .tc .vmem S4x264x1024 .f32) (f : BufTy.Contents (Elt Ideal) v.ty)

theorem keptA (b : Fin 4) (n : Fin 8) (d : Fin 1024) :
    v.read (Elt Ideal) (v.writes (Elt Ideal) f (runA.sl.H12_9 (F := Ideal) c arg1 harg1 arg12 x0)) (ix3 b (⟨n.val, by omega⟩ : Fin 264) d) = x0 (ix3 b (⟨248 + n.val, by omega⟩ : Fin 256) d) := by
  unfold runA.sl.H12_9
  fin_cases b
  · rw [read_writes_cons_unit_of_not_mem _ _ _ _ _ _ rfl (0 : Fin 3) (Or.inl (show 0 < 3 by decide))]
    unfold runA.sl.H12_8
    rw [read_writes_cons_unit_of_not_mem _ _ _ _ _ _ rfl (0 : Fin 3) (Or.inl (show 0 < 3 by decide)), read_writes_cons_unit_of_not_mem _ _ _ _ _ _ rfl (0 : Fin 3) (Or.inl (show 0 < 2 by decide))]
    unfold runA.sl.H12_6
    rw [read_writes_cons_unit_of_not_mem _ _ _ _ _ _ rfl (0 : Fin 3) (Or.inl (show 0 < 2 by decide)), read_writes_cons_unit_of_not_mem _ _ _ _ _ _ rfl (0 : Fin 3) (Or.inl (show 0 < 1 by decide))]
    unfold runA.sl.H12_4
    rw [read_writes_cons_unit_of_not_mem _ _ _ _ _ _ rfl (0 : Fin 3) (Or.inl (show 0 < 1 by decide)), read_writes_cons_unit_of_mem _ _ _ _ _ _ (ix3 (0 : Fin 1) n d) rfl (by intro a; fin_cases a <;> simp [ix3]), kept_pay0, v34A]
    rfl
  · rw [read_writes_cons_unit_of_not_mem _ _ _ _ _ _ rfl (0 : Fin 3) (Or.inl (show 1 < 3 by decide))]
    unfold runA.sl.H12_8
    rw [read_writes_cons_unit_of_not_mem _ _ _ _ _ _ rfl (0 : Fin 3) (Or.inl (show 1 < 3 by decide)), read_writes_cons_unit_of_not_mem _ _ _ _ _ _ rfl (0 : Fin 3) (Or.inl (show 1 < 2 by decide))]
    unfold runA.sl.H12_6
    rw [read_writes_cons_unit_of_not_mem _ _ _ _ _ _ rfl (0 : Fin 3) (Or.inl (show 1 < 2 by decide)), read_writes_cons_unit_of_mem _ _ _ _ _ _ (ix3 (0 : Fin 1) n d) rfl (by intro a; fin_cases a <;> simp [ix3]), kept_pay1, v147A]
    rfl
  · rw [read_writes_cons_unit_of_not_mem _ _ _ _ _ _ rfl (0 : Fin 3) (Or.inl (show 2 < 3 by decide))]
    unfold runA.sl.H12_8
    rw [read_writes_cons_unit_of_not_mem _ _ _ _ _ _ rfl (0 : Fin 3) (Or.inl (show 2 < 3 by decide)), read_writes_cons_unit_of_mem _ _ _ _ _ _ (ix3 (0 : Fin 1) n d) rfl (by intro a; fin_cases a <;> simp [ix3]), kept_pay2, v260A]
    rfl
  · rw [read_writes_cons_unit_of_mem _ _ _ _ _ _ (ix3 (0 : Fin 1) n d) rfl (by intro a; fin_cases a <;> simp [ix3]), kept_pay3, v373A]
    rfl

theorem keptB (b : Fin 4) (n : Fin 8) (d : Fin 1024) :
    v.read (Elt Ideal) (v.writes (Elt Ideal) f (runB.sl.H12_8 (F := Ideal) c arg1 harg1 arg12 x0)) (ix3 b (⟨n.val, by omega⟩ : Fin 264) d) = x0 (ix3 b (⟨248 + n.val, by omega⟩ : Fin 256) d) := by
  unfold runB.sl.H12_8
  fin_cases b
  · rw [read_writes_cons_unit_of_not_mem _ _ _ _ _ _ rfl (0 : Fin 3) (Or.inl (show 0 < 3 by decide))]
    unfold runB.sl.H12_7
    rw [read_writes_cons_unit_of_not_mem _ _ _ _ _ _ rfl (0 : Fin 3) (Or.inl (show 0 < 3 by decide)), read_writes_cons_unit_of_not_mem _ _ _ _ _ _ rfl (0 : Fin 3) (Or.inl (show 0 < 2 by decide))]
    unfold runB.sl.H12_5
    rw [read_writes_cons_unit_of_not_mem _ _ _ _ _ _ rfl (0 : Fin 3) (Or.inl (show 0 < 2 by decide)), read_writes_cons_unit_of_not_mem _ _ _ _ _ _ rfl (0 : Fin 3) (Or.inl (show 0 < 1 by decide))]
    unfold runB.sl.H12_3
    rw [read_writes_cons_unit_of_not_mem _ _ _ _ _ _ rfl (0 : Fin 3) (Or.inl (show 0 < 1 by decide)), read_writes_cons_unit_of_mem _ _ _ _ _ _ (ix3 (0 : Fin 1) n d) rfl (by intro a; fin_cases a <;> simp [ix3]), kept_pay0, v34B]
    rfl
  · rw [read_writes_cons_unit_of_not_mem _ _ _ _ _ _ rfl (0 : Fin 3) (Or.inl (show 1 < 3 by decide))]
    unfold runB.sl.H12_7
    rw [read_writes_cons_unit_of_not_mem _ _ _ _ _ _ rfl (0 : Fin 3) (Or.inl (show 1 < 3 by decide)), read_writes_cons_unit_of_not_mem _ _ _ _ _ _ rfl (0 : Fin 3) (Or.inl (show 1 < 2 by decide))]
    unfold runB.sl.H12_5
    rw [read_writes_cons_unit_of_not_mem _ _ _ _ _ _ rfl (0 : Fin 3) (Or.inl (show 1 < 2 by decide)), read_writes_cons_unit_of_mem _ _ _ _ _ _ (ix3 (0 : Fin 1) n d) rfl (by intro a; fin_cases a <;> simp [ix3]), kept_pay1, v147B]
    rfl
  · rw [read_writes_cons_unit_of_not_mem _ _ _ _ _ _ rfl (0 : Fin 3) (Or.inl (show 2 < 3 by decide))]
    unfold runB.sl.H12_7
    rw [read_writes_cons_unit_of_not_mem _ _ _ _ _ _ rfl (0 : Fin 3) (Or.inl (show 2 < 3 by decide)), read_writes_cons_unit_of_mem _ _ _ _ _ _ (ix3 (0 : Fin 1) n d) rfl (by intro a; fin_cases a <;> simp [ix3]), kept_pay2, v260B]
    rfl
  · rw [read_writes_cons_unit_of_mem _ _ _ _ _ _ (ix3 (0 : Fin 1) n d) rfl (by intro a; fin_cases a <;> simp [ix3]), kept_pay3, v373B]
    rfl

end

end Cert.RgIdeal.Body

end
-- ==== Proof.RgIdeal.Positions.lean ====
/-
  What the recurrence's loop reads, at one position: the decay and the input's share, from the input's rows, the rows kept
  from the block before and the parameters.
-/
module

public import proofs.«01_k».proof.Proof.RgIdeal.Taps

@[expose] public section

set_option maxRecDepth 16384

noncomputable section

namespace Cert.RgIdeal.Body

open Cert.RgIdeal Cert.RgIdeal.Gen
open Idealize.ShloMosaic Idealize.ShloMosaic.TcCoe

/-- The convolution at one position. -/
def cvAt (prev : Fin 4 → Fin 8 → Fin 1024 → EReal) (x0 : FVec Ideal S4x256x1024 .f32) (x2 : FVec Ideal S4x1024 .f32) (x3 : FVec Ideal S1x1024 .f32)
    (b : Fin 4) (n : Fin 256) (d : Fin 1024) : EReal :=
  convAt x2 x3 d (x0 (ix3 b n d)) (tap prev x0 b ⟨n.val + 5, by omega⟩ d) (tap prev x0 b ⟨n.val + 6, by omega⟩ d) (tap prev x0 b ⟨n.val + 7, by omega⟩ d)

/-- The logarithm of the decay at one position. -/
def logAt (prev : Fin 4 → Fin 8 → Fin 1024 → EReal) (x0 : FVec Ideal S4x256x1024 .f32) (x2 : FVec Ideal S4x1024 .f32) (x3 : FVec Ideal S1x1024 .f32)
    (x4 : FVec Ideal S4x256x256 .bf16) (x5 x8 : FVec Ideal S1x1024 .f32) (b : Fin 4) (n : Fin 256) (d : Fin 1024) : EReal :=
  logDecay (gateSum (cvAt prev x0 x2 x3 b n) x4 d) (x5 (ix2 (0 : Fin 1) d)) (x8 (ix2 (0 : Fin 1) d))

/-- The input's share at one position. -/
def shareAt (prev : Fin 4 → Fin 8 → Fin 1024 → EReal) (x0 : FVec Ideal S4x256x1024 .f32) (x2 : FVec Ideal S4x1024 .f32) (x3 : FVec Ideal S1x1024 .f32)
    (x4 : FVec Ideal S4x256x256 .bf16) (x5 : FVec Ideal S1x1024 .f32) (x6 : FVec Ideal S4x256x256 .bf16) (x7 x8 : FVec Ideal S1x1024 .f32)
    (b : Fin 4) (n : Fin 256) (d : Fin 1024) : EReal :=
  inputShare (logAt prev x0 x2 x3 x4 x5 x8 b n d) (gateSum (cvAt prev x0 x2 x3 b n) x6 d) (x7 (ix2 (0 : Fin 1) d)) (cvAt prev x0 x2 x3 b n d)

/-! ## At the first point -/

section
variable (c : Dev nD) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S4x256x1024 .bf16) (harg10 : arg10.IsWhole) (arg11 : Memref sig .tc .vmem S4x1x1024 .f32) (harg11 : arg11.IsWhole) (arg12 : Memref sig .tc .vmem S4x264x1024 .f32) (harg12 : arg12.IsWhole) (arg13 : Memref sig .tc .vmem S4x8x1024 .f32) (harg13 : arg13.IsWhole) (arg14 : Memref sig .tc .vmem S4x256x1024 .f32) (harg14 : arg14.IsWhole) (arg15 : Memref sig .tc .vmem S4x256x1024 .f32) (harg15 : arg15.IsWhole) (arg16 : Memref sig .tc .vmem S4x256x1024 .f32) (harg16 : arg16.IsWhole) (x0 : FVec Ideal S4x256x1024 .f32) (x1 : FVec Ideal S4x256x1024 .f32) (x2 : FVec Ideal S4x1024 .f32) (x3 : FVec Ideal S1x1024 .f32) (x4 : FVec Ideal S4x256x256 .bf16) (x5 : FVec Ideal S1x1024 .f32) (x6 : FVec Ideal S4x256x256 .bf16) (x7 : FVec Ideal S1x1024 .f32) (x8 : FVec Ideal S1x1024 .f32)

/-- The convolution of batch 0. -/
def convA0 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (x0 : FVec Ideal S4x256x1024 .f32) (x2 : FVec Ideal S4x1024 .f32) (x3 : FVec Ideal S1x1024 .f32) : FVec Ideal S256x1024 .f32 :=
  k0_pay46 (F := Ideal) (runA.sl.r (F := Ideal) c arg3 harg3 x2) (View.readAt (Elt Ideal) arg1.view (Rect.unit (s := S4x256x1024) ![0, 0, 0] S1x256x1024.size inb_S4x256x1024_S1x256x1024_0_0_0).toLoadRect (harg1.unread x0)) (View.readAt (Elt Ideal) arg4.view (Rect.unit (s := S1x1024) ![0, 0] S1x1024.size inb_S1x1024_S1x1024_0_0).toLoadRect (harg4.unread x3)) (runA.sl.v17 (F := Ideal) c arg1 harg1 arg12 x0) (runA.sl.v23 (F := Ideal) c arg1 harg1 arg12 x0) (runA.sl.v29 (F := Ideal) c arg1 harg1 arg12 x0)

theorem convA0_at (n : Fin 256) (d : Fin 1024) : convA0 c arg1 harg1 arg3 harg3 arg4 harg4 arg12 x0 x2 x3 (ix2 n d) = cvAt noRows x0 x2 x3 0 n d := by
  unfold convA0
  rw [conv_at, slab_read0, v17A, v23A, v29A, row_read]
  unfold runA.sl.r
  rw [taps_read]
  rfl

theorem facA0 (n : Fin 256) (d : Fin 1024) : facA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 4) n d) = Ideal.exp (logAt noRows x0 x2 x3 x4 x5 x8 0 n d) := by
  unfold facA runA.sl.H14_4
  rw [View.read_writes_cons_unit_of_not_mem _ _ _ _ _ _ rfl (0 : Fin 3) (Or.inl (show 0 < 3 by decide))]
  rw [View.read_writes_cons_unit_of_not_mem _ _ _ _ _ _ rfl (0 : Fin 3) (Or.inl (show 0 < 2 by decide))]
  rw [View.read_writes_cons_unit_of_not_mem _ _ _ _ _ _ rfl (0 : Fin 3) (Or.inl (show 0 < 1 by decide))]
  rw [View.read_writes_cons_unit_of_mem _ _ _ _ _ _ (ix3 (0 : Fin 1) n d) rfl (by intro a; fin_cases a <;> simp [ix3])]
  refine (congrFun ?_ _).trans ((decay_at (convA0 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convA0_at]
    rfl

theorem addA0 (n : Fin 256) (d : Fin 1024) : addA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 4) n d) = shareAt noRows x0 x2 x3 x4 x5 x6 x7 x8 0 n d := by
  unfold addA runA.sl.H15_4
  rw [View.read_writes_cons_unit_of_not_mem _ _ _ _ _ _ rfl (0 : Fin 3) (Or.inl (show 0 < 3 by decide))]
  rw [View.read_writes_cons_unit_of_not_mem _ _ _ _ _ _ rfl (0 : Fin 3) (Or.inl (show 0 < 2 by decide))]
  rw [View.read_writes_cons_unit_of_not_mem _ _ _ _ _ _ rfl (0 : Fin 3) (Or.inl (show 0 < 1 by decide))]
  rw [View.read_writes_cons_unit_of_mem _ _ _ _ _ _ (ix3 (0 : Fin 1) n d) rfl (by intro a; fin_cases a <;> simp [ix3])]
  refine (congrFun ?_ _).trans ((share_at (convA0 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convA0_at]
    rfl

/-- The convolution of batch 1. -/
def convA1 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (x0 : FVec Ideal S4x256x1024 .f32) (x2 : FVec Ideal S4x1024 .f32) (x3 : FVec Ideal S1x1024 .f32) : FVec Ideal S256x1024 .f32 :=
  k0_pay46 (F := Ideal) (runA.sl.r (F := Ideal) c arg3 harg3 x2) (View.readAt (Elt Ideal) arg1.view (Rect.unit (s := S4x256x1024) ![1, 0, 0] S1x256x1024.size inb_S4x256x1024_S1x256x1024_1_0_0).toLoadRect (harg1.unread x0)) (View.readAt (Elt Ideal) arg4.view (Rect.unit (s := S1x1024) ![0, 0] S1x1024.size inb_S1x1024_S1x1024_0_0).toLoadRect (harg4.unread x3)) (runA.sl.v130 (F := Ideal) c arg1 harg1 arg12 x0) (runA.sl.v136 (F := Ideal) c arg1 harg1 arg12 x0) (runA.sl.v142 (F := Ideal) c arg1 harg1 arg12 x0)

theorem convA1_at (n : Fin 256) (d : Fin 1024) : convA1 c arg1 harg1 arg3 harg3 arg4 harg4 arg12 x0 x2 x3 (ix2 n d) = cvAt noRows x0 x2 x3 1 n d := by
  unfold convA1
  rw [conv_at, slab_read1, v130A, v136A, v142A, row_read]
  unfold runA.sl.r
  rw [taps_read]
  rfl

theorem facA1 (n : Fin 256) (d : Fin 1024) : facA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (1 : Fin 4) n d) = Ideal.exp (logAt noRows x0 x2 x3 x4 x5 x8 1 n d) := by
  unfold facA runA.sl.H14_4
  rw [View.read_writes_cons_unit_of_not_mem _ _ _ _ _ _ rfl (0 : Fin 3) (Or.inl (show 1 < 3 by decide))]
  rw [View.read_writes_cons_unit_of_not_mem _ _ _ _ _ _ rfl (0 : Fin 3) (Or.inl (show 1 < 2 by decide))]
  rw [View.read_writes_cons_unit_of_mem _ _ _ _ _ _ (ix3 (0 : Fin 1) n d) rfl (by intro a; fin_cases a <;> simp [ix3])]
  refine (congrFun ?_ _).trans ((decay_at (convA1 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convA1_at]
    rfl

theorem addA1 (n : Fin 256) (d : Fin 1024) : addA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (1 : Fin 4) n d) = shareAt noRows x0 x2 x3 x4 x5 x6 x7 x8 1 n d := by
  unfold addA runA.sl.H15_4
  rw [View.read_writes_cons_unit_of_not_mem _ _ _ _ _ _ rfl (0 : Fin 3) (Or.inl (show 1 < 3 by decide))]
  rw [View.read_writes_cons_unit_of_not_mem _ _ _ _ _ _ rfl (0 : Fin 3) (Or.inl (show 1 < 2 by decide))]
  rw [View.read_writes_cons_unit_of_mem _ _ _ _ _ _ (ix3 (0 : Fin 1) n d) rfl (by intro a; fin_cases a <;> simp [ix3])]
  refine (congrFun ?_ _).trans ((share_at (convA1 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convA1_at]
    rfl

/-- The convolution of batch 2. -/
def convA2 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (x0 : FVec Ideal S4x256x1024 .f32) (x2 : FVec Ideal S4x1024 .f32) (x3 : FVec Ideal S1x1024 .f32) : FVec Ideal S256x1024 .f32 :=
  k0_pay46 (F := Ideal) (runA.sl.r (F := Ideal) c arg3 harg3 x2) (View.readAt (Elt Ideal) arg1.view (Rect.unit (s := S4x256x1024) ![2, 0, 0] S1x256x1024.size inb_S4x256x1024_S1x256x1024_2_0_0).toLoadRect (harg1.unread x0)) (View.readAt (Elt Ideal) arg4.view (Rect.unit (s := S1x1024) ![0, 0] S1x1024.size inb_S1x1024_S1x1024_0_0).toLoadRect (harg4.unread x3)) (runA.sl.v243 (F := Ideal) c arg1 harg1 arg12 x0) (runA.sl.v249 (F := Ideal) c arg1 harg1 arg12 x0) (runA.sl.v255 (F := Ideal) c arg1 harg1 arg12 x0)

theorem convA2_at (n : Fin 256) (d : Fin 1024) : convA2 c arg1 harg1 arg3 harg3 arg4 harg4 arg12 x0 x2 x3 (ix2 n d) = cvAt noRows x0 x2 x3 2 n d := by
  unfold convA2
  rw [conv_at, slab_read2, v243A, v249A, v255A, row_read]
  unfold runA.sl.r
  rw [taps_read]
  rfl

theorem facA2 (n : Fin 256) (d : Fin 1024) : facA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (2 : Fin 4) n d) = Ideal.exp (logAt noRows x0 x2 x3 x4 x5 x8 2 n d) := by
  unfold facA runA.sl.H14_4
  rw [View.read_writes_cons_unit_of_not_mem _ _ _ _ _ _ rfl (0 : Fin 3) (Or.inl (show 2 < 3 by decide))]
  rw [View.read_writes_cons_unit_of_mem _ _ _ _ _ _ (ix3 (0 : Fin 1) n d) rfl (by intro a; fin_cases a <;> simp [ix3])]
  refine (congrFun ?_ _).trans ((decay_at (convA2 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convA2_at]
    rfl

theorem addA2 (n : Fin 256) (d : Fin 1024) : addA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (2 : Fin 4) n d) = shareAt noRows x0 x2 x3 x4 x5 x6 x7 x8 2 n d := by
  unfold addA runA.sl.H15_4
  rw [View.read_writes_cons_unit_of_not_mem _ _ _ _ _ _ rfl (0 : Fin 3) (Or.inl (show 2 < 3 by decide))]
  rw [View.read_writes_cons_unit_of_mem _ _ _ _ _ _ (ix3 (0 : Fin 1) n d) rfl (by intro a; fin_cases a <;> simp [ix3])]
  refine (congrFun ?_ _).trans ((share_at (convA2 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convA2_at]
    rfl

/-- The convolution of batch 3. -/
def convA3 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (x0 : FVec Ideal S4x256x1024 .f32) (x2 : FVec Ideal S4x1024 .f32) (x3 : FVec Ideal S1x1024 .f32) : FVec Ideal S256x1024 .f32 :=
  k0_pay46 (F := Ideal) (runA.sl.r (F := Ideal) c arg3 harg3 x2) (View.readAt (Elt Ideal) arg1.view (Rect.unit (s := S4x256x1024) ![3, 0, 0] S1x256x1024.size inb_S4x256x1024_S1x256x1024_3_0_0).toLoadRect (harg1.unread x0)) (View.readAt (Elt Ideal) arg4.view (Rect.unit (s := S1x1024) ![0, 0] S1x1024.size inb_S1x1024_S1x1024_0_0).toLoadRect (harg4.unread x3)) (runA.sl.v356 (F := Ideal) c arg1 harg1 arg12 x0) (runA.sl.v362 (F := Ideal) c arg1 harg1 arg12 x0) (runA.sl.v368 (F := Ideal) c arg1 harg1 arg12 x0)

theorem convA3_at (n : Fin 256) (d : Fin 1024) : convA3 c arg1 harg1 arg3 harg3 arg4 harg4 arg12 x0 x2 x3 (ix2 n d) = cvAt noRows x0 x2 x3 3 n d := by
  unfold convA3
  rw [conv_at, slab_read3, v356A, v362A, v368A, row_read]
  unfold runA.sl.r
  rw [taps_read]
  rfl

theorem facA3 (n : Fin 256) (d : Fin 1024) : facA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (3 : Fin 4) n d) = Ideal.exp (logAt noRows x0 x2 x3 x4 x5 x8 3 n d) := by
  unfold facA runA.sl.H14_4
  rw [View.read_writes_cons_unit_of_mem _ _ _ _ _ _ (ix3 (0 : Fin 1) n d) rfl (by intro a; fin_cases a <;> simp [ix3])]
  refine (congrFun ?_ _).trans ((decay_at (convA3 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convA3_at]
    rfl

theorem addA3 (n : Fin 256) (d : Fin 1024) : addA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (3 : Fin 4) n d) = shareAt noRows x0 x2 x3 x4 x5 x6 x7 x8 3 n d := by
  unfold addA runA.sl.H15_4
  rw [View.read_writes_cons_unit_of_mem _ _ _ _ _ _ (ix3 (0 : Fin 1) n d) rfl (by intro a; fin_cases a <;> simp [ix3])]
  refine (congrFun ?_ _).trans ((share_at (convA3 c arg1 harg1 arg3 harg3 arg4 harg4 arg12 x0 x2 x3) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convA3_at]
    rfl

theorem facA_at (b : Fin 4) (n : Fin 256) (d : Fin 1024) : facA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 b n d) = Ideal.exp (logAt noRows x0 x2 x3 x4 x5 x8 b n d) := by
  fin_cases b
  · exact facA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d
  · exact facA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d
  · exact facA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d
  · exact facA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d

theorem addA_at (b : Fin 4) (n : Fin 256) (d : Fin 1024) : addA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 b n d) = shareAt noRows x0 x2 x3 x4 x5 x6 x7 x8 b n d := by
  fin_cases b
  · exact addA0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d
  · exact addA1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d
  · exact addA2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d
  · exact addA3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n d

end

/-! ## At a later point -/

section
variable (c : Dev nD) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S4x256x1024 .bf16) (harg10 : arg10.IsWhole) (arg11 : Memref sig .tc .vmem S4x1x1024 .f32) (harg11 : arg11.IsWhole) (arg12 : Memref sig .tc .vmem S4x264x1024 .f32) (harg12 : arg12.IsWhole) (arg13 : Memref sig .tc .vmem S4x8x1024 .f32) (harg13 : arg13.IsWhole) (arg14 : Memref sig .tc .vmem S4x256x1024 .f32) (harg14 : arg14.IsWhole) (arg15 : Memref sig .tc .vmem S4x256x1024 .f32) (harg15 : arg15.IsWhole) (arg16 : Memref sig .tc .vmem S4x256x1024 .f32) (harg16 : arg16.IsWhole) (x0 : FVec Ideal S4x256x1024 .f32) (x1 : FVec Ideal S4x256x1024 .f32) (x2 : FVec Ideal S4x1024 .f32) (x3 : FVec Ideal S1x1024 .f32) (x4 : FVec Ideal S4x256x256 .bf16) (x5 : FVec Ideal S1x1024 .f32) (x6 : FVec Ideal S4x256x256 .bf16) (x7 : FVec Ideal S1x1024 .f32) (x8 : FVec Ideal S1x1024 .f32) (xs0 : FVec Ideal S4x264x1024 .f32) (xs1 : FVec Ideal S4x8x1024 .f32)

/-- The convolution of batch 0. -/
def convB0 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (harg12 : arg12.IsWhole) (x0 : FVec Ideal S4x256x1024 .f32) (x2 : FVec Ideal S4x1024 .f32) (x3 : FVec Ideal S1x1024 .f32) (xs0 : FVec Ideal S4x264x1024 .f32) : FVec Ideal S256x1024 .f32 :=
  k0_pay46 (F := Ideal) (runB.sl.r (F := Ideal) c arg3 harg3 x2) (View.readAt (Elt Ideal) arg1.view (Rect.unit (s := S4x256x1024) ![0, 0, 0] S1x256x1024.size inb_S4x256x1024_S1x256x1024_0_0_0).toLoadRect (harg1.unread x0)) (View.readAt (Elt Ideal) arg4.view (Rect.unit (s := S1x1024) ![0, 0] S1x1024.size inb_S1x1024_S1x1024_0_0).toLoadRect (harg4.unread x3)) (runB.sl.v17 (F := Ideal) c arg1 harg1 arg12 harg12 x0 xs0) (runB.sl.v23 (F := Ideal) c arg1 harg1 arg12 harg12 x0 xs0) (runB.sl.v29 (F := Ideal) c arg1 harg1 arg12 harg12 x0 xs0)

theorem convB0_at (n : Fin 256) (d : Fin 1024) : convB0 c arg1 harg1 arg3 harg3 arg4 harg4 arg12 harg12 x0 x2 x3 xs0 (ix2 n d) = cvAt (oldRows xs0) x0 x2 x3 0 n d := by
  unfold convB0
  rw [conv_at, slab_read0, v17B, v23B, v29B, row_read]
  unfold runB.sl.r
  rw [taps_read]
  rfl

theorem facB0 (n : Fin 256) (d : Fin 1024) : facB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (0 : Fin 4) n d) = Ideal.exp (logAt (oldRows xs0) x0 x2 x3 x4 x5 x8 0 n d) := by
  unfold facB runB.sl.H14_4
  rw [View.read_writes_cons_unit_of_not_mem _ _ _ _ _ _ rfl (0 : Fin 3) (Or.inl (show 0 < 3 by decide))]
  rw [View.read_writes_cons_unit_of_not_mem _ _ _ _ _ _ rfl (0 : Fin 3) (Or.inl (show 0 < 2 by decide))]
  rw [View.read_writes_cons_unit_of_not_mem _ _ _ _ _ _ rfl (0 : Fin 3) (Or.inl (show 0 < 1 by decide))]
  rw [View.read_writes_cons_unit_of_mem _ _ _ _ _ _ (ix3 (0 : Fin 1) n d) rfl (by intro a; fin_cases a <;> simp [ix3])]
  refine (congrFun ?_ _).trans ((decay_at (convB0 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convB0_at]
    rfl

theorem addB0 (n : Fin 256) (d : Fin 1024) : addB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (0 : Fin 4) n d) = shareAt (oldRows xs0) x0 x2 x3 x4 x5 x6 x7 x8 0 n d := by
  unfold addB runB.sl.H15_4
  rw [View.read_writes_cons_unit_of_not_mem _ _ _ _ _ _ rfl (0 : Fin 3) (Or.inl (show 0 < 3 by decide))]
  rw [View.read_writes_cons_unit_of_not_mem _ _ _ _ _ _ rfl (0 : Fin 3) (Or.inl (show 0 < 2 by decide))]
  rw [View.read_writes_cons_unit_of_not_mem _ _ _ _ _ _ rfl (0 : Fin 3) (Or.inl (show 0 < 1 by decide))]
  rw [View.read_writes_cons_unit_of_mem _ _ _ _ _ _ (ix3 (0 : Fin 1) n d) rfl (by intro a; fin_cases a <;> simp [ix3])]
  refine (congrFun ?_ _).trans ((share_at (convB0 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convB0_at]
    rfl

/-- The convolution of batch 1. -/
def convB1 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (harg12 : arg12.IsWhole) (x0 : FVec Ideal S4x256x1024 .f32) (x2 : FVec Ideal S4x1024 .f32) (x3 : FVec Ideal S1x1024 .f32) (xs0 : FVec Ideal S4x264x1024 .f32) : FVec Ideal S256x1024 .f32 :=
  k0_pay46 (F := Ideal) (runB.sl.r (F := Ideal) c arg3 harg3 x2) (View.readAt (Elt Ideal) arg1.view (Rect.unit (s := S4x256x1024) ![1, 0, 0] S1x256x1024.size inb_S4x256x1024_S1x256x1024_1_0_0).toLoadRect (harg1.unread x0)) (View.readAt (Elt Ideal) arg4.view (Rect.unit (s := S1x1024) ![0, 0] S1x1024.size inb_S1x1024_S1x1024_0_0).toLoadRect (harg4.unread x3)) (runB.sl.v130 (F := Ideal) c arg1 harg1 arg12 harg12 x0 xs0) (runB.sl.v136 (F := Ideal) c arg1 harg1 arg12 harg12 x0 xs0) (runB.sl.v142 (F := Ideal) c arg1 harg1 arg12 harg12 x0 xs0)

theorem convB1_at (n : Fin 256) (d : Fin 1024) : convB1 c arg1 harg1 arg3 harg3 arg4 harg4 arg12 harg12 x0 x2 x3 xs0 (ix2 n d) = cvAt (oldRows xs0) x0 x2 x3 1 n d := by
  unfold convB1
  rw [conv_at, slab_read1, v130B, v136B, v142B, row_read]
  unfold runB.sl.r
  rw [taps_read]
  rfl

theorem facB1 (n : Fin 256) (d : Fin 1024) : facB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (1 : Fin 4) n d) = Ideal.exp (logAt (oldRows xs0) x0 x2 x3 x4 x5 x8 1 n d) := by
  unfold facB runB.sl.H14_4
  rw [View.read_writes_cons_unit_of_not_mem _ _ _ _ _ _ rfl (0 : Fin 3) (Or.inl (show 1 < 3 by decide))]
  rw [View.read_writes_cons_unit_of_not_mem _ _ _ _ _ _ rfl (0 : Fin 3) (Or.inl (show 1 < 2 by decide))]
  rw [View.read_writes_cons_unit_of_mem _ _ _ _ _ _ (ix3 (0 : Fin 1) n d) rfl (by intro a; fin_cases a <;> simp [ix3])]
  refine (congrFun ?_ _).trans ((decay_at (convB1 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convB1_at]
    rfl

theorem addB1 (n : Fin 256) (d : Fin 1024) : addB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (1 : Fin 4) n d) = shareAt (oldRows xs0) x0 x2 x3 x4 x5 x6 x7 x8 1 n d := by
  unfold addB runB.sl.H15_4
  rw [View.read_writes_cons_unit_of_not_mem _ _ _ _ _ _ rfl (0 : Fin 3) (Or.inl (show 1 < 3 by decide))]
  rw [View.read_writes_cons_unit_of_not_mem _ _ _ _ _ _ rfl (0 : Fin 3) (Or.inl (show 1 < 2 by decide))]
  rw [View.read_writes_cons_unit_of_mem _ _ _ _ _ _ (ix3 (0 : Fin 1) n d) rfl (by intro a; fin_cases a <;> simp [ix3])]
  refine (congrFun ?_ _).trans ((share_at (convB1 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convB1_at]
    rfl

/-- The convolution of batch 2. -/
def convB2 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (harg12 : arg12.IsWhole) (x0 : FVec Ideal S4x256x1024 .f32) (x2 : FVec Ideal S4x1024 .f32) (x3 : FVec Ideal S1x1024 .f32) (xs0 : FVec Ideal S4x264x1024 .f32) : FVec Ideal S256x1024 .f32 :=
  k0_pay46 (F := Ideal) (runB.sl.r (F := Ideal) c arg3 harg3 x2) (View.readAt (Elt Ideal) arg1.view (Rect.unit (s := S4x256x1024) ![2, 0, 0] S1x256x1024.size inb_S4x256x1024_S1x256x1024_2_0_0).toLoadRect (harg1.unread x0)) (View.readAt (Elt Ideal) arg4.view (Rect.unit (s := S1x1024) ![0, 0] S1x1024.size inb_S1x1024_S1x1024_0_0).toLoadRect (harg4.unread x3)) (runB.sl.v243 (F := Ideal) c arg1 harg1 arg12 harg12 x0 xs0) (runB.sl.v249 (F := Ideal) c arg1 harg1 arg12 harg12 x0 xs0) (runB.sl.v255 (F := Ideal) c arg1 harg1 arg12 harg12 x0 xs0)

theorem convB2_at (n : Fin 256) (d : Fin 1024) : convB2 c arg1 harg1 arg3 harg3 arg4 harg4 arg12 harg12 x0 x2 x3 xs0 (ix2 n d) = cvAt (oldRows xs0) x0 x2 x3 2 n d := by
  unfold convB2
  rw [conv_at, slab_read2, v243B, v249B, v255B, row_read]
  unfold runB.sl.r
  rw [taps_read]
  rfl

theorem facB2 (n : Fin 256) (d : Fin 1024) : facB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (2 : Fin 4) n d) = Ideal.exp (logAt (oldRows xs0) x0 x2 x3 x4 x5 x8 2 n d) := by
  unfold facB runB.sl.H14_4
  rw [View.read_writes_cons_unit_of_not_mem _ _ _ _ _ _ rfl (0 : Fin 3) (Or.inl (show 2 < 3 by decide))]
  rw [View.read_writes_cons_unit_of_mem _ _ _ _ _ _ (ix3 (0 : Fin 1) n d) rfl (by intro a; fin_cases a <;> simp [ix3])]
  refine (congrFun ?_ _).trans ((decay_at (convB2 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convB2_at]
    rfl

theorem addB2 (n : Fin 256) (d : Fin 1024) : addB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (2 : Fin 4) n d) = shareAt (oldRows xs0) x0 x2 x3 x4 x5 x6 x7 x8 2 n d := by
  unfold addB runB.sl.H15_4
  rw [View.read_writes_cons_unit_of_not_mem _ _ _ _ _ _ rfl (0 : Fin 3) (Or.inl (show 2 < 3 by decide))]
  rw [View.read_writes_cons_unit_of_mem _ _ _ _ _ _ (ix3 (0 : Fin 1) n d) rfl (by intro a; fin_cases a <;> simp [ix3])]
  refine (congrFun ?_ _).trans ((share_at (convB2 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convB2_at]
    rfl

/-- The convolution of batch 3. -/
def convB3 (c : Dev nD) (arg1 : Memref sig .tc .vmem S4x256x1024 .f32) (harg1 : arg1.IsWhole) (arg3 : Memref sig .tc .vmem S4x1024 .f32) (harg3 : arg3.IsWhole) (arg4 : Memref sig .tc .vmem S1x1024 .f32) (harg4 : arg4.IsWhole) (arg12 : Memref sig .tc .vmem S4x264x1024 .f32) (harg12 : arg12.IsWhole) (x0 : FVec Ideal S4x256x1024 .f32) (x2 : FVec Ideal S4x1024 .f32) (x3 : FVec Ideal S1x1024 .f32) (xs0 : FVec Ideal S4x264x1024 .f32) : FVec Ideal S256x1024 .f32 :=
  k0_pay46 (F := Ideal) (runB.sl.r (F := Ideal) c arg3 harg3 x2) (View.readAt (Elt Ideal) arg1.view (Rect.unit (s := S4x256x1024) ![3, 0, 0] S1x256x1024.size inb_S4x256x1024_S1x256x1024_3_0_0).toLoadRect (harg1.unread x0)) (View.readAt (Elt Ideal) arg4.view (Rect.unit (s := S1x1024) ![0, 0] S1x1024.size inb_S1x1024_S1x1024_0_0).toLoadRect (harg4.unread x3)) (runB.sl.v356 (F := Ideal) c arg1 harg1 arg12 harg12 x0 xs0) (runB.sl.v362 (F := Ideal) c arg1 harg1 arg12 harg12 x0 xs0) (runB.sl.v368 (F := Ideal) c arg1 harg1 arg12 harg12 x0 xs0)

theorem convB3_at (n : Fin 256) (d : Fin 1024) : convB3 c arg1 harg1 arg3 harg3 arg4 harg4 arg12 harg12 x0 x2 x3 xs0 (ix2 n d) = cvAt (oldRows xs0) x0 x2 x3 3 n d := by
  unfold convB3
  rw [conv_at, slab_read3, v356B, v362B, v368B, row_read]
  unfold runB.sl.r
  rw [taps_read]
  rfl

theorem facB3 (n : Fin 256) (d : Fin 1024) : facB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (3 : Fin 4) n d) = Ideal.exp (logAt (oldRows xs0) x0 x2 x3 x4 x5 x8 3 n d) := by
  unfold facB runB.sl.H14_4
  rw [View.read_writes_cons_unit_of_mem _ _ _ _ _ _ (ix3 (0 : Fin 1) n d) rfl (by intro a; fin_cases a <;> simp [ix3])]
  refine (congrFun ?_ _).trans ((decay_at (convB3 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) n d).trans ?_)
  · rfl
  · rw [row_read, row_read]
    simp only [convB3_at]
    rfl

theorem addB3 (n : Fin 256) (d : Fin 1024) : addB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 (3 : Fin 4) n d) = shareAt (oldRows xs0) x0 x2 x3 x4 x5 x6 x7 x8 3 n d := by
  unfold addB runB.sl.H15_4
  rw [View.read_writes_cons_unit_of_mem _ _ _ _ _ _ (ix3 (0 : Fin 1) n d) rfl (by intro a; fin_cases a <;> simp [ix3])]
  refine (congrFun ?_ _).trans ((share_at (convB3 c arg1 harg1 arg3 harg3 arg4 harg4 arg12 harg12 x0 x2 x3 xs0) (View.readAt (Elt Ideal) arg6.view (Rect.unit (s := S1x1024) ![0, 0] S1x1024.size inb_S1x1024_S1x1024_0_0).toLoadRect (harg6.unread x5)) (View.readAt (Elt Ideal) arg9.view (Rect.unit (s := S1x1024) ![0, 0] S1x1024.size inb_S1x1024_S1x1024_0_0).toLoadRect (harg9.unread x8)) (block_read0 arg5 harg5 x4) (block_read1 arg5 harg5 x4) (block_read2 arg5 harg5 x4) (block_read3 arg5 harg5 x4) (block_read0 arg7 harg7 x6) (block_read1 arg7 harg7 x6) (block_read2 arg7 harg7 x6) (block_read3 arg7 harg7 x6) (View.readAt (Elt Ideal) arg8.view (Rect.unit (s := S1x1024) ![0, 0] S1x1024.size inb_S1x1024_S1x1024_0_0).toLoadRect (harg8.unread x7)) n d).trans ?_)
  · rfl
  · rw [row_read, row_read, row_read]
    simp only [convB3_at]
    rfl

theorem facB_at (b : Fin 4) (n : Fin 256) (d : Fin 1024) : facB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 b n d) = Ideal.exp (logAt (oldRows xs0) x0 x2 x3 x4 x5 x8 b n d) := by
  fin_cases b
  · exact facB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d
  · exact facB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d
  · exact facB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d
  · exact facB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d

theorem addB_at (b : Fin 4) (n : Fin 256) (d : Fin 1024) : addB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 b n d) = shareAt (oldRows xs0) x0 x2 x3 x4 x5 x6 x7 x8 b n d := by
  fin_cases b
  · exact addB0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d
  · exact addB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d
  · exact addB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d
  · exact addB3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n d

end

end Cert.RgIdeal.Body

end
-- ==== Proof.RgIdeal.Frame.lean ====
/-
  The frame of the recurrence's program: what its body leaves at each grid point, and the run that follows from it.

  The kernel carries two scratches from one grid point to the next: the last eight input rows of each batch, and the
  recurrence's value. `outsAt` names what the two outputs and these two scratches hold after each point; the region's
  invariant between points is the scratches at those contents.
-/
module

public import proofs.«01_k».proof.Proof.RgIdeal.Pieces
public import Idealize.ShloMosaic.Lib.Claim

@[expose] public section

set_option maxRecDepth 16384

noncomputable section

namespace Cert.RgIdeal.Body

open Cert.RgIdeal Cert.RgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A reference to a buffer of the kernel's. -/
local notation "𝕎" => @Memref sig Kind.tc Space.vmem

variable (m : (ℓ : Loc nD τ sig) → Buf (Elt F) ℓ) (ρ : Dev nD → PrngReg)

/-! ## The buffers the results are read through -/

abbrev VO9 : View sig .tc .vmem S4x256x1024 .bf16 := (Memref.whole cc0_stg9_0 : 𝕎 S4x256x1024 .bf16).view
abbrev VO10 : View sig .tc .vmem S4x1x1024 .f32 := (Memref.whole cc0_stg10_0 : 𝕎 S4x1x1024 .f32).view
abbrev VS0 : View sig .tc .vmem S4x264x1024 .f32 := scM0.view
abbrev VS1 : View sig .tc .vmem S4x8x1024 .f32 := scM1.view

/-! ## What each case leaves -/

/-- Case A: the pieces left in the first output cover it. -/
theorem coverA_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (y : S4x256x1024.Idx) :
    ∃ pc ∈ (piecesA_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8), y ∈ pc.1.set :=
  View.cover_of_tiledBy (piecesA_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ![1, 256, 1024] (by sl_kernel_rfl) y

/-- Case A: what the first output holds after the body. -/
def outA_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : Vec F S4x256x1024 .bf16 :=
  VO9.read (Elt F) (VO9.writes (Elt F) VO9.junk (piecesA_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8))

/-- Case A: the pieces left in the second output cover it. -/
theorem coverA_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (y : S4x1x1024.Idx) :
    ∃ pc ∈ (piecesA_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8), y ∈ pc.1.set :=
  View.cover_of_tiledBy (piecesA_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ![1, 1, 1024] (by sl_kernel_rfl) y

/-- Case A: what the second output holds after the body. -/
def outA_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : Vec F S4x1x1024 .f32 :=
  VO10.read (Elt F) (VO10.writes (Elt F) VO10.junk (piecesA_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8))

/-- Case A: the pieces left in the scratch that carries the input rows cover it. -/
theorem coverA_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (y : S4x264x1024.Idx) :
    ∃ pc ∈ (piecesA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8), y ∈ pc.1.set :=
  View.cover_of_tiledBy (piecesA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ![1, 8, 1024] (by sl_kernel_rfl) y

/-- Case A: what the scratch that carries the input rows holds after the body. -/
def outA_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : Vec F S4x264x1024 .f32 :=
  VS0.read (Elt F) (VS0.writes (Elt F) VS0.junk (piecesA_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8))

/-- Case A: the pieces left in the scratch that carries the recurrence's value cover it. -/
theorem coverA_hc (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (y : S4x8x1024.Idx) :
    ∃ pc ∈ (piecesA_hc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8), y ∈ pc.1.set :=
  View.cover_of_tiledBy (piecesA_hc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) ![1, 1, 1024] (by sl_kernel_rfl) y

/-- Case A: what the scratch that carries the recurrence's value holds after the body. -/
def outA_hc (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) : Vec F S4x8x1024 .f32 :=
  VS1.read (Elt F) (VS1.writes (Elt F) VS1.junk (piecesA_hc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8))

/-- Case B: the pieces left in the first output cover it. -/
theorem coverB_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (y : S4x256x1024.Idx) :
    ∃ pc ∈ (piecesB_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1), y ∈ pc.1.set :=
  View.cover_of_tiledBy (piecesB_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) ![1, 256, 1024] (by sl_kernel_rfl) y

/-- Case B: what the first output holds after the body. -/
def outB_ya (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : Vec F S4x256x1024 .bf16 :=
  VO9.read (Elt F) (VO9.writes (Elt F) VO9.junk (piecesB_ya c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1))

/-- Case B: the pieces left in the second output cover it. -/
theorem coverB_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (y : S4x1x1024.Idx) :
    ∃ pc ∈ (piecesB_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1), y ∈ pc.1.set :=
  View.cover_of_tiledBy (piecesB_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) ![1, 1, 1024] (by sl_kernel_rfl) y

/-- Case B: what the second output holds after the body. -/
def outB_h (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : Vec F S4x1x1024 .f32 :=
  VO10.read (Elt F) (VO10.writes (Elt F) VO10.junk (piecesB_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1))

/-- Case B: the pieces left in the scratch that carries the input rows cover it. -/
theorem coverB_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) (y : S4x264x1024.Idx) :
    ∃ pc ∈ (piecesB_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1), y ∈ pc.1.set :=
  View.cover_of_tiledBy (piecesB_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1) ![1, 8, 1024] (by sl_kernel_rfl) y

/-- Case B: what the scratch that carries the input rows holds after the body. -/
def outB_xs (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : Vec F S4x264x1024 .f32 :=
  VS0.read (Elt F) (VS0.writes (Elt F) VS0.junk (piecesB_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1))

/-- Case B: what the scratch that carries the recurrence's value holds after the body. -/
def outB_hc (c : Dev nD) (i : grid0.Coords) (arg1 : 𝕎 S4x256x1024 .f32) (harg1 : arg1.IsWhole) (arg2 : 𝕎 S4x256x1024 .f32) (harg2 : arg2.IsWhole) (arg3 : 𝕎 S4x1024 .f32) (harg3 : arg3.IsWhole) (arg4 : 𝕎 S1x1024 .f32) (harg4 : arg4.IsWhole) (arg5 : 𝕎 S4x256x256 .bf16) (harg5 : arg5.IsWhole) (arg6 : 𝕎 S1x1024 .f32) (harg6 : arg6.IsWhole) (arg7 : 𝕎 S4x256x256 .bf16) (harg7 : arg7.IsWhole) (arg8 : 𝕎 S1x1024 .f32) (harg8 : arg8.IsWhole) (arg9 : 𝕎 S1x1024 .f32) (harg9 : arg9.IsWhole) (arg10 : 𝕎 S4x256x1024 .bf16) (harg10 : arg10.IsWhole) (arg11 : 𝕎 S4x1x1024 .f32) (harg11 : arg11.IsWhole) (arg12 : 𝕎 S4x264x1024 .f32) (harg12 : arg12.IsWhole) (arg13 : 𝕎 S4x8x1024 .f32) (harg13 : arg13.IsWhole) (arg14 : 𝕎 S4x256x1024 .f32) (harg14 : arg14.IsWhole) (arg15 : 𝕎 S4x256x1024 .f32) (harg15 : arg15.IsWhole) (arg16 : 𝕎 S4x256x1024 .f32) (harg16 : arg16.IsWhole)
  (x0 : Vec F S4x256x1024 .f32) (x1 : Vec F S4x256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (xs0 : Vec F S4x264x1024 .f32) (xs1 : Vec F S4x8x1024 .f32) : Vec F S4x8x1024 .f32 :=
  VS1.read (Elt F) (VS1.writes (Elt F) ((Memref.isWhole_whole cc0_scratch1).unread xs1) (piecesB_hc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1))

/-- What the first point leaves: outputs, then carried scratches. -/
def stepA (c : Dev nD) (t : Fin cfg0.N) (h0 : t.val = 0) : Vec F S4x256x1024 .bf16 × Vec F S4x1x1024 .f32 × Vec F S4x264x1024 .f32 × Vec F S4x8x1024 .f32 :=
  (outA_ya c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t), outA_h c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t), outA_xs c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t), outA_hc c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t))

/-- What a later point leaves, from the carried scratches `p0`, `p1` it finds. -/
def stepB (c : Dev nD) (t : Fin cfg0.N) (h0 : ¬t.val = 0) (p0 : Vec F S4x264x1024 .f32) (p1 : Vec F S4x8x1024 .f32) : Vec F S4x256x1024 .bf16 × Vec F S4x1x1024 .f32 × Vec F S4x264x1024 .f32 × Vec F S4x8x1024 .f32 :=
  (outB_ya c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t) p0 p1, outB_h c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t) p0 p1, outB_xs c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t) p0 p1, outB_hc c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM0 (Memref.isWhole_whole _) scM1 (Memref.isWhole_whole _) scM2 (Memref.isWhole_whole _) scM3 (Memref.isWhole_whole _) scM4 (Memref.isWhole_whole _) (iblk m c 0 t) (iblk m c 1 t) (iblk m c 2 t) (iblk m c 3 t) (iblk m c 4 t) (iblk m c 5 t) (iblk m c 6 t) (iblk m c 7 t) (iblk m c 8 t) p0 p1)

/-- What the outputs and the carried scratches hold after each point. -/
def outsAt (c : Dev nD) : (n : ℕ) → n < cfg0.N → Vec F S4x256x1024 .bf16 × Vec F S4x1x1024 .f32 × Vec F S4x264x1024 .f32 × Vec F S4x8x1024 .f32
  | 0, hn => stepA m c ⟨0, hn⟩ rfl
  | n + 1, hn => stepB m c ⟨n + 1, hn⟩ (Nat.succ_ne_zero n) (outsAt c n (Nat.lt_of_succ_lt hn)).2.2.1 (outsAt c n (Nat.lt_of_succ_lt hn)).2.2.2

theorem outsAt_A (c : Dev nD) (t : Fin cfg0.N) (h0 : t.val = 0) : outsAt m c t.val t.isLt = stepA m c t h0 := by
  obtain ⟨n, hn⟩ := t
  cases n with
  | zero => rfl
  | succ n => exact absurd h0 (Nat.succ_ne_zero n)

theorem outsAt_B (c : Dev nD) (t : Fin cfg0.N) (h0 : ¬t.val = 0) :
    outsAt m c t.val t.isLt = stepB m c t h0 (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact absurd rfl h0
  | succ n => rfl

/-! ## The region's invariant -/

/-- What is held between points: the two carried scratches at what the point before left, the others at anything. -/
def carried (c : Dev nD) (p : Vec F S4x256x1024 .bf16 × Vec F S4x1x1024 .f32 × Vec F S4x264x1024 .f32 × Vec F S4x8x1024 .f32) : sProp 𝕄 :=
  iprop(iprop(owns (c : Thread nD τ) scM0 fullShare p.2.2.1 ∗ owns (c : Thread nD τ) scM1 fullShare p.2.2.2 ∗ (∃ d, owns (c : Thread nD τ) scM2 fullShare d) ∗ (∃ d, owns (c : Thread nD τ) scM3 fullShare d) ∗ (∃ d, owns (c : Thread nD τ) scM4 fullShare d)) ∗ (∃ r, prngReg c r))

/-- The invariant before position `n`. -/
def PhiS (c : Dev nD) : (n : ℕ) → n ≤ cfg0.N → sProp 𝕄
  | 0, _ => Pipeline.ΦA spec0 c
  | n + 1, hn => carried c (outsAt m c n hn)

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = carried c (outsAt m c (n - 1) (by omega)) := by
  cases n with
  | zero => exact absurd rfl hz
  | succ n => rfl

/-! ## The pipeline's data -/

/-- The arrays as the region finds them, what each window's buffer holds after the body, the invariant, the shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]
theorem after_10 (c : Dev nD) (t : Fin cfg0.N) : (dats m 0 c).after 10 t = (outsAt m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 3200000 in
/-- The body at any point leaves what the data say: at the first point by the first case's run, at a later one by the
    other case's, from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9, after_10]
  rw [show (dats m 0 c).Φ t.succ = carried c (outsAt m c t.val t.isLt) from rfl]
  by_cases h0 : t.val = 0
  · rw [Phi_castSucc m c t, PhiS_zero m c _ _ h0, PhiA_eq]
    rw [outsAt_A m c t h0]
    unfold carried stepA outA_ya outA_h outA_xs outA_hc; (try dsimp only)
    iintro ⟨⟨⟨⟨%z0, S0⟩, ⟨%z1, S1⟩, ⟨%z2, S2⟩, ⟨%z3, S3⟩, ⟨%z4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t) (iblk m c 8 t) z0 z1 z2 z3 z4).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    iintro ⟨H0, H1, H2, H3, H4, H5, H6, H7, H8, ⟨%e9, H9⟩, ⟨%e10, H10⟩, ⟨%g0, S0⟩, ⟨%g1, S1⟩, S2, S3, S4⟩
    isplitl [S0 S1 S2 S3 S4 Hg]
    · isplitl [S0 S1 S2 S3 S4]
      · isplitl [S0]
        · unfold owns; iexists _; isplitr
          swap; · iexact S0
          ipureintro; rw [listA_xs]; exact View.read_writes_of_cover _ _ _ _ _ (coverA_xs c _ _ _ _ _ _ _ _ _ _ _ _ _ _ _ _ _ _ _ _ _ _ _ _ _ _ _ _ _ _ _ _ _ _ _ _ _ _ _ _ _ _)
        isplitl [S1]
        · unfold owns; iexists _; isplitr
          swap; · iexact S1
          ipureintro; rw [listA_hc]; exact View.read_writes_of_cover _ _ _ _ _ (coverA_hc c _ _ _ _ _ _ _ _ _ _ _ _ _ _ _ _ _ _ _ _ _ _ _ _ _ _ _ _ _ _ _ _ _ _ _ _ _ _ _ _ _ _)
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; rw [listA_ya]; exact View.read_writes_of_cover _ _ _ _ _ (coverA_ya c _ _ _ _ _ _ _ _ _ _ _ _ _ _ _ _ _ _ _ _ _ _ _ _ _ _ _ _ _ _ _ _ _ _ _ _ _ _ _ _ _ _)
    unfold owns; iexists _; isplitr
    swap; · iexact H10
    ipureintro; rw [listA_h]; exact View.read_writes_of_cover _ _ _ _ _ (coverA_h c _ _ _ _ _ _ _ _ _ _ _ _ _ _ _ _ _ _ _ _ _ _ _ _ _ _ _ _ _ _ _ _ _ _ _ _ _ _ _ _ _ _)
  · rw [Phi_castSucc m c t, PhiS_pos m c _ _ h0]
    rw [outsAt_B m c t h0]
    unfold carried stepB outB_ya outB_h outB_xs outB_hc; (try dsimp only)
    iintro ⟨⟨⟨S0, S1, ⟨%z2, S2⟩, ⟨%z3, S3⟩, ⟨%z4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) _ _ _ _ _ _ _ _ _ _ _ _ _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) (iblk m c 7 t) (iblk m c 8 t) _ _ z2 z3 z4).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    iintro ⟨H0, H1, H2, H3, H4, H5, H6, H7, H8, ⟨%e9, H9⟩, ⟨%e10, H10⟩, ⟨%g0, S0⟩, S1, S2, S3, S4⟩
    isplitl [S0 S1 S2 S3 S4 Hg]
    · isplitl [S0 S1 S2 S3 S4]
      · isplitl [S0]
        · unfold owns; iexists _; isplitr
          swap; · iexact S0
          ipureintro; rw [listB_xs]; exact View.read_writes_of_cover _ _ _ _ _ (coverB_xs c _ _ _ _ _ _ _ _ _ _ _ _ _ _ _ _ _ _ _ _ _ _ _ _ _ _ _ _ _ _ _ _ _ _ _ _ _ _ _ _ _ _ _ _)
        isplitl [S1]
        · unfold owns; iexists _; isplitr
          swap; · iexact S1
          ipureintro; rw [listB_hc]
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; rw [listB_ya]; exact View.read_writes_of_cover _ _ _ _ _ (coverB_ya c _ _ _ _ _ _ _ _ _ _ _ _ _ _ _ _ _ _ _ _ _ _ _ _ _ _ _ _ _ _ _ _ _ _ _ _ _ _ _ _ _ _ _ _)
    unfold owns; iexists _; isplitr
    swap; · iexact H10
    ipureintro; rw [listB_h]; exact View.read_writes_of_cover _ _ _ _ _ (coverB_h c _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the carried contents are forgotten. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ ht, PhiA_eq]
  unfold carried
  iintro ⟨⟨S0, S1, S2, S3, S4⟩, Hg⟩
  isplitl [S0 S1 S2 S3 S4]
  · isplitl [S0]; · iexists _; iexact S0
    isplitl [S1]; · iexists _; iexact S1
    isplitl [S2]; · iexact S2
    isplitl [S3]; · iexact S3
    iexact S4
  iexact Hg

/-! ## The run and the frame -/

set_option backward.isDefEq.respectTransparency.types false in
/-- The run: every array of the pipeline ends as the data say, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program runs to the end, its arguments end as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiescent m ρ))

end Cert.RgIdeal.Body

end
-- ==== Proof.RgIdeal.Rows.lean ====
/-
  What the kernel's body leaves at a grid point, at one position: the recurrence run over the block's rows from the carried
  value, each row's output, the last row, and the rows kept for the next block.
-/
module

public import proofs.«01_k».proof.Proof.RgIdeal.Positions
public import proofs.«01_k».proof.Proof.RgIdeal.Frame

@[expose] public section

set_option maxRecDepth 16384

noncomputable section

namespace Cert.RgIdeal.Body

open Cert.RgIdeal Cert.RgIdeal.Gen
open Idealize.ShloMosaic Idealize.ShloMosaic.TcCoe

/-- The recurrence `h ← a n * h + x n`, run from `h`. -/
def scan (a x : Fin 256 → EReal) (h : EReal) : ℕ → EReal
  | 0 => h
  | n + 1 => a ⟨n % 256, Nat.mod_lt _ (by decide)⟩ * scan a x h n + x ⟨n % 256, Nat.mod_lt _ (by decide)⟩

theorem hs_at (A B : FVec Ideal S4x256x1024 .f32) (h : FVec Ideal S1x1024 .f32) (b : Fin 4) (d : Fin 1024) (a x : Fin 256 → EReal) (h0 : EReal)
    (hA : ∀ n, A (ix3 b n d) = a n) (hB : ∀ n, B (ix3 b n d) = x n) (hh : h (ix2 (0 : Fin 1) d) = h0) : ∀ n, hs A B h b n (ix2 (0 : Fin 1) d) = scan a x h0 n
  | 0 => hh
  | n + 1 => by
    show A (ix3 b ⟨n % 256, _⟩ d) * hs A B h b n (ix2 (0 : Fin 1) d) + B (ix3 b ⟨n % 256, _⟩ d) = _
    rw [hA, hB, hs_at A B h b d a x h0 hA hB hh n]
    rfl

/-- The gate's activation at one position: the hyperbolic-tangent form. -/
def geluAt (z : EReal) : EReal :=
  z * (Ideal.ofBits .f32 1056964608#32 * (1 + Ideal.tanh (Ideal.ofBits .f32 1061962282#32 * (z + Ideal.ofBits .f32 1027024659#32 * (z * (z * z))))))

theorem out_pay0 (u s : FVec Ideal S1x256x1024 .f32) (n : Fin 256) (d : Fin 1024) : k0_pay123 (F := Ideal) (k0_pay122 (F := Ideal) u s) (ix3 (0 : Fin 1) n d) = geluAt (u (ix3 (0 : Fin 1) n d)) * s (ix3 (0 : Fin 1) n d) := by
  pointwise [k0_pay123, k0_pay122, geluAt]

theorem out_pay1 (u s : FVec Ideal S1x256x1024 .f32) (n : Fin 256) (d : Fin 1024) : k0_pay126 (F := Ideal) u s (ix3 (0 : Fin 1) n d) = geluAt (u (ix3 (0 : Fin 1) n d)) * s (ix3 (0 : Fin 1) n d) := by
  pointwise [k0_pay126, geluAt]

theorem out_pay2 (u s : FVec Ideal S1x256x1024 .f32) (n : Fin 256) (d : Fin 1024) : k0_pay129 (F := Ideal) u s (ix3 (0 : Fin 1) n d) = geluAt (u (ix3 (0 : Fin 1) n d)) * s (ix3 (0 : Fin 1) n d) := by
  pointwise [k0_pay129, geluAt]

theorem out_pay3 (u s : FVec Ideal S1x256x1024 .f32) (n : Fin 256) (d : Fin 1024) : k0_pay1 (F := Ideal) u s (ix3 (0 : Fin 1) n d) = geluAt (u (ix3 (0 : Fin 1) n d)) * s (ix3 (0 : Fin 1) n d) := by
  pointwise [k0_pay1, geluAt]

theorem kept_row0 (v : FVec Ideal S1x1024 .f32) (d : Fin 1024) : k0_pay120 (F := Ideal) v (ix3 (0 : Fin 1) (0 : Fin 1) d) = v (ix2 (0 : Fin 1) d) := by
  pointwise [k0_pay120]

theorem kept_row1 (v : FVec Ideal S1x1024 .f32) (d : Fin 1024) : k0_pay124 (F := Ideal) v (ix3 (0 : Fin 1) (0 : Fin 1) d) = v (ix2 (0 : Fin 1) d) := by
  pointwise [k0_pay124]

theorem kept_row2 (v : FVec Ideal S1x1024 .f32) (d : Fin 1024) : k0_pay127 (F := Ideal) v (ix3 (0 : Fin 1) (0 : Fin 1) d) = v (ix2 (0 : Fin 1) d) := by
  pointwise [k0_pay127]

theorem kept_row3 (v : FVec Ideal S1x1024 .f32) (d : Fin 1024) : k0_pay130 (F := Ideal) v (ix3 (0 : Fin 1) (0 : Fin 1) d) = v (ix2 (0 : Fin 1) d) := by
  pointwise [k0_pay130]

theorem last_row0 (v : FVec Ideal S1x1024 .f32) (d : Fin 1024) : k0_pay121 (F := Ideal) v (ix3 (0 : Fin 1) (0 : Fin 1) d) = v (ix2 (0 : Fin 1) d) := by
  pointwise [k0_pay121]

theorem last_row1 (v : FVec Ideal S1x1024 .f32) (d : Fin 1024) : k0_pay125 (F := Ideal) v (ix3 (0 : Fin 1) (0 : Fin 1) d) = v (ix2 (0 : Fin 1) d) := by
  pointwise [k0_pay125]

theorem last_row2 (v : FVec Ideal S1x1024 .f32) (d : Fin 1024) : k0_pay128 (F := Ideal) v (ix3 (0 : Fin 1) (0 : Fin 1) d) = v (ix2 (0 : Fin 1) d) := by
  pointwise [k0_pay128]

theorem last_row3 (v : FVec Ideal S1x1024 .f32) (d : Fin 1024) : k0_pay131 (F := Ideal) v (ix3 (0 : Fin 1) (0 : Fin 1) d) = v (ix2 (0 : Fin 1) d) := by
  pointwise [k0_pay131]

theorem first_row0 (v : FVec Ideal S1x1x1024 .f32) (d : Fin 1024) : k0_pay111 (F := Ideal) v (ix2 (0 : Fin 1) d) = v (ix3 (0 : Fin 1) (0 : Fin 1) d) := by
  pointwise [k0_pay111]

theorem first_row1 (v : FVec Ideal S1x1x1024 .f32) (d : Fin 1024) : k0_pay112 (F := Ideal) v (ix2 (0 : Fin 1) d) = v (ix3 (0 : Fin 1) (0 : Fin 1) d) := by
  pointwise [k0_pay112]

theorem first_row2 (v : FVec Ideal S1x1x1024 .f32) (d : Fin 1024) : k0_pay113 (F := Ideal) v (ix2 (0 : Fin 1) d) = v (ix3 (0 : Fin 1) (0 : Fin 1) d) := by
  pointwise [k0_pay113]

theorem first_row3 (v : FVec Ideal S1x1x1024 .f32) (d : Fin 1024) : k0_pay114 (F := Ideal) v (ix2 (0 : Fin 1) d) = v (ix3 (0 : Fin 1) (0 : Fin 1) d) := by
  pointwise [k0_pay114]

theorem zero_state (i : S4x8x1024.Idx) : k0_pay43 (F := Ideal) i = 0 := by
  pointwise [k0_pay43]

section
variable (arg : Memref sig .tc .vmem S4x8x1024 .f32) (h : arg.IsWhole) (x : FVec Ideal S4x8x1024 .f32) (d : Fin 1024)

theorem first_idx0 : (Rect.unit (s := S4x8x1024) ![0, 0, 0] S1x1x1024.size inb_S4x8x1024_S1x1x1024_0_0_0).toLoadRect.idx (ix3 (0 : Fin 1) (0 : Fin 1) d : S1x1x1024.Idx) = (ix3 (0 : Fin 4) (0 : Fin 8) d : S4x8x1024.Idx) := by
  funext a
  apply Fin.ext
  fin_cases a
  · rfl
  · rfl
  · show 0 + 1 * d.val = d.val
    omega

theorem first_read0 : View.readAt (Elt Ideal) arg.view (Rect.unit (s := S4x8x1024) ![0, 0, 0] S1x1x1024.size inb_S4x8x1024_S1x1x1024_0_0_0).toLoadRect (h.unread x) (ix3 (0 : Fin 1) (0 : Fin 1) d) = x (ix3 (0 : Fin 4) (0 : Fin 8) d) := by
  rw [View.readAt_apply, h.read_unread]
  exact congrArg x (first_idx0 d)

theorem first_idx1 : (Rect.unit (s := S4x8x1024) ![1, 0, 0] S1x1x1024.size inb_S4x8x1024_S1x1x1024_1_0_0).toLoadRect.idx (ix3 (0 : Fin 1) (0 : Fin 1) d : S1x1x1024.Idx) = (ix3 (1 : Fin 4) (0 : Fin 8) d : S4x8x1024.Idx) := by
  funext a
  apply Fin.ext
  fin_cases a
  · rfl
  · rfl
  · show 0 + 1 * d.val = d.val
    omega

theorem first_read1 : View.readAt (Elt Ideal) arg.view (Rect.unit (s := S4x8x1024) ![1, 0, 0] S1x1x1024.size inb_S4x8x1024_S1x1x1024_1_0_0).toLoadRect (h.unread x) (ix3 (0 : Fin 1) (0 : Fin 1) d) = x (ix3 (1 : Fin 4) (0 : Fin 8) d) := by
  rw [View.readAt_apply, h.read_unread]
  exact congrArg x (first_idx1 d)

theorem first_idx2 : (Rect.unit (s := S4x8x1024) ![2, 0, 0] S1x1x1024.size inb_S4x8x1024_S1x1x1024_2_0_0).toLoadRect.idx (ix3 (0 : Fin 1) (0 : Fin 1) d : S1x1x1024.Idx) = (ix3 (2 : Fin 4) (0 : Fin 8) d : S4x8x1024.Idx) := by
  funext a
  apply Fin.ext
  fin_cases a
  · rfl
  · rfl
  · show 0 + 1 * d.val = d.val
    omega

theorem first_read2 : View.readAt (Elt Ideal) arg.view (Rect.unit (s := S4x8x1024) ![2, 0, 0] S1x1x1024.size inb_S4x8x1024_S1x1x1024_2_0_0).toLoadRect (h.unread x) (ix3 (0 : Fin 1) (0 : Fin 1) d) = x (ix3 (2 : Fin 4) (0 : Fin 8) d) := by
  rw [View.readAt_apply, h.read_unread]
  exact congrArg x (first_idx2 d)

theorem first_idx3 : (Rect.unit (s := S4x8x1024) ![3, 0, 0] S1x1x1024.size inb_S4x8x1024_S1x1x1024_3_0_0).toLoadRect.idx (ix3 (0 : Fin 1) (0 : Fin 1) d : S1x1x1024.Idx) = (ix3 (3 : Fin 4) (0 : Fin 8) d : S4x8x1024.Idx) := by
  funext a
  apply Fin.ext
  fin_cases a
  · rfl
  · rfl
  · show 0 + 1 * d.val = d.val
    omega

theorem first_read3 : View.readAt (Elt Ideal) arg.view (Rect.unit (s := S4x8x1024) ![3, 0, 0] S1x1x1024.size inb_S4x8x1024_S1x1x1024_3_0_0).toLoadRect (h.unread x) (ix3 (0 : Fin 1) (0 : Fin 1) d) = x (ix3 (3 : Fin 4) (0 : Fin 8) d) := by
  rw [View.readAt_apply, h.read_unread]
  exact congrArg x (first_idx3 d)

end

theorem zero_read0 (c : Dev nD) (arg13 : Memref sig .tc .vmem S4x8x1024 .f32) (d : Fin 1024) : runA.sl.v456 (F := Ideal) c arg13 (ix3 (0 : Fin 1) (0 : Fin 1) d) = 0 := by
  unfold runA.sl.v456
  unfold View.readCov
  rw [View.readAt_apply]
  refine (congrArg _ (first_idx0 d)).trans ?_
  unfold runA.sl.H13_1
  rw [View.read_writes_cons_unit_of_mem _ _ _ _ _ _ (ix3 (0 : Fin 4) (0 : Fin 8) d) rfl (by intro a; fin_cases a <;> simp [ix3]), zero_state]

theorem zero_read1 (c : Dev nD) (arg13 : Memref sig .tc .vmem S4x8x1024 .f32) (d : Fin 1024) : runA.sl.v458 (F := Ideal) c arg13 (ix3 (0 : Fin 1) (0 : Fin 1) d) = 0 := by
  unfold runA.sl.v458
  unfold View.readCov
  rw [View.readAt_apply]
  refine (congrArg _ (first_idx1 d)).trans ?_
  unfold runA.sl.H13_1
  rw [View.read_writes_cons_unit_of_mem _ _ _ _ _ _ (ix3 (1 : Fin 4) (0 : Fin 8) d) rfl (by intro a; fin_cases a <;> simp [ix3]), zero_state]

theorem zero_read2 (c : Dev nD) (arg13 : Memref sig .tc .vmem S4x8x1024 .f32) (d : Fin 1024) : runA.sl.v460 (F := Ideal) c arg13 (ix3 (0 : Fin 1) (0 : Fin 1) d) = 0 := by
  unfold runA.sl.v460
  unfold View.readCov
  rw [View.readAt_apply]
  refine (congrArg _ (first_idx2 d)).trans ?_
  unfold runA.sl.H13_1
  rw [View.read_writes_cons_unit_of_mem _ _ _ _ _ _ (ix3 (2 : Fin 4) (0 : Fin 8) d) rfl (by intro a; fin_cases a <;> simp [ix3]), zero_state]

theorem zero_read3 (c : Dev nD) (arg13 : Memref sig .tc .vmem S4x8x1024 .f32) (d : Fin 1024) : runA.sl.v462 (F := Ideal) c arg13 (ix3 (0 : Fin 1) (0 : Fin 1) d) = 0 := by
  unfold runA.sl.v462
  unfold View.readCov
  rw [View.readAt_apply]
  refine (congrArg _ (first_idx3 d)).trans ?_
  unfold runA.sl.H13_1
  rw [View.read_writes_cons_unit_of_mem _ _ _ _ _ _ (ix3 (3 : Fin 4) (0 : Fin 8) d) rfl (by intro a; fin_cases a <;> simp [ix3]), zero_state]

/-! ## At the first point -/

section
variable (c : Dev nD) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S4x256x1024 .bf16) (harg10 : arg10.IsWhole) (arg11 : Memref sig .tc .vmem S4x1x1024 .f32) (harg11 : arg11.IsWhole) (arg12 : Memref sig .tc .vmem S4x264x1024 .f32) (harg12 : arg12.IsWhole) (arg13 : Memref sig .tc .vmem S4x8x1024 .f32) (harg13 : arg13.IsWhole) (arg14 : Memref sig .tc .vmem S4x256x1024 .f32) (harg14 : arg14.IsWhole) (arg15 : Memref sig .tc .vmem S4x256x1024 .f32) (harg15 : arg15.IsWhole) (arg16 : Memref sig .tc .vmem S4x256x1024 .f32) (harg16 : arg16.IsWhole) (x0 : FVec Ideal S4x256x1024 .f32) (x1 : FVec Ideal S4x256x1024 .f32) (x2 : FVec Ideal S4x1024 .f32) (x3 : FVec Ideal S1x1024 .f32) (x4 : FVec Ideal S4x256x256 .bf16) (x5 : FVec Ideal S1x1024 .f32) (x6 : FVec Ideal S4x256x256 .bf16) (x7 : FVec Ideal S1x1024 .f32) (x8 : FVec Ideal S1x1024 .f32)

theorem rowA0_at (d : Fin 1024) (n : ℕ) : rowA0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n (ix2 (0 : Fin 1) d) = scan (fun n => Ideal.exp (logAt noRows x0 x2 x3 x4 x5 x8 0 n d)) (fun n => shareAt noRows x0 x2 x3 x4 x5 x6 x7 x8 0 n d) 0 n := by
  unfold rowA0
  refine hs_at _ _ _ _ d _ _ _ (fun n => facA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 0 n d) (fun n => addA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 0 n d) ?_ n
  unfold runA.sl.r_40
  rw [first_row0, zero_read0]

theorem rowA1_at (d : Fin 1024) (n : ℕ) : rowA1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n (ix2 (0 : Fin 1) d) = scan (fun n => Ideal.exp (logAt noRows x0 x2 x3 x4 x5 x8 1 n d)) (fun n => shareAt noRows x0 x2 x3 x4 x5 x6 x7 x8 1 n d) 0 n := by
  unfold rowA1
  refine hs_at _ _ _ _ d _ _ _ (fun n => facA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 1 n d) (fun n => addA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 1 n d) ?_ n
  unfold runA.sl.r_41
  rw [first_row1, zero_read1]

theorem rowA2_at (d : Fin 1024) (n : ℕ) : rowA2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n (ix2 (0 : Fin 1) d) = scan (fun n => Ideal.exp (logAt noRows x0 x2 x3 x4 x5 x8 2 n d)) (fun n => shareAt noRows x0 x2 x3 x4 x5 x6 x7 x8 2 n d) 0 n := by
  unfold rowA2
  refine hs_at _ _ _ _ d _ _ _ (fun n => facA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 2 n d) (fun n => addA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 2 n d) ?_ n
  rw [first_row2, zero_read2]

theorem rowA3_at (d : Fin 1024) (n : ℕ) : rowA3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 n (ix2 (0 : Fin 1) d) = scan (fun n => Ideal.exp (logAt noRows x0 x2 x3 x4 x5 x8 3 n d)) (fun n => shareAt noRows x0 x2 x3 x4 x5 x6 x7 x8 3 n d) 0 n := by
  unfold rowA3
  refine hs_at _ _ _ _ d _ _ _ (fun n => facA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 3 n d) (fun n => addA_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 3 n d) ?_ n
  rw [first_row3, zero_read3]

theorem outA_ya_at (b : Fin 4) (n : Fin 256) (d : Fin 1024) : outA_ya (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 b n d) = geluAt (x1 (ix3 b n d)) * scan (fun n => Ideal.exp (logAt noRows x0 x2 x3 x4 x5 x8 b n d)) (fun n => shareAt noRows x0 x2 x3 x4 x5 x6 x7 x8 b n d) 0 (n.val + 1) := by
  unfold outA_ya piecesA_ya layout
  fin_cases b
  · rw [View.read_writes_cons_unit_of_not_mem _ _ _ _ _ _ rfl (0 : Fin 3) (Or.inl (show 0 < 3 by decide))]
    rw [View.read_writes_cons_unit_of_not_mem _ _ _ _ _ _ rfl (0 : Fin 3) (Or.inl (show 0 < 2 by decide))]
    rw [View.read_writes_cons_unit_of_not_mem _ _ _ _ _ _ rfl (0 : Fin 3) (Or.inl (show 0 < 1 by decide))]
    rw [View.read_writes_cons_unit_of_mem _ _ _ _ _ _ (ix3 (0 : Fin 1) n d) rfl (by intro a; fin_cases a <;> simp [ix3]), out_pay0, slab_read0]
    exact congrArg (fun z => geluAt (x1 (ix3 (0 : Fin 4) n d)) * z) (rowA0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d (n.val + 1))
  · rw [View.read_writes_cons_unit_of_not_mem _ _ _ _ _ _ rfl (0 : Fin 3) (Or.inl (show 1 < 3 by decide))]
    rw [View.read_writes_cons_unit_of_not_mem _ _ _ _ _ _ rfl (0 : Fin 3) (Or.inl (show 1 < 2 by decide))]
    rw [View.read_writes_cons_unit_of_mem _ _ _ _ _ _ (ix3 (0 : Fin 1) n d) rfl (by intro a; fin_cases a <;> simp [ix3]), out_pay1, slab_read1]
    exact congrArg (fun z => geluAt (x1 (ix3 (1 : Fin 4) n d)) * z) (rowA1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d (n.val + 1))
  · rw [View.read_writes_cons_unit_of_not_mem _ _ _ _ _ _ rfl (0 : Fin 3) (Or.inl (show 2 < 3 by decide))]
    rw [View.read_writes_cons_unit_of_mem _ _ _ _ _ _ (ix3 (0 : Fin 1) n d) rfl (by intro a; fin_cases a <;> simp [ix3]), out_pay2, slab_read2]
    exact congrArg (fun z => geluAt (x1 (ix3 (2 : Fin 4) n d)) * z) (rowA2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d (n.val + 1))
  · rw [View.read_writes_cons_unit_of_mem _ _ _ _ _ _ (ix3 (0 : Fin 1) n d) rfl (by intro a; fin_cases a <;> simp [ix3]), out_pay3, slab_read3]
    exact congrArg (fun z => geluAt (x1 (ix3 (3 : Fin 4) n d)) * z) (rowA3_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d (n.val + 1))

theorem outA_h_at (b : Fin 4) (d : Fin 1024) : outA_h (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 b (0 : Fin 1) d) = scan (fun n => Ideal.exp (logAt noRows x0 x2 x3 x4 x5 x8 b n d)) (fun n => shareAt noRows x0 x2 x3 x4 x5 x6 x7 x8 b n d) 0 256 := by
  unfold outA_h piecesA_h lastRows
  fin_cases b
  · rw [View.read_writes_cons_unit_of_not_mem _ _ _ _ _ _ rfl (0 : Fin 3) (Or.inl (show 0 < 3 by decide))]
    rw [View.read_writes_cons_unit_of_not_mem _ _ _ _ _ _ rfl (0 : Fin 3) (Or.inl (show 0 < 2 by decide))]
    rw [View.read_writes_cons_unit_of_not_mem _ _ _ _ _ _ rfl (0 : Fin 3) (Or.inl (show 0 < 1 by decide))]
    rw [View.read_writes_cons_unit_of_mem _ _ _ _ _ _ (ix3 (0 : Fin 1) (0 : Fin 1) d) rfl (by intro a; fin_cases a <;> simp [ix3]), last_row0]
    exact rowA0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256
  · rw [View.read_writes_cons_unit_of_not_mem _ _ _ _ _ _ rfl (0 : Fin 3) (Or.inl (show 1 < 3 by decide))]
    rw [View.read_writes_cons_unit_of_not_mem _ _ _ _ _ _ rfl (0 : Fin 3) (Or.inl (show 1 < 2 by decide))]
    rw [View.read_writes_cons_unit_of_mem _ _ _ _ _ _ (ix3 (0 : Fin 1) (0 : Fin 1) d) rfl (by intro a; fin_cases a <;> simp [ix3]), last_row1]
    exact rowA1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256
  · rw [View.read_writes_cons_unit_of_not_mem _ _ _ _ _ _ rfl (0 : Fin 3) (Or.inl (show 2 < 3 by decide))]
    rw [View.read_writes_cons_unit_of_mem _ _ _ _ _ _ (ix3 (0 : Fin 1) (0 : Fin 1) d) rfl (by intro a; fin_cases a <;> simp [ix3]), last_row2]
    exact rowA2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256
  · rw [View.read_writes_cons_unit_of_mem _ _ _ _ _ _ (ix3 (0 : Fin 1) (0 : Fin 1) d) rfl (by intro a; fin_cases a <;> simp [ix3]), last_row3]
    exact rowA3_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256

theorem outA_hc_at (b : Fin 4) (d : Fin 1024) : outA_hc (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 b (0 : Fin 8) d) = scan (fun n => Ideal.exp (logAt noRows x0 x2 x3 x4 x5 x8 b n d)) (fun n => shareAt noRows x0 x2 x3 x4 x5 x6 x7 x8 b n d) 0 256 := by
  unfold outA_hc piecesA_hc keptRows
  rw [List.cons_append, List.cons_append, List.cons_append, List.cons_append, List.nil_append]
  fin_cases b
  · rw [View.read_writes_cons_unit_of_not_mem _ _ _ _ _ _ rfl (0 : Fin 3) (Or.inl (show 0 < 3 by decide))]
    rw [View.read_writes_cons_unit_of_not_mem _ _ _ _ _ _ rfl (0 : Fin 3) (Or.inl (show 0 < 2 by decide))]
    rw [View.read_writes_cons_unit_of_not_mem _ _ _ _ _ _ rfl (0 : Fin 3) (Or.inl (show 0 < 1 by decide))]
    rw [View.read_writes_cons_unit_of_mem _ _ _ _ _ _ (ix3 (0 : Fin 1) (0 : Fin 1) d) rfl (by intro a; fin_cases a <;> simp [ix3]), kept_row0]
    exact rowA0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256
  · rw [View.read_writes_cons_unit_of_not_mem _ _ _ _ _ _ rfl (0 : Fin 3) (Or.inl (show 1 < 3 by decide))]
    rw [View.read_writes_cons_unit_of_not_mem _ _ _ _ _ _ rfl (0 : Fin 3) (Or.inl (show 1 < 2 by decide))]
    rw [View.read_writes_cons_unit_of_mem _ _ _ _ _ _ (ix3 (0 : Fin 1) (0 : Fin 1) d) rfl (by intro a; fin_cases a <;> simp [ix3]), kept_row1]
    exact rowA1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256
  · rw [View.read_writes_cons_unit_of_not_mem _ _ _ _ _ _ rfl (0 : Fin 3) (Or.inl (show 2 < 3 by decide))]
    rw [View.read_writes_cons_unit_of_mem _ _ _ _ _ _ (ix3 (0 : Fin 1) (0 : Fin 1) d) rfl (by intro a; fin_cases a <;> simp [ix3]), kept_row2]
    exact rowA2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256
  · rw [View.read_writes_cons_unit_of_mem _ _ _ _ _ _ (ix3 (0 : Fin 1) (0 : Fin 1) d) rfl (by intro a; fin_cases a <;> simp [ix3]), kept_row3]
    exact rowA3_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 d 256

theorem outA_xs_at (b : Fin 4) (n : Fin 8) (d : Fin 1024) : outA_xs (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 b (⟨n.val, by omega⟩ : Fin 264) d) = x0 (ix3 b (⟨248 + n.val, by omega⟩ : Fin 256) d) := by
  unfold outA_xs piecesA_xs
  exact keptA _ _ _ _ _ _ _ b n d

end

/-! ## At a later point -/

section
variable (c : Dev nD) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S4x256x1024 .bf16) (harg10 : arg10.IsWhole) (arg11 : Memref sig .tc .vmem S4x1x1024 .f32) (harg11 : arg11.IsWhole) (arg12 : Memref sig .tc .vmem S4x264x1024 .f32) (harg12 : arg12.IsWhole) (arg13 : Memref sig .tc .vmem S4x8x1024 .f32) (harg13 : arg13.IsWhole) (arg14 : Memref sig .tc .vmem S4x256x1024 .f32) (harg14 : arg14.IsWhole) (arg15 : Memref sig .tc .vmem S4x256x1024 .f32) (harg15 : arg15.IsWhole) (arg16 : Memref sig .tc .vmem S4x256x1024 .f32) (harg16 : arg16.IsWhole) (x0 : FVec Ideal S4x256x1024 .f32) (x1 : FVec Ideal S4x256x1024 .f32) (x2 : FVec Ideal S4x1024 .f32) (x3 : FVec Ideal S1x1024 .f32) (x4 : FVec Ideal S4x256x256 .bf16) (x5 : FVec Ideal S1x1024 .f32) (x6 : FVec Ideal S4x256x256 .bf16) (x7 : FVec Ideal S1x1024 .f32) (x8 : FVec Ideal S1x1024 .f32) (xs0 : FVec Ideal S4x264x1024 .f32) (xs1 : FVec Ideal S4x8x1024 .f32)

theorem rowB0_at (d : Fin 1024) (n : ℕ) : rowB0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n (ix2 (0 : Fin 1) d) = scan (fun n => Ideal.exp (logAt (oldRows xs0) x0 x2 x3 x4 x5 x8 0 n d)) (fun n => shareAt (oldRows xs0) x0 x2 x3 x4 x5 x6 x7 x8 0 n d) (xs1 (ix3 (0 : Fin 4) (0 : Fin 8) d)) n := by
  unfold rowB0
  refine hs_at _ _ _ _ d _ _ _ (fun n => facB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 0 n d) (fun n => addB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 0 n d) ?_ n
  unfold runB.sl.r_40
  rw [first_row0, first_read0]

theorem rowB1_at (d : Fin 1024) (n : ℕ) : rowB1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n (ix2 (0 : Fin 1) d) = scan (fun n => Ideal.exp (logAt (oldRows xs0) x0 x2 x3 x4 x5 x8 1 n d)) (fun n => shareAt (oldRows xs0) x0 x2 x3 x4 x5 x6 x7 x8 1 n d) (xs1 (ix3 (1 : Fin 4) (0 : Fin 8) d)) n := by
  unfold rowB1
  refine hs_at _ _ _ _ d _ _ _ (fun n => facB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 1 n d) (fun n => addB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 1 n d) ?_ n
  unfold runB.sl.r_41
  rw [first_row1, first_read1]

theorem rowB2_at (d : Fin 1024) (n : ℕ) : rowB2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n (ix2 (0 : Fin 1) d) = scan (fun n => Ideal.exp (logAt (oldRows xs0) x0 x2 x3 x4 x5 x8 2 n d)) (fun n => shareAt (oldRows xs0) x0 x2 x3 x4 x5 x6 x7 x8 2 n d) (xs1 (ix3 (2 : Fin 4) (0 : Fin 8) d)) n := by
  unfold rowB2
  refine hs_at _ _ _ _ d _ _ _ (fun n => facB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 2 n d) (fun n => addB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 2 n d) ?_ n
  rw [first_row2, first_read2]

theorem rowB3_at (d : Fin 1024) (n : ℕ) : rowB3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 n (ix2 (0 : Fin 1) d) = scan (fun n => Ideal.exp (logAt (oldRows xs0) x0 x2 x3 x4 x5 x8 3 n d)) (fun n => shareAt (oldRows xs0) x0 x2 x3 x4 x5 x6 x7 x8 3 n d) (xs1 (ix3 (3 : Fin 4) (0 : Fin 8) d)) n := by
  unfold rowB3
  refine hs_at _ _ _ _ d _ _ _ (fun n => facB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 3 n d) (fun n => addB_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 3 n d) ?_ n
  rw [first_row3, first_read3]

theorem outB_ya_at (b : Fin 4) (n : Fin 256) (d : Fin 1024) : outB_ya (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 b n d) = geluAt (x1 (ix3 b n d)) * scan (fun n => Ideal.exp (logAt (oldRows xs0) x0 x2 x3 x4 x5 x8 b n d)) (fun n => shareAt (oldRows xs0) x0 x2 x3 x4 x5 x6 x7 x8 b n d) (xs1 (ix3 b (0 : Fin 8) d)) (n.val + 1) := by
  unfold outB_ya piecesB_ya layout
  fin_cases b
  · rw [View.read_writes_cons_unit_of_not_mem _ _ _ _ _ _ rfl (0 : Fin 3) (Or.inl (show 0 < 3 by decide))]
    rw [View.read_writes_cons_unit_of_not_mem _ _ _ _ _ _ rfl (0 : Fin 3) (Or.inl (show 0 < 2 by decide))]
    rw [View.read_writes_cons_unit_of_not_mem _ _ _ _ _ _ rfl (0 : Fin 3) (Or.inl (show 0 < 1 by decide))]
    rw [View.read_writes_cons_unit_of_mem _ _ _ _ _ _ (ix3 (0 : Fin 1) n d) rfl (by intro a; fin_cases a <;> simp [ix3]), out_pay0, slab_read0]
    exact congrArg (fun z => geluAt (x1 (ix3 (0 : Fin 4) n d)) * z) (rowB0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d (n.val + 1))
  · rw [View.read_writes_cons_unit_of_not_mem _ _ _ _ _ _ rfl (0 : Fin 3) (Or.inl (show 1 < 3 by decide))]
    rw [View.read_writes_cons_unit_of_not_mem _ _ _ _ _ _ rfl (0 : Fin 3) (Or.inl (show 1 < 2 by decide))]
    rw [View.read_writes_cons_unit_of_mem _ _ _ _ _ _ (ix3 (0 : Fin 1) n d) rfl (by intro a; fin_cases a <;> simp [ix3]), out_pay1, slab_read1]
    exact congrArg (fun z => geluAt (x1 (ix3 (1 : Fin 4) n d)) * z) (rowB1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d (n.val + 1))
  · rw [View.read_writes_cons_unit_of_not_mem _ _ _ _ _ _ rfl (0 : Fin 3) (Or.inl (show 2 < 3 by decide))]
    rw [View.read_writes_cons_unit_of_mem _ _ _ _ _ _ (ix3 (0 : Fin 1) n d) rfl (by intro a; fin_cases a <;> simp [ix3]), out_pay2, slab_read2]
    exact congrArg (fun z => geluAt (x1 (ix3 (2 : Fin 4) n d)) * z) (rowB2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d (n.val + 1))
  · rw [View.read_writes_cons_unit_of_mem _ _ _ _ _ _ (ix3 (0 : Fin 1) n d) rfl (by intro a; fin_cases a <;> simp [ix3]), out_pay3, slab_read3]
    exact congrArg (fun z => geluAt (x1 (ix3 (3 : Fin 4) n d)) * z) (rowB3_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d (n.val + 1))

theorem outB_h_at (b : Fin 4) (d : Fin 1024) : outB_h (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 b (0 : Fin 1) d) = scan (fun n => Ideal.exp (logAt (oldRows xs0) x0 x2 x3 x4 x5 x8 b n d)) (fun n => shareAt (oldRows xs0) x0 x2 x3 x4 x5 x6 x7 x8 b n d) (xs1 (ix3 b (0 : Fin 8) d)) 256 := by
  unfold outB_h piecesB_h lastRows
  fin_cases b
  · rw [View.read_writes_cons_unit_of_not_mem _ _ _ _ _ _ rfl (0 : Fin 3) (Or.inl (show 0 < 3 by decide))]
    rw [View.read_writes_cons_unit_of_not_mem _ _ _ _ _ _ rfl (0 : Fin 3) (Or.inl (show 0 < 2 by decide))]
    rw [View.read_writes_cons_unit_of_not_mem _ _ _ _ _ _ rfl (0 : Fin 3) (Or.inl (show 0 < 1 by decide))]
    rw [View.read_writes_cons_unit_of_mem _ _ _ _ _ _ (ix3 (0 : Fin 1) (0 : Fin 1) d) rfl (by intro a; fin_cases a <;> simp [ix3]), last_row0]
    exact rowB0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256
  · rw [View.read_writes_cons_unit_of_not_mem _ _ _ _ _ _ rfl (0 : Fin 3) (Or.inl (show 1 < 3 by decide))]
    rw [View.read_writes_cons_unit_of_not_mem _ _ _ _ _ _ rfl (0 : Fin 3) (Or.inl (show 1 < 2 by decide))]
    rw [View.read_writes_cons_unit_of_mem _ _ _ _ _ _ (ix3 (0 : Fin 1) (0 : Fin 1) d) rfl (by intro a; fin_cases a <;> simp [ix3]), last_row1]
    exact rowB1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256
  · rw [View.read_writes_cons_unit_of_not_mem _ _ _ _ _ _ rfl (0 : Fin 3) (Or.inl (show 2 < 3 by decide))]
    rw [View.read_writes_cons_unit_of_mem _ _ _ _ _ _ (ix3 (0 : Fin 1) (0 : Fin 1) d) rfl (by intro a; fin_cases a <;> simp [ix3]), last_row2]
    exact rowB2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256
  · rw [View.read_writes_cons_unit_of_mem _ _ _ _ _ _ (ix3 (0 : Fin 1) (0 : Fin 1) d) rfl (by intro a; fin_cases a <;> simp [ix3]), last_row3]
    exact rowB3_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256

theorem outB_hc_at (b : Fin 4) (d : Fin 1024) : outB_hc (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 b (0 : Fin 8) d) = scan (fun n => Ideal.exp (logAt (oldRows xs0) x0 x2 x3 x4 x5 x8 b n d)) (fun n => shareAt (oldRows xs0) x0 x2 x3 x4 x5 x6 x7 x8 b n d) (xs1 (ix3 b (0 : Fin 8) d)) 256 := by
  unfold outB_hc piecesB_hc keptRows
  fin_cases b
  · rw [View.read_writes_cons_unit_of_not_mem _ _ _ _ _ _ rfl (0 : Fin 3) (Or.inl (show 0 < 3 by decide))]
    rw [View.read_writes_cons_unit_of_not_mem _ _ _ _ _ _ rfl (0 : Fin 3) (Or.inl (show 0 < 2 by decide))]
    rw [View.read_writes_cons_unit_of_not_mem _ _ _ _ _ _ rfl (0 : Fin 3) (Or.inl (show 0 < 1 by decide))]
    rw [View.read_writes_cons_unit_of_mem _ _ _ _ _ _ (ix3 (0 : Fin 1) (0 : Fin 1) d) rfl (by intro a; fin_cases a <;> simp [ix3]), kept_row0]
    exact rowB0_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256
  · rw [View.read_writes_cons_unit_of_not_mem _ _ _ _ _ _ rfl (0 : Fin 3) (Or.inl (show 1 < 3 by decide))]
    rw [View.read_writes_cons_unit_of_not_mem _ _ _ _ _ _ rfl (0 : Fin 3) (Or.inl (show 1 < 2 by decide))]
    rw [View.read_writes_cons_unit_of_mem _ _ _ _ _ _ (ix3 (0 : Fin 1) (0 : Fin 1) d) rfl (by intro a; fin_cases a <;> simp [ix3]), kept_row1]
    exact rowB1_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256
  · rw [View.read_writes_cons_unit_of_not_mem _ _ _ _ _ _ rfl (0 : Fin 3) (Or.inl (show 2 < 3 by decide))]
    rw [View.read_writes_cons_unit_of_mem _ _ _ _ _ _ (ix3 (0 : Fin 1) (0 : Fin 1) d) rfl (by intro a; fin_cases a <;> simp [ix3]), kept_row2]
    exact rowB2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256
  · rw [View.read_writes_cons_unit_of_mem _ _ _ _ _ _ (ix3 (0 : Fin 1) (0 : Fin 1) d) rfl (by intro a; fin_cases a <;> simp [ix3]), kept_row3]
    exact rowB3_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 d 256

theorem outB_xs_at (b : Fin 4) (n : Fin 8) (d : Fin 1024) : outB_xs (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 xs0 xs1 (ix3 b (⟨n.val, by omega⟩ : Fin 264) d) = x0 (ix3 b (⟨248 + n.val, by omega⟩ : Fin 256) d) := by
  unfold outB_xs piecesB_xs
  exact keptB _ _ _ _ _ _ _ b n d

end

end Cert.RgIdeal.Body

end
-- ==== Proof.RgIdeal.Blocks.lean ====
/-
  The blocks a grid point reads, at one position, from the program's arguments.
-/
module

public import proofs.«01_k».proof.Proof.Gen.RgIdeal.Frame
public import Idealize.ShloMosaic.Lib.Pipeline.ValueKit
public import Idealize.ShloMosaic.Lib.Pointwise
public import Idealize.ShloMosaic.Lib.Claim

@[expose] public section

set_option maxRecDepth 16384

noncomputable section

namespace Cert.RgIdeal.Body

open Cert.RgIdeal Cert.RgIdeal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem points (t : Fin cfg0.N) : t.val < 16 := t.isLt

/-- Every window's block index at point `t`: the rows' windows by `t`, the others fixed. -/
theorem idx : ∀ t : Fin cfg0.N, win0_0.index t = ![0, t.val, 0] ∧ win0_1.index t = ![0, t.val, 1] ∧ win0_2.index t = ![0, 0] ∧ win0_3.index t = ![0, 0]
    ∧ win0_4.index t = ![0, 0, 0] ∧ win0_5.index t = ![0, 0] ∧ win0_6.index t = ![0, 0, 0] ∧ win0_7.index t = ![0, 0] ∧ win0_8.index t = ![0, 0]
    ∧ win0_9.index t = ![0, t.val, 0] ∧ win0_10.index t = ![0, 0, 0] :=
  (by decide +kernel : ∀ t : Fin grid0.N, _)

theorem rows_block (b : Fin 4) (n : Fin 256) (d : Fin 1024) :
    (iblk m c 0 t : FVec Ideal S4x256x1024 .f32) (ix3 b n d) = m ((c : Thread nD τ).loc main_arg0) (ix3 b (⟨256 * t.val + n.val, by have := points t; omega⟩ : Fin 4096) (⟨d.val, by omega⟩ : Fin 10240)) := by
  blk_point [iblk, V, idx t]

theorem gate_block (b : Fin 4) (n : Fin 256) (d : Fin 1024) :
    (iblk m c 1 t : FVec Ideal S4x256x1024 .f32) (ix3 b n d) = m ((c : Thread nD τ).loc main_arg0) (ix3 b (⟨256 * t.val + n.val, by have := points t; omega⟩ : Fin 4096) (⟨1024 + d.val, by omega⟩ : Fin 10240)) := by
  blk_point [iblk, V, idx t]

theorem taps_block (r : Fin 4) (d : Fin 1024) : (iblk m c 2 t : FVec Ideal S4x1024 .f32) (ix2 r d) = m ((c : Thread nD τ).loc main_arg1) (ix2 r d) := by
  blk_point [iblk, V, idx t]

theorem bias_block (d : Fin 1024) : (iblk m c 3 t : FVec Ideal S1x1024 .f32) (ix2 (0 : Fin 1) d) = m ((c : Thread nD τ).loc main_arg2) (ix1 d) := by
  blk_point [iblk, V, idx t]

theorem ba_block (d : Fin 1024) : (iblk m c 5 t : FVec Ideal S1x1024 .f32) (ix2 (0 : Fin 1) d) = m ((c : Thread nD τ).loc main_arg4) (ix1 d) := by
  blk_point [iblk, V, idx t]

theorem bi_block (d : Fin 1024) : (iblk m c 7 t : FVec Ideal S1x1024 .f32) (ix2 (0 : Fin 1) d) = m ((c : Thread nD τ).loc main_arg6) (ix1 d) := by
  blk_point [iblk, V, idx t]

theorem lam_block (d : Fin 1024) : (iblk m c 8 t : FVec Ideal S1x1024 .f32) (ix2 (0 : Fin 1) d) = m ((c : Thread nD τ).loc main_arg7) (ix1 d) := by
  blk_point [iblk, V, idx t]

/-- The packed weights: block `r` of the sixteen lies on the diagonal, zeros elsewhere. -/
def packed (w : FVec Ideal S16x64x64 .f32) (r : Fin 4) (k e : Fin 256) : EReal :=
  w (ix3 (⟨4 * r.val + k.val / 64, by omega⟩ : Fin 16) (⟨k.val % 64, by omega⟩ : Fin 64) (⟨e.val % 64, by omega⟩ : Fin 64)) * (if k.val / 64 = e.val / 64 then 1 else 0)

theorem same_part (p q : ℕ) (hp : p < 4) (hq : q < 4) :
    FloatOps.uitofp (F := Ideal) .f32 (IntOp.cmpi .eq (IntOp.addi (BitVec.ofNat 32 p) 0#32) (BitVec.ofNat 32 q)) = if p = q then (1 : EReal) else 0 := by
  have h : ∀ p q : Fin 4, (IntOp.cmpi .eq (IntOp.addi (BitVec.ofNat 32 p.val) 0#32) (BitVec.ofNat 32 q.val)) = if p.val = q.val then 1#1 else 0#1 := by decide
  rw [h ⟨p, hp⟩ ⟨q, hq⟩]
  show FloatOps.uitofp (F := Ideal) .f32 (if p = q then 1#1 else 0#1) = _
  by_cases e : p = q
  · rw [if_pos e, if_pos e]
    show (((1#1).toNat : ℝ) : EReal) = 1
    norm_num
  · rw [if_neg e, if_neg e]
    show (((0#1).toNat : ℝ) : EReal) = 0
    norm_num

theorem wa_block (r : Fin 4) (k e : Fin 256) : (iblk m c 4 t : FVec Ideal S4x256x256 .bf16) (ix3 r k e) = packed (m ((c : Thread nD τ).loc main_arg3)) r k e := by
  have h : (iblk m c 4 t : FVec Ideal S4x256x256 .bf16) (ix3 r k e) = (V m c main_v14 : FVec Ideal S4x256x256 .bf16) (ix3 r k e) := by
    blk_ext [iblk, idx t]
  rw [h]
  unfold packed
  entry_read
  pointwise
  refine (congr (congrArg HMul.hMul ?_) (same_part (k.val / 64) (e.val / 64) (by omega) (by omega)))
  blk_ext

theorem wi_block (r : Fin 4) (k e : Fin 256) : (iblk m c 6 t : FVec Ideal S4x256x256 .bf16) (ix3 r k e) = packed (m ((c : Thread nD τ).loc main_arg5)) r k e := by
  have h : (iblk m c 6 t : FVec Ideal S4x256x256 .bf16) (ix3 r k e) = (V m c main_v29 : FVec Ideal S4x256x256 .bf16) (ix3 r k e) := by
    blk_ext [iblk, idx t]
  rw [h]
  unfold packed
  entry_read
  pointwise
  refine (congr (congrArg HMul.hMul ?_) (same_part (k.val / 64) (e.val / 64) (by omega) (by omega)))
  blk_ext

end Cert.RgIdeal.Body

end
-- ==== Proof.RgRef.Scan.lean ====
/-
  The reference of the recurrence, run: its scan over the 4096 tokens is the step function `Step.step` iterated.

  A valuation of the buffers HOLDS a state when the carried buffers are the state's fields and the counter is the
  number of the trip. One trip of the loop takes a valuation that holds a state to one that holds the next, so the
  results after the loop are those of the state numbered 4096.
-/
module

public import proofs.«01_k».proof.Proof.Gen.RgRefIdeal.Run
public import proofs.«01_k».proof.Proof.Gen.RgRefIdeal.Step

@[expose] public section

set_option maxRecDepth 8192

noncomputable section

namespace Cert.RgRefIdeal.Scan

open Idealize.ShloMosaic Idealize.ShloMosaic.TcCoe Idealize.SL.Sem Idealize.ShloMosaic.StableHlo
open Cert.RgRefIdeal Cert.RgRefIdeal.Gen Cert.RgRefIdeal.Value
open Cert.RgRefIdeal.Step (State step init)

variable {F : FTy → Type} [FloatOps F]

/-- The buffers hold state `s` before trip `j`. -/
structure Holds (V0 : Valuation τ sig (Elt F)) (s : State F) (j : ℕ) : Prop where
  carry : V0 (Proc.devRef .tc main_v77_3) = s.main_v77_3
  rows : V0 (Proc.devRef .tc main_v77_4) = s.main_v77_4
  decay : V0 (Proc.devRef .tc main_v77_0) = s.main_v77_0
  input : V0 (Proc.devRef .tc main_v77_1) = s.main_v77_1
  count : V0 (Proc.devRef .tc main_v77_2) = constantI S_ 32 (BitVec.ofNat 32 j)

variable {V0 : Valuation τ sig (Elt F)} {s : State F} {j : ℕ}

/-- One trip's new value of the recurrence. -/
theorem trip_value (h : Holds V0 s j) : res_main_while0b_v99 V0 = Step.b9 j s := by
  unfold res_main_while0b_v99 Step.b9 Step.b8 Step.b7 Step.b6 Step.b5 Step.b4 Step.b3 Step.b2 Step.b1 Step.b0
  rw [h.carry, h.decay, h.input, h.count]
  rfl

theorem trip_carry (h : Holds V0 s j) : step_main_v77_3 V0 = (step j s).main_v77_3 := by
  unfold step_main_v77_3 Step.step
  exact trip_value h

/-- One trip's rows: the new value put in at the trip's number. -/
theorem trip_rows (h : Holds V0 s j) : step_main_v77_4 V0 = (step j s).main_v77_4 := by
  rw [Step.step_main_v77_4]
  unfold step_main_v77_4 Step.b13 Step.b12 Step.b11 Step.b10
  rw [trip_value h, h.rows, h.count]
  rfl

theorem trip_count (h : Holds V0 s j) : step_main_v77_2 V0 = constantI S_ 32 (BitVec.ofNat 32 (j + 1)) := by
  unfold step_main_v77_2
  rw [h.count]
  funext i
  show BitVec.ofNat 32 j + 1#32 = BitVec.ofNat 32 (j + 1)
  simp only [BitVec.ofNat_add]

/-- One trip keeps the buffers holding the state. -/
theorem holds_step (h : Holds V0 s j) : Holds (STEP V0) (step j s) (j + 1) where
  carry := (STEP_main_v77_3 V0).trans (trip_carry h)
  rows := (STEP_main_v77_4 V0).trans (trip_rows h)
  count := (STEP_main_v77_2 V0).trans (trip_count h)
  decay := (STEP_main_v77_0 V0).trans h.decay
  input := (STEP_main_v77_1 V0).trans h.input

/-- The first state, from the arguments. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 1000000 in
/-- The operations before the loop leave the first state. -/
theorem entry_holds : Holds (entryContents preI m c) (initState m c) 0 := by
  constructor <;> (simp only [entryContents, afterL_cons, afterL_nil]; after_reads_simp) <;> rfl

/-- The states, one per trip. -/
def states : ℕ → State F
  | 0 => initState m c
  | n + 1 => step n (states n)

theorem holds_states : ∀ k, Holds (STEP^[k] (entryContents preI m c)) (states m c k) k
  | 0 => entry_holds m c
  | k + 1 => by
    rw [Function.iterate_succ_apply']
    exact holds_step (holds_states k)

theorem out_rows (h : Holds V0 s j) {x0 : (⟨S4x4096x10240, .f32⟩ : BufTy).Contents (Elt F)}
    (h0 : V0 (Proc.devRef .tc main_arg0) = x0) : out_main_v94 V0 = Step.R_main_v94 s x0 := by
  unfold out_main_v94 Step.R_main_v94
  rw [h.rows, h0]
  try rfl

theorem out_last (h : Holds V0 s j) : out_main_v95 V0 = Step.R_main_v95 s := by
  unfold out_main_v95 Step.R_main_v95
  rw [h.carry]
  rfl

/-- The reference's run: both results are those of the state after the 4096 trips, the arguments end as launched. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v94) = Step.R_main_v94 (states m c 4096) (m ((c.tc : Thread nD τ).loc main_arg0))
      ∧ r.2.mem ((c.tc : Thread nD τ).loc main_v95) = Step.R_main_v95 (states m c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_states m c 4096
    ⟨(h c).1.trans (out_rows hk (iter_main_arg0 m c 4096)), (h c).2.1.trans (out_last hk), (h c).2.2⟩) (Value.run m ρ)

end Cert.RgRefIdeal.Scan

end
-- ==== Proof.RgRef.Rows.lean ====
/-
  The reference's scan, one position at a time: the carried value after `k` tokens and the rows stored so far, from the
  decays and the inputs' shares.
-/
module

public import proofs.«01_k».proof.Proof.RgRef.Scan
public import Idealize.ShloMosaic.Lib.Pointwise

@[expose] public section

set_option maxRecDepth 8192

noncomputable section

namespace Cert.RgRefIdeal.Scan

open Idealize.ShloMosaic Idealize.ShloMosaic.TcCoe Idealize.SL.Sem Idealize.ShloMosaic.StableHlo
open Cert.RgRefIdeal Cert.RgRefIdeal.Gen
open Cert.RgRefIdeal.Step (State step init)

theorem toInt_small (j : ℕ) (hj : j < 4096) : (BitVec.ofNat 32 j).toInt = (j : ℤ) := by
  rw [BitVec.toInt_eq_toNat_of_lt] <;> rw [BitVec.toNat_ofNat] <;> omega

/-- The slice of one row reads that row. -/
theorem slice_at (x : FVec Ideal S4096x4x1024 .f32) (start : Fin 3 → Int) (h : S4096x4x1024.Slices (fun _ => 0) S1x4x1024) (j : ℕ) (hj : j < 4096)
    (h0 : start 0 = j) (h1 : start 1 = 0) (h2 : start 2 = 0) (b : Fin 4) (d : Fin 1024) :
    Host.dynamicSlice S1x4x1024 x start h (ix3 (0 : Fin 1) b d) = x (ix3 (⟨j, hj⟩ : Fin 4096) b d) := by
  rw [Host.dynamicSlice_apply]
  have e0 : Host.clampedStart S4096x4x1024 S1x4x1024 h.1 start (0 : Fin 3) = j := Host.clampedStart_of_le h.1 start (0 : Fin 3) j h0 (by show j + 1 ≤ 4096; omega)
  have e1 : Host.clampedStart S4096x4x1024 S1x4x1024 h.1 start (1 : Fin 3) = 0 := Host.clampedStart_of_le h.1 start (1 : Fin 3) 0 h1 (by show 0 + 4 ≤ 4; omega)
  have e2 : Host.clampedStart S4096x4x1024 S1x4x1024 h.1 start (2 : Fin 3) = 0 := Host.clampedStart_of_le h.1 start (2 : Fin 3) 0 h2 (by show 0 + 1024 ≤ 1024; omega)
  refine congrArg x ?_
  rw [Shape.Idx.norm_def]
  funext a
  apply Fin.ext
  fin_cases a
  · show Host.clampedStart S4096x4x1024 S1x4x1024 h.1 start (0 : Fin 3) + 0 = j
    rw [e0]; rfl
  · show Host.clampedStart S4096x4x1024 S1x4x1024 h.1 start (1 : Fin 3) + b.val = b.val
    rw [e1]; omega
  · show Host.clampedStart S4096x4x1024 S1x4x1024 h.1 start (2 : Fin 3) + d.val = d.val
    rw [e2]; omega

/-- The update of one row, at that row and elsewhere. -/
theorem update_at (x : FVec Ideal S4096x4x1024 .f32) (u : FVec Ideal S1x4x1024 .f32) (start : Fin 3 → Int) (h : S4096x4x1024.Slices (fun _ => 0) S1x4x1024) (j : ℕ) (hj : j < 4096)
    (h0 : start 0 = j) (h1 : start 1 = 0) (h2 : start 2 = 0) (n : Fin 4096) (b : Fin 4) (d : Fin 1024) :
    Host.dynamicUpdateSlice x u start h (ix3 n b d) = if n.val = j then u (ix3 (0 : Fin 1) b d) else x (ix3 n b d) := by
  rw [Host.dynamicUpdateSlice_apply]
  have e0 : Host.clampedStart S4096x4x1024 S1x4x1024 h.1 start (0 : Fin 3) = j := Host.clampedStart_of_le h.1 start (0 : Fin 3) j h0 (by show j + 1 ≤ 4096; omega)
  have e1 : Host.clampedStart S4096x4x1024 S1x4x1024 h.1 start (1 : Fin 3) = 0 := Host.clampedStart_of_le h.1 start (1 : Fin 3) 0 h1 (by show 0 + 4 ≤ 4; omega)
  have e2 : Host.clampedStart S4096x4x1024 S1x4x1024 h.1 start (2 : Fin 3) = 0 := Host.clampedStart_of_le h.1 start (2 : Fin 3) 0 h2 (by show 0 + 1024 ≤ 1024; omega)
  by_cases hn : n.val = j
  · rw [if_pos hn, dif_pos]
    · refine congrArg u ?_
      rw [Shape.Idx.norm_def]
      funext a
      apply Fin.ext
      fin_cases a
      · show n.val - Host.clampedStart S4096x4x1024 S1x4x1024 h.1 start (0 : Fin 3) = 0
        rw [e0]; omega
      · show b.val - Host.clampedStart S4096x4x1024 S1x4x1024 h.1 start (1 : Fin 3) = b.val
        rw [e1]; omega
      · show d.val - Host.clampedStart S4096x4x1024 S1x4x1024 h.1 start (2 : Fin 3) = d.val
        rw [e2]; omega
    · intro a
      fin_cases a
      · show Host.clampedStart S4096x4x1024 S1x4x1024 h.1 start (0 : Fin 3) ≤ n.val ∧ n.val < Host.clampedStart S4096x4x1024 S1x4x1024 h.1 start (0 : Fin 3) + 1
        rw [e0]; omega
      · show Host.clampedStart S4096x4x1024 S1x4x1024 h.1 start (1 : Fin 3) ≤ b.val ∧ b.val < Host.clampedStart S4096x4x1024 S1x4x1024 h.1 start (1 : Fin 3) + 4
        rw [e1]; omega
      · show Host.clampedStart S4096x4x1024 S1x4x1024 h.1 start (2 : Fin 3) ≤ d.val ∧ d.val < Host.clampedStart S4096x4x1024 S1x4x1024 h.1 start (2 : Fin 3) + 1024
        rw [e2]; omega
  · rw [if_neg hn, dif_neg]
    intro hin
    have h' := hin (0 : Fin 3)
    have h2' : Host.clampedStart S4096x4x1024 S1x4x1024 h.1 start (0 : Fin 3) ≤ n.val ∧ n.val < Host.clampedStart S4096x4x1024 S1x4x1024 h.1 start (0 : Fin 3) + 1 := h'
    rw [e0] at h2'
    omega

/-- The recurrence `h ← a k * h + x k` from zero. -/
def value (a x : Fin 4096 → EReal) : ℕ → EReal
  | 0 => 0
  | k + 1 => if h : k < 4096 then a ⟨k, h⟩ * value a x k + x ⟨k, h⟩ else value a x k

theorem trip_at (j : ℕ) (hj : j < 4096) (s : State Ideal) (b : Fin 4) (d : Fin 1024) :
    Step.b9 (F := Ideal) j s (ix2 b d) = s.main_v77_0 (ix3 (⟨j, hj⟩ : Fin 4096) b d) * s.main_v77_3 (ix2 b d) + s.main_v77_1 (ix3 (⟨j, hj⟩ : Fin 4096) b d) := by
  have e2 : Step.b2 (F := Ideal) j s (ix3 (0 : Fin 1) b d) = s.main_v77_0 (ix3 (⟨j, hj⟩ : Fin 4096) b d) := by
    unfold Step.b2
    exact slice_at _ _ _ j hj (toInt_small j hj) rfl rfl b d
  have e6 : Step.b6 (F := Ideal) j s (ix3 (0 : Fin 1) b d) = s.main_v77_1 (ix3 (⟨j, hj⟩ : Fin 4096) b d) := by
    unfold Step.b6
    exact slice_at _ _ _ j hj (toInt_small j hj) rfl rfl b d
  pointwise [Step.b9, Step.b8, Step.b7, Step.b3]
  rw [e2, e6]

theorem rows_at (j : ℕ) (hj : j < 4096) (s : State Ideal) (n : Fin 4096) (b : Fin 4) (d : Fin 1024) :
    Step.b13 (F := Ideal) j s (ix3 n b d) = if n.val = j then Step.b9 (F := Ideal) j s (ix2 b d) else s.main_v77_4 (ix3 n b d) := by
  have e : Step.b10 (F := Ideal) j s (ix3 (0 : Fin 1) b d) = Step.b9 (F := Ideal) j s (ix2 b d) := by
    pointwise [Step.b10]
  unfold Step.b13
  rw [← e]
  exact update_at _ _ _ _ j hj (toInt_small j hj) rfl rfl n b d

variable (m : (ℓ : Loc nD τ sig) → Buf (Elt Ideal) ℓ) (c : Dev nD)

theorem states_decay : ∀ k, (states m c k).main_v77_0 = (initState m c).main_v77_0
  | 0 => rfl
  | k + 1 => states_decay k

theorem states_input : ∀ k, (states m c k).main_v77_1 = (initState m c).main_v77_1
  | 0 => rfl
  | k + 1 => states_input k

/-- The value of the recurrence at batch `b`, channel `d`, after `k` tokens. -/
abbrev valueAt (b : Fin 4) (d : Fin 1024) : ℕ → EReal :=
  value (fun n => (initState m c).main_v77_0 (ix3 n b d)) (fun n => (initState m c).main_v77_1 (ix3 n b d))

theorem carry_at (b : Fin 4) (d : Fin 1024) : ∀ k, k ≤ 4096 → (states m c k).main_v77_3 (ix2 b d) = valueAt m c b d k
  | 0, _ => by
    show Step.K_main_v73 (F := Ideal) (ix2 b d) = 0
    pointwise [Step.K_main_v73, Step.K_main_cst_6]
  | k + 1, hk => by
    have hk' : k < 4096 := hk
    show Step.b9 k (states m c k) (ix2 b d) = _
    rw [trip_at k hk', carry_at b d k hk'.le, states_decay, states_input]
    show _ = dite _ _ _
    rw [dif_pos hk']

theorem stored_at (b : Fin 4) (d : Fin 1024) (n : Fin 4096) : ∀ k, k ≤ 4096 → n.val < k → (states m c k).main_v77_4 (ix3 n b d) = valueAt m c b d (n.val + 1)
  | 0, _, h => absurd h (Nat.not_lt_zero _)
  | k + 1, hk, h => by
    have hk' : k < 4096 := hk
    show Step.b13 k (states m c k) (ix3 n b d) = _
    rw [rows_at k hk']
    by_cases hn : n.val = k
    · rw [if_pos hn]
      refine Eq.trans ?_ (congrArg (valueAt m c b d) (congrArg (· + 1) hn.symm))
      exact carry_at m c b d (k + 1) hk
    · rw [if_neg hn]
      exact stored_at b d n k hk'.le (by omega)

end Cert.RgRefIdeal.Scan

end
-- ==== Proof.RgRef.Scalars.lean ====
/-
  The reference's values before its scan, at one position: the convolution, the decay's logarithm and the input's share.
-/
module

public import proofs.«01_k».proof.Proof.RgRef.Rows
public import proofs.«01_k».proof.Proof.RgIdeal.Gates
public import Idealize.ShloMosaic.Lib.Pointwise

@[expose] public section

set_option maxRecDepth 8192

noncomputable section

namespace Cert.RgRefIdeal.Scan

open Idealize.ShloMosaic Idealize.ShloMosaic.TcCoe
open Cert.RgRefIdeal Cert.RgRefIdeal.Gen Cert.RgRefIdeal.Step
open Cert.RgIdeal.Body (logDecay inputShare)

variable (a0 : FVec Ideal S4x4096x10240 .f32) (a1 : FVec Ideal S4x1024 .f32) (a2 : FVec Ideal S1024 .f32) (a3 : FVec Ideal S16x64x64 .f32) (a4 : FVec Ideal S1024 .f32) (a5 : FVec Ideal S16x64x64 .f32) (a6 a7 : FVec Ideal S1024 .f32)
variable (b : Fin 4) (n : Fin 4096) (d : Fin 1024)

/-- Row `n + k - 3` of the input's first 1024 channels, zero before the first row. -/
def past (k : ℕ) (hk : k < 3) : EReal :=
  if h : k + n.val < 3 then 0 else a0 (ix3 b (⟨k + n.val - 3, by omega⟩ : Fin 4096) (⟨d.val, by omega⟩ : Fin 10240))

theorem conv_ref : A_main_v32 (F := Ideal) a0 a1 a2 a3 a4 a5 a6 a7 (ix3 b n d)
    = past a0 b n d 0 (by omega) * a1 (ix2 (0 : Fin 4) d) + past a0 b n d 1 (by omega) * a1 (ix2 (1 : Fin 4) d) + past a0 b n d 2 (by omega) * a1 (ix2 (2 : Fin 4) d)
      + a0 (ix3 b n (⟨d.val, by omega⟩ : Fin 10240)) * a1 (ix2 (3 : Fin 4) d) + a2 (ix1 d) := by
  have h0 : past a0 b n d 0 (by omega) = if h : n.val < 3 then 0 else a0 (ix3 b (⟨n.val - 3, by omega⟩ : Fin 4096) (⟨d.val, by omega⟩ : Fin 10240)) := by
    unfold past
    by_cases h : n.val < 3
    · rw [dif_pos h, dif_pos (by omega)]
    · rw [dif_neg h, dif_neg (by omega)]
      exact congrArg a0 (congrArg (fun z => ix3 b z (⟨d.val, by omega⟩ : Fin 10240)) (Fin.ext (by show 0 + n.val - 3 = n.val - 3; omega)))
  rw [h0]
  unfold past
  pointwise [A_main_v32, A_main_v31, A_main_v30, A_main_v29, A_main_v28, A_main_v27, A_main_v26, A_main_v25, A_main_v24, A_main_v23, A_main_v2, A_main_v0, K_main_v1, K_main_cst, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3]

/-- One gate's sum over the 64 channels of its block. -/
def blockSum (w : FVec Ideal S16x64x64 .f32) (X : Fin 1024 → EReal) (d : Fin 1024) : EReal :=
  ∑ x : Fin 64, w (ix3 (⟨d.val / 64, by omega⟩ : Fin 16) x (⟨d.val % 64, by omega⟩ : Fin 64)) * X ⟨d.val / 64 * 64 + x.val, by omega⟩

theorem log_ref : A_main_v64 (F := Ideal) a0 a1 a2 a3 a4 a5 a6 a7 (ix3 b n d)
    = logDecay (blockSum a3 (fun e => A_main_v32 (F := Ideal) a0 a1 a2 a3 a4 a5 a6 a7 (ix3 b n e)) d) (a4 (ix1 d)) (a7 (ix1 d)) := by
  unfold logDecay blockSum
  simp only [Ideal.logistic]
  pointwise [A_main_v64, A_main_v63, A_main_v62, A_main_v61, A_main_call0_v11, A_main_call0_v10, A_main_call0_v9, A_main_call0_v8, A_main_call0_v7, A_main_call0_v3, K_main_call0_v2, K_main_call0_cst, A_main_v60, A_main_call0_v1, K_main_call0_v0, A_main_call0_v6, K_main_call0_v5, A_main_call0_v4, A_main_v59, A_main_v45, A_main_v43, A_main_v41, A_main_v40, A_main_v39, A_main_v38, A_main_v37, A_main_v36, A_main_v35, A_main_v34, A_main_v33, K_main_v42, K_main_cst_0, K_main_v44, K_main_cst_1, K_main_v58, K_main_cst_4]
  simp only [ne_eq, not_true_eq_false, if_false]

theorem decay_ref : A_main_v74 (F := Ideal) a0 a1 a2 a3 a4 a5 a6 a7 (ix3 n b d) = Ideal.exp (A_main_v64 (F := Ideal) a0 a1 a2 a3 a4 a5 a6 a7 (ix3 b n d)) := by
  pointwise [A_main_v74, A_main_v65]

theorem gate_ref : A_main_v51 (F := Ideal) a0 a1 a2 a3 a4 a5 a6 a7 (ix3 b n d)
    = blockSum a5 (fun e => A_main_v32 (F := Ideal) a0 a1 a2 a3 a4 a5 a6 a7 (ix3 b n e)) d + a6 (ix1 d) := by
  unfold blockSum
  pointwise [A_main_v51, A_main_v50, A_main_v49, A_main_v48, A_main_v47, A_main_v46, A_main_v33]

theorem share_ref : A_main_v75 (F := Ideal) a0 a1 a2 a3 a4 a5 a6 a7 (ix3 n b d)
    = inputShare (A_main_v64 (F := Ideal) a0 a1 a2 a3 a4 a5 a6 a7 (ix3 b n d)) (blockSum a5 (fun e => A_main_v32 (F := Ideal) a0 a1 a2 a3 a4 a5 a6 a7 (ix3 b n e)) d) (a6 (ix1 d))
        (A_main_v32 (F := Ideal) a0 a1 a2 a3 a4 a5 a6 a7 (ix3 b n d)) := by
  unfold inputShare
  simp only [Ideal.logistic]
  rw [← gate_ref]
  pointwise [A_main_v75, A_main_v72, A_main_v71, A_main_v57, A_main_v55, A_main_v53, A_main_v52, K_main_v54, K_main_cst_2, K_main_v56, K_main_cst_3, A_main_v70, A_main_v69, A_main_v68, A_main_v67, K_main_v66, K_main_cst_5]

end Cert.RgRefIdeal.Scan

end
-- ==== Proof.RgIdeal.Match.lean ====
/-
  The kernel's scalars against the reference's: the four taps, the gates' sums over the packed weights, the decay and the
  input's share.
-/
module

public import proofs.«01_k».proof.Proof.RgIdeal.Positions
public import proofs.«01_k».proof.Proof.RgIdeal.Blocks
public import proofs.«01_k».proof.Proof.RgRef.Scalars

@[expose] public section

set_option maxRecDepth 16384

noncomputable section

namespace Cert.RgIdeal.Body

open Cert.RgIdeal Cert.RgIdeal.Gen
open Idealize.ShloMosaic Idealize.ShloMosaic.TcCoe
open Cert.RgRefIdeal.Scan (past blockSum conv_ref log_ref share_ref)
open Cert.RgRefIdeal.Step (A_main_v32 A_main_v64 A_main_v74 A_main_v75)

/-- The sum over a block's 256 channels with the packed weights is the sum over the 64 channels of the channel's own block. -/
theorem gate_sum_eq (X : Fin 1024 → EReal) (W : FVec Ideal S4x256x256 .bf16) (w : FVec Ideal S16x64x64 .f32) (hW : ∀ r k e, W (ix3 r k e) = packed w r k e) (d : Fin 1024) :
    gateSum X W d = blockSum w X d := by
  unfold gateSum blockSum
  simp only [hW]
  rw [Fin.sum_univ_tiles 4 64 rfl]
  have hq : d.val % 256 / 64 < 4 := by omega
  rw [Finset.sum_eq_single (⟨d.val % 256 / 64, hq⟩ : Fin 4)]
  · refine Finset.sum_congr rfl fun x _ => ?_
    unfold packed
    rw [if_pos (by show (d.val % 256 / 64 * 64 + x.val) / 64 = d.val % 256 / 64; omega), mul_one, mul_comm]
    refine congr (congrArg HMul.hMul ?_) ?_
    · refine congrArg w ?_
      have e0 : 4 * (d.val / 256) + (d.val % 256 / 64 * 64 + x.val) / 64 = d.val / 64 := by omega
      have e1 : (d.val % 256 / 64 * 64 + x.val) % 64 = x.val := by omega
      have e2 : d.val % 256 % 64 = d.val % 64 := by omega
      funext a
      apply Fin.ext
      fin_cases a
      · exact e0
      · exact e1
      · exact e2
    · refine congrArg X (Fin.ext ?_)
      show d.val / 256 * 256 + (d.val % 256 / 64 * 64 + x.val) = d.val / 64 * 64 + x.val
      omega
  · intro p _ hp
    refine Finset.sum_eq_zero fun x _ => ?_
    unfold packed
    rw [if_neg, mul_zero, mul_zero]
    intro h
    have h' : (p.val * 64 + x.val) / 64 = d.val % 256 / 64 := h
    exact hp (Fin.ext (by show p.val = d.val % 256 / 64; omega))
  · intro h
    exact absurd (Finset.mem_univ _) h

variable (a0 : FVec Ideal S4x4096x10240 .f32) (a1 : FVec Ideal S4x1024 .f32) (a2 : FVec Ideal S1024 .f32) (a3 : FVec Ideal S16x64x64 .f32) (a4 : FVec Ideal S1024 .f32) (a5 : FVec Ideal S16x64x64 .f32) (a6 a7 : FVec Ideal S1024 .f32)

/-- The input's rows at point `t`, and the eight rows before them. -/
structure RowsAt (t : Fin 16) (prev : Fin 4 → Fin 8 → Fin 1024 → EReal) (x0 : FVec Ideal S4x256x1024 .f32) : Prop where
  rows : ∀ b n d, x0 (ix3 b n d) = a0 (ix3 b (⟨256 * t.val + n.val, by omega⟩ : Fin 4096) (⟨d.val, by omega⟩ : Fin 10240))
  before : ∀ b r d, prev b r d = if h : t.val = 0 then 0 else a0 (ix3 b (⟨256 * t.val - 8 + r.val, by omega⟩ : Fin 4096) (⟨d.val, by omega⟩ : Fin 10240))

/-- The parameters' blocks. -/
structure Params (x2 : FVec Ideal S4x1024 .f32) (x3 : FVec Ideal S1x1024 .f32) (x4 : FVec Ideal S4x256x256 .bf16) (x5 : FVec Ideal S1x1024 .f32)
    (x6 : FVec Ideal S4x256x256 .bf16) (x7 x8 : FVec Ideal S1x1024 .f32) : Prop where
  taps : ∀ r d, x2 (ix2 r d) = a1 (ix2 r d)
  bias : ∀ d, x3 (ix2 (0 : Fin 1) d) = a2 (ix1 d)
  wa : ∀ r k e, x4 (ix3 r k e) = packed a3 r k e
  ba : ∀ d, x5 (ix2 (0 : Fin 1) d) = a4 (ix1 d)
  wi : ∀ r k e, x6 (ix3 r k e) = packed a5 r k e
  bi : ∀ d, x7 (ix2 (0 : Fin 1) d) = a6 (ix1 d)
  lam : ∀ d, x8 (ix2 (0 : Fin 1) d) = a7 (ix1 d)

variable {a0 a1 a2 a3 a4 a5 a6 a7}
variable {t : Fin 16} {prev : Fin 4 → Fin 8 → Fin 1024 → EReal} {x0 : FVec Ideal S4x256x1024 .f32}
variable {x2 : FVec Ideal S4x1024 .f32} {x3 : FVec Ideal S1x1024 .f32} {x4 : FVec Ideal S4x256x256 .bf16} {x5 : FVec Ideal S1x1024 .f32}
  {x6 : FVec Ideal S4x256x256 .bf16} {x7 x8 : FVec Ideal S1x1024 .f32}

/-- The row's number among the 4096. -/
abbrev rowNo (t : Fin 16) (n : Fin 256) : Fin 4096 := ⟨256 * t.val + n.val, by omega⟩

theorem tap_eq (h : RowsAt a0 t prev x0) (b : Fin 4) (n : Fin 256) (d : Fin 1024) (k : ℕ) (hk : k < 3) (r : Fin 264) (hr : r.val = n.val + 5 + k) :
    tap prev x0 b r d = past a0 b (rowNo t n) d k hk := by
  have key : ∀ (i j : Fin 4096), i.val = j.val → a0 (ix3 b i (⟨d.val, by omega⟩ : Fin 10240)) = a0 (ix3 b j (⟨d.val, by omega⟩ : Fin 10240)) := by
    intro i j e
    rw [Fin.ext e]
  have ht := t.isLt
  have hn := n.isLt
  unfold tap past
  by_cases h8 : r.val < 8
  · rw [dif_pos h8, h.before]
    by_cases h0 : t.val = 0
    · rw [dif_pos h0, dif_pos (by show k + (256 * t.val + n.val) < 3; omega)]
    · rw [dif_neg h0, dif_neg (by show ¬k + (256 * t.val + n.val) < 3; omega)]
      exact key _ _ (by show 256 * t.val - 8 + r.val = k + (256 * t.val + n.val) - 3; omega)
  · rw [dif_neg h8, h.rows, dif_neg (by show ¬k + (256 * t.val + n.val) < 3; omega)]
    exact key _ _ (by show 256 * t.val + (r.val - 8) = k + (256 * t.val + n.val) - 3; omega)

theorem conv_order (c3 w0 w1 w2 w3 u t1 t2 t3 : EReal) :
    c3 + w3 * u + w0 * t1 + w1 * t2 + w2 * t3 = t1 * w0 + t2 * w1 + t3 * w2 + u * w3 + c3 := by
  rw [mul_comm w0, mul_comm w1, mul_comm w2, mul_comm w3]
  ac_rfl

theorem conv_eq (h : RowsAt a0 t prev x0) (p : Params a1 a2 a3 a4 a5 a6 a7 x2 x3 x4 x5 x6 x7 x8) (b : Fin 4) (n : Fin 256) (d : Fin 1024) :
    cvAt prev x0 x2 x3 b n d = A_main_v32 (F := Ideal) a0 a1 a2 a3 a4 a5 a6 a7 (ix3 b (rowNo t n) d) := by
  unfold cvAt convAt
  rw [conv_ref, tap_eq h b n d 0 (by omega) _ rfl, tap_eq h b n d 1 (by omega) _ rfl, tap_eq h b n d 2 (by omega) _ rfl, h.rows, p.bias, p.taps, p.taps, p.taps, p.taps]
  exact conv_order _ _ _ _ _ _ _ _ _

theorem log_eq (h : RowsAt a0 t prev x0) (p : Params a1 a2 a3 a4 a5 a6 a7 x2 x3 x4 x5 x6 x7 x8) (b : Fin 4) (n : Fin 256) (d : Fin 1024) :
    logAt prev x0 x2 x3 x4 x5 x8 b n d = A_main_v64 (F := Ideal) a0 a1 a2 a3 a4 a5 a6 a7 (ix3 b (rowNo t n) d) := by
  unfold logAt
  rw [log_ref, gate_sum_eq _ x4 a3 p.wa, p.ba, p.lam]
  rw [show cvAt prev x0 x2 x3 b n = fun e => A_main_v32 (F := Ideal) a0 a1 a2 a3 a4 a5 a6 a7 (ix3 b (rowNo t n) e) from funext fun e => conv_eq h p b n e]

theorem share_eq (h : RowsAt a0 t prev x0) (p : Params a1 a2 a3 a4 a5 a6 a7 x2 x3 x4 x5 x6 x7 x8) (b : Fin 4) (n : Fin 256) (d : Fin 1024) :
    shareAt prev x0 x2 x3 x4 x5 x6 x7 x8 b n d = A_main_v75 (F := Ideal) a0 a1 a2 a3 a4 a5 a6 a7 (ix3 (rowNo t n) b d) := by
  unfold shareAt
  rw [share_ref, log_eq h p, gate_sum_eq _ x6 a5 p.wi, p.bi, conv_eq h p]
  rw [show cvAt prev x0 x2 x3 b n = fun e => A_main_v32 (F := Ideal) a0 a1 a2 a3 a4 a5 a6 a7 (ix3 b (rowNo t n) e) from funext fun e => conv_eq h p b n e]

theorem decay_eq (h : RowsAt a0 t prev x0) (p : Params a1 a2 a3 a4 a5 a6 a7 x2 x3 x4 x5 x6 x7 x8) (b : Fin 4) (n : Fin 256) (d : Fin 1024) :
    Ideal.exp (logAt prev x0 x2 x3 x4 x5 x8 b n d) = A_main_v74 (F := Ideal) a0 a1 a2 a3 a4 a5 a6 a7 (ix3 (rowNo t n) b d) := by
  rw [Cert.RgRefIdeal.Scan.decay_ref, log_eq h p]

end Cert.RgIdeal.Body

end
-- ==== Proof.RgIdeal.Value.lean ====
/-
  The recurrence: what the kernel's two result arrays end holding, over real numbers.

  Each of the 16 points runs the recurrence over its block of 256 rows from the value the point before left, so the value
  after point `n` is the reference's value after `256 (n + 1)` tokens, and every row's output is the reference's.
-/
module

public import proofs.«01_k».proof.Proof.RgIdeal.Rows
public import proofs.«01_k».proof.Proof.RgIdeal.Match

@[expose] public section

set_option maxRecDepth 16384

noncomputable section

namespace Cert.RgIdeal.Body

open Cert.RgIdeal Cert.RgIdeal.Gen
open Idealize.ShloMosaic Idealize.ShloMosaic.TcCoe Idealize.SL.Sem
open Idealize.ShloMosaic.Pipeline (Dat)
open Cert.RgRefIdeal.Scan (value)
open Cert.RgRefIdeal.Step (A_main_v74 A_main_v75)

/-- The recurrence over one block continues the recurrence over all rows. -/
theorem scan_eq (A X : Fin 4096 → EReal) (t : Fin 16) (a x : Fin 256 → EReal) (ha : ∀ n, a n = A (rowNo t n)) (hx : ∀ n, x n = X (rowNo t n))
    (h : EReal) (hh : h = value A X (256 * t.val)) : ∀ n, n ≤ 256 → scan a x h n = value A X (256 * t.val + n)
  | 0, _ => hh
  | n + 1, hn => by
    have ht := t.isLt
    have hm : n % 256 = n := Nat.mod_eq_of_lt hn
    have hr : rowNo t ⟨n % 256, Nat.mod_lt _ (by decide)⟩ = (⟨256 * t.val + n, by omega⟩ : Fin 4096) := Fin.ext (by show 256 * t.val + n % 256 = _; rw [hm])
    refine Eq.trans ?_ (dif_pos (show 256 * t.val + n < 4096 by omega)).symm
    show a _ * scan a x h n + x _ = _
    rw [scan_eq A X t a x ha hx h hh n (by omega), ha, hx, hr]
    rfl

variable (m : (ℓ : Loc nD τ sig) → Buf (Elt Ideal) ℓ) (c : Dev nD)

abbrev arg0 : FVec Ideal S4x4096x10240 .f32 := m ((c : Thread nD τ).loc main_arg0)

/-- The reference's value at batch `b`, channel `d`, after `k` tokens, from the kernel's arguments. -/
def val (b : Fin 4) (d : Fin 1024) : ℕ → EReal :=
  value (fun n => A_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 n b d))
    (fun n => A_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 n b d))

theorem params (t : Fin cfg0.N) : Params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 2 t) (iblk m c 3 t) (iblk m c 4 t) (iblk m c 5 t) (iblk m c 6 t) (iblk m c 7 t) (iblk m c 8 t) where
  taps := taps_block m c t
  bias := bias_block m c t
  wa := wa_block m c t
  ba := ba_block m c t
  wi := wi_block m c t
  bi := bi_block m c t
  lam := lam_block m c t

/-- The recurrence over the block of point `t`. -/
theorem block_scan (t : Fin cfg0.N) (prev : Fin 4 → Fin 8 → Fin 1024 → EReal) (h : RowsAt (arg0 m c) ⟨t.val, points t⟩ prev (iblk m c 0 t))
    (b : Fin 4) (d : Fin 1024) (h0 : EReal) (hh : h0 = val m c b d (256 * t.val)) (n : ℕ) (hn : n ≤ 256) :
    scan (fun n => Ideal.exp (logAt prev (iblk m c 0 t) (iblk m c 2 t) (iblk m c 3 t) (iblk m c 4 t) (iblk m c 5 t) (iblk m c 8 t) b n d))
      (fun n => shareAt prev (iblk m c 0 t) (iblk m c 2 t) (iblk m c 3 t) (iblk m c 4 t) (iblk m c 5 t) (iblk m c 6 t) (iblk m c 7 t) (iblk m c 8 t) b n d) h0 n
      = val m c b d (256 * t.val + n) :=
  scan_eq _ _ ⟨t.val, points t⟩ _ _ (fun n => decay_eq h (params m c t) b n d) (fun n => share_eq h (params m c t) b n d) h0 hh n hn

theorem rows_first (t : Fin cfg0.N) (h0 : t.val = 0) : RowsAt (arg0 m c) ⟨t.val, points t⟩ noRows (iblk m c 0 t) where
  rows := rows_block m c t
  before := fun b r d => by rw [dif_pos (show (⟨t.val, points t⟩ : Fin 16).val = 0 from h0)]; rfl

theorem rows_later (t : Fin cfg0.N) (h0 : ¬t.val = 0) (xs0 : FVec Ideal S4x264x1024 .f32)
    (hx : ∀ (b : Fin 4) (r : Fin 8) (d : Fin 1024), xs0 (ix3 b (⟨r.val, by omega⟩ : Fin 264) d) = arg0 m c (ix3 b (⟨256 * t.val - 8 + r.val, by have := points t; omega⟩ : Fin 4096) (⟨d.val, by omega⟩ : Fin 10240))) :
    RowsAt (arg0 m c) ⟨t.val, points t⟩ (oldRows xs0) (iblk m c 0 t) where
  rows := rows_block m c t
  before := fun b r d => by rw [dif_neg (show ¬(⟨t.val, points t⟩ : Fin 16).val = 0 from h0)]; exact hx b r d

/-- What point `t` leaves, at one position. -/
structure Leaves (t : Fin cfg0.N) (o : Vec Ideal S4x256x1024 .bf16 × Vec Ideal S4x1x1024 .f32 × Vec Ideal S4x264x1024 .f32 × Vec Ideal S4x8x1024 .f32) : Prop where
  out : ∀ (b : Fin 4) (n : Fin 256) (d : Fin 1024), o.1 (ix3 b n d)
    = geluAt (arg0 m c (ix3 b (⟨256 * t.val + n.val, by have := points t; omega⟩ : Fin 4096) (⟨1024 + d.val, by omega⟩ : Fin 10240))) * val m c b d (256 * t.val + (n.val + 1))
  last : ∀ (b : Fin 4) (d : Fin 1024), o.2.1 (ix3 b (0 : Fin 1) d) = val m c b d (256 * t.val + 256)
  kept : ∀ (b : Fin 4) (r : Fin 8) (d : Fin 1024), o.2.2.1 (ix3 b (⟨r.val, by omega⟩ : Fin 264) d)
    = arg0 m c (ix3 b (⟨256 * t.val + (248 + r.val), by have := points t; omega⟩ : Fin 4096) (⟨d.val, by omega⟩ : Fin 10240))
  carry : ∀ (b : Fin 4) (d : Fin 1024), o.2.2.2 (ix3 b (0 : Fin 8) d) = val m c b d (256 * t.val + 256)

theorem leaves_first (t : Fin cfg0.N) (h0 : t.val = 0) : Leaves m c t (stepA m c t h0) := by
  have hs := fun b d n hn => block_scan m c t noRows (rows_first m c t h0) b d 0 (by rw [h0]; rfl) n hn
  unfold stepA
  constructor
  · intro b n d
    dsimp only
    rw [outA_ya_at, hs b d (n.val + 1) n.isLt]
    exact congrArg (fun z => geluAt z * _) (gate_block m c t b n d)
  · intro b d
    dsimp only
    rw [outA_h_at, hs b d 256 le_rfl]
  · intro b r d
    dsimp only
    rw [outA_xs_at]
    exact rows_block m c t b ⟨248 + r.val, by omega⟩ d
  · intro b d
    dsimp only
    rw [outA_hc_at, hs b d 256 le_rfl]

theorem leaves_later (t : Fin cfg0.N) (h0 : ¬t.val = 0) (p0 : Vec Ideal S4x264x1024 .f32) (p1 : Vec Ideal S4x8x1024 .f32)
    (hx : ∀ (b : Fin 4) (r : Fin 8) (d : Fin 1024), p0 (ix3 b (⟨r.val, by omega⟩ : Fin 264) d) = arg0 m c (ix3 b (⟨256 * t.val - 8 + r.val, by have := points t; omega⟩ : Fin 4096) (⟨d.val, by omega⟩ : Fin 10240)))
    (hh : ∀ (b : Fin 4) (d : Fin 1024), p1 (ix3 b (0 : Fin 8) d) = val m c b d (256 * t.val)) : Leaves m c t (stepB m c t h0 p0 p1) := by
  have hs := fun b d n hn => block_scan m c t (oldRows p0) (rows_later m c t h0 p0 hx) b d (p1 (ix3 b (0 : Fin 8) d)) (hh b d) n hn
  unfold stepB
  constructor
  · intro b n d
    dsimp only
    rw [outB_ya_at, hs b d (n.val + 1) n.isLt]
    exact congrArg (fun z => geluAt z * _) (gate_block m c t b n d)
  · intro b d
    dsimp only
    rw [outB_h_at, hs b d 256 le_rfl]
  · intro b r d
    dsimp only
    rw [outB_xs_at]
    exact rows_block m c t b ⟨248 + r.val, by omega⟩ d
  · intro b d
    dsimp only
    rw [outB_hc_at, hs b d 256 le_rfl]

theorem leaves : ∀ (n : ℕ) (hn : n < cfg0.N), Leaves m c ⟨n, hn⟩ (outsAt m c n hn)
  | 0, hn => leaves_first m c ⟨0, hn⟩ rfl
  | n + 1, hn => by
    have ih := leaves n (Nat.lt_of_succ_lt hn)
    have hlt : n + 1 < 16 := points ⟨n + 1, hn⟩
    refine leaves_later m c ⟨n + 1, hn⟩ (Nat.succ_ne_zero n) _ _ (fun b r d => (ih.kept b r d).trans ?_) (fun b d => (ih.carry b d).trans ?_)
    · refine congrArg (arg0 m c) ?_
      funext a
      apply Fin.ext
      fin_cases a
      · rfl
      · show 256 * n + (248 + r.val) = 256 * (n + 1) - 8 + r.val
        omega
      · rfl
    · exact congrArg (val m c b d) (show 256 * n + 256 = 256 * (n + 1) by omega)

/-- One row's output, against a reference state whose rows are the recurrence's values. -/
theorem row_point (S : Cert.RgRefIdeal.Step.State Ideal) (hS : ∀ (n : Fin 4096) (b : Fin 4) (d : Fin 1024), S.main_v77_4 (ix3 n b d) = val m c b d (n.val + 1))
    (t : Fin cfg0.N) (b : Fin 4) (n : Fin 256) (d : Fin 1024) :
    (outsAt m c t.val t.isLt).1 (ix3 b n d) = Cert.RgRefIdeal.Step.R_main_v94 (F := Ideal) S (arg0 m c) (ix3 b (⟨256 * t.val + n.val, by have := points t; omega⟩ : Fin 4096) d) := by
  refine ((leaves m c t.val t.isLt).out b n d).trans (Eq.symm ?_)
  pointwise [Cert.RgRefIdeal.Step.R_main_v94]
  rw [hS, geluAt]
  simp only [mul_assoc, Nat.add_assoc]

/-- The first result array, against a reference state whose rows are the recurrence's values. -/
theorem final_rows (S : Cert.RgRefIdeal.Step.State Ideal) (hS : ∀ (n : Fin 4096) (b : Fin 4) (d : Fin 1024), S.main_v77_4 (ix3 n b d) = val m c b d (n.val + 1)) :
    (dats m 0 c).arrAt 9 (cfgs 0).N = Cert.RgRefIdeal.Step.R_main_v94 (F := Ideal) S (arg0 m c) := by
  refine (dats m 0 c).arrAt_eq_of_covers 9 _ (by decide +kernel) fun t hf y => ?_
  blk_simp
  rw [after_9]
  obtain ⟨b, n, d, rfl⟩ : ∃ (b : Fin 4) (n : Fin 256) (d : Fin 1024), y = ix3 b n d := ⟨y 0, y 1, y 2, by funext a; fin_cases a <;> rfl⟩
  refine (row_point m c S hS t b n d).trans ?_
  blk_ext [idx t]

theorem last_point (S : Cert.RgRefIdeal.Step.State Ideal) (hS : ∀ (b : Fin 4) (d : Fin 1024), S.main_v77_3 (ix2 b d) = val m c b d 4096)
    (t : Fin cfg0.N) (ht : t.val % 16 = 15) (b : Fin 4) (d : Fin 1024) :
    (outsAt m c t.val t.isLt).2.1 (ix3 b (0 : Fin 1) d) = Cert.RgRefIdeal.Step.R_main_v95 (F := Ideal) S (ix3 b (0 : Fin 1) d) := by
  refine ((leaves m c t.val t.isLt).last b d).trans (Eq.symm ?_)
  pointwise [Cert.RgRefIdeal.Step.R_main_v95]
  refine (hS b d).trans (congrArg (val m c b d) ?_)
  have := points t
  show 4096 = 256 * t.val + 256
  omega

/-- The second result array, against a reference state whose carried value is the recurrence's last. -/
theorem final_last (S : Cert.RgRefIdeal.Step.State Ideal) (hS : ∀ (b : Fin 4) (d : Fin 1024), S.main_v77_3 (ix2 b d) = val m c b d 4096) :
    (dats m 0 c).arrAt 10 (cfgs 0).N = Cert.RgRefIdeal.Step.R_main_v95 (F := Ideal) S := by
  refine (dats m 0 c).arrAt_eq_of_covers 10 _ (by decide +kernel) fun t hf y => ?_
  have ht : t.val % 16 = 15 := (flush0_10 t).mp hf
  blk_simp
  rw [after_10]
  obtain ⟨b, d, rfl⟩ : ∃ (b : Fin 4) (d : Fin 1024), y = ix3 b (0 : Fin 1) d := ⟨y 0, y 2, by funext a; fin_cases a <;> first | rfl | exact Subsingleton.elim (α := Fin 1) _ _⟩
  refine (last_point m c S hS t ht b d).trans ?_
  blk_ext [idx t]

end Cert.RgIdeal.Body

end
-- ==== Proof.Nm.Value.lean ====
/-
  The first projection: what the kernel's result array ends holding, over real numbers.

  The kernel normalises each block of 1024 rows once, at the first of the ten points that use it, into a scratch it
  carries through the other nine; every point multiplies that scratch with its block of the weight.
-/
module

public import proofs.«01_k».proof.Proof.Gen.NmIdeal.Frame
public import proofs.«01_k».proof.Proof.Gen.NmRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.NmIdeal.Product

open Cert.NmIdeal Cert.NmIdeal.Gen
open Idealize.ShloMosaic Idealize.ShloMosaic.TcCoe Idealize.SL.Sem
open Idealize.ShloMosaic.Pipeline (Dat)
open Cert.NmRefIdeal.Read

variable (m : (ℓ : Loc nD τ sig) → Buf (Elt Ideal) ℓ)

/-- The reference's result, from the kernel's arguments. -/
abbrev REF (x : FVec Ideal S16384x1024 .f32) (g : FVec Ideal S1024 .f32) (w : FVec Ideal S1024x10240 .bf16) :
    FVec Ideal S16384x10240 .f32 := val_main_v14 (F := Ideal) x g w

/-- Every window's block index at point `t`: rows by `t / 10`, columns by `t % 10`. -/
theorem idx : ∀ t : Fin cfg0.N, win0_0.index t = ![t.val / 10, 0] ∧ win0_1.index t = ![0, 0]
    ∧ win0_2.index t = ![0, t.val % 10] ∧ win0_3.index t = ![t.val / 10, t.val % 10] :=
  (by decide +kernel : ∀ t : Fin grid0.N, _)

/-- The scratch after point `t`: the rows of `t`'s block, normalised. -/
theorem scratch (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 10 = 0
    · rw [outsAt0_A m c ⟨n + 1, hn⟩ h0]; frame_out
    · rw [outsAt0_B m c ⟨n + 1, hn⟩ h0]
      dsimp only [sout0_B_0]
      have key : ∀ (k : ℕ) (hk : k < cfg0.N), k = n → (outsAt0 m c k hk).2 = k0_pay1 (F := Ideal) (iblk m c 0 ⟨n, Nat.lt_of_succ_lt hn⟩) (iblk m c 1 ⟨n, Nat.lt_of_succ_lt hn⟩) := by
        intro k hk e; subst e; exact ih hk
      rw [key _ _ (Nat.add_sub_cancel n 1)]
      have hq : (n + 1) / 10 = n / 10 := by omega
      have e0 : (iblk m c 0 ⟨n, Nat.lt_of_succ_lt hn⟩ : FVec Ideal S1024x1024 .f32) = iblk m c 0 ⟨n + 1, hn⟩ := by
        funext y
        blk_ext [iblk, idx ⟨n, Nat.lt_of_succ_lt hn⟩, idx ⟨n + 1, hn⟩]
      have e1 : (iblk m c 1 ⟨n, Nat.lt_of_succ_lt hn⟩ : FVec Ideal S1x1024 .f32) = iblk m c 1 ⟨n + 1, hn⟩ := by
        funext y
        blk_ext [iblk, idx ⟨n, Nat.lt_of_succ_lt hn⟩, idx ⟨n + 1, hn⟩]
      exact congrArg₂ (k0_pay1 (F := Ideal)) e0 e1

/-- What a point stores is the reference's result at the place it stores it. -/
theorem point (c : Dev nD) (t : Fin cfg0.N) (y : S1024x1024.Idx) :
    k0_pay2 (F := Ideal) (k0_pay1 (F := Ideal) (iblk m c 0 t) (iblk m c 1 t)) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, k0_pay2, REF, val_main_v0, val_main_v1, val_main_v2, val_main_v3, val_main_v4, val_main_v5, val_main_v6,
    val_main_v7, val_main_v8, val_main_v9, val_main_v10, val_main_v11, val_main_v12, val_main_v13, val_main_v14, val_main_cst, val_main_cst_0, val_main_cst_1]
  blk_point [iblk, V, idx t]

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine Eq.trans ?_ (point m c t y)
  by_cases h0 : t.val % 10 = 0
  · rw [outsAt0_A m c t h0]; frame_out
  · have hs := scratch m c t.val t.isLt
    rw [outsAt0_B m c t h0] at hs ⊢
    dsimp only [sout0_B_0] at hs
    rw [hs]
    frame_out
    exact congrFun (congrArg (fun z => k0_pay2 (F := Ideal) z (iblk m c 2 t)) ((Memref.isWhole_whole cc0_scratch0).read_unread _)) y

end Cert.NmIdeal.Product

end
-- ==== Proof.Ffn.Value.lean ====
/-
  The feed-forward layer: what the kernel's result array ends holding, over real numbers.

  Each block of 512 rows takes two points: the first normalises the rows into a scratch and starts the accumulator, each
  adds its half of the hidden width, the second adds the rows themselves and writes back.
-/
module

public import proofs.«01_k».proof.Proof.Gen.FfnIdeal.Frame
public import proofs.«01_k».proof.Proof.Gen.FfnRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Product

open Cert.FfnIdeal Cert.FfnIdeal.Gen
open Idealize.ShloMosaic Idealize.ShloMosaic.TcCoe Idealize.SL.Sem
open Idealize.ShloMosaic.Pipeline (Dat)
open Cert.FfnRefIdeal.Read

variable (m : (ℓ : Loc nD τ sig) → Buf (Elt Ideal) ℓ)

/-- The reference's result, from the kernel's arguments. -/
abbrev REF (x : FVec Ideal S16384x1024 .f32) (g : FVec Ideal S1024 .f32) (wgu : FVec Ideal S1024x5632 .bf16) (wd : FVec Ideal S2816x1024 .bf16) :
    FVec Ideal S16384x1024 .f32 := val_main_v21 (F := Ideal) x g wgu wd

/-- Every window's block index at point `t`: rows by `t / 2`, the half of the hidden width by `t % 2`. -/
theorem idx : ∀ t : Fin cfg0.N, win0_0.index t = ![t.val / 2, 0] ∧ win0_1.index t = ![0, 0]
    ∧ win0_2.index t = ![0, t.val % 2] ∧ win0_3.index t = ![0, t.val % 2 + 2] ∧ win0_4.index t = ![t.val % 2, 0] ∧ win0_5.index t = ![t.val / 2, 0] :=
  (by decide +kernel : ∀ t : Fin grid0.N, _)

/-- What the second of a block's two points `t` stores, `s` being the first, is the reference's result at its place. -/
theorem point (c : Dev nD) (s t : Fin cfg0.N) (hs : s.val + 1 = t.val) (ht : t.val % 2 = 1) (y : S512x1024.Idx) :
    k0_pay4 (F := Ideal) (iblk m c 0 t) (k0_pay3 (F := Ideal) (k0_pay1 (F := Ideal) (iblk m c 0 s) (iblk m c 1 s)) (iblk m c 2 t) (iblk m c 3 t) (k0_pay3 (F := Ideal) (k0_pay1 (F := Ideal) (iblk m c 0 s) (iblk m c 1 s)) (iblk m c 2 s) (iblk m c 3 s) (k0_pay2 (F := Ideal)) (iblk m c 4 s)) (iblk m c 4 t)) y
      = REF (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, REF, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_call0_v5, val_main_v17, val_main_v18, val_main_v19, val_main_v20, val_main_v21]
  simp only [Ideal.logistic]
  rw [Fin.sum_univ_tiles 2 1408 rfl]
  rw [Fin.sum_univ_two]
  blk_point [iblk, V, idx t, idx s]

/-- The result array after the run is the reference's result. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val % 2 = 1 := (flush0_5 t).mp hf
  have hs : t.val - 1 < cfg0.N := Nat.lt_of_le_of_lt (Nat.sub_le _ _) t.isLt
  blk_simp
  rw [after0_5]
  refine Eq.trans ?_ (point m c ⟨t.val - 1, hs⟩ t (by show t.val - 1 + 1 = t.val; omega) ht y)
  rw [outsAt0_B m c t (by omega) ht, outsAt0_A m c ⟨t.val - 1, hs⟩ (by show (t.val - 1) % 2 = 0; omega) (by show ¬(t.val - 1) % 2 = 1; omega)]
  frame_out
  have h0 : View.read (Elt Ideal) (View.whole cc0_scratch0) ((Memref.isWhole_whole cc0_scratch0).unread (k0_pay1 (F := Ideal) (iblk m c 0 ⟨t.val - 1, hs⟩) (iblk m c 1 ⟨t.val - 1, hs⟩))) = _ :=
    (Memref.isWhole_whole cc0_scratch0).read_unread _
  rw [h0]
  refine congrFun (congrArg (k0_pay4 (F := Ideal) (iblk m c 0 t)) (congrArg (fun z => k0_pay3 (F := Ideal) _ (iblk m c 2 t) (iblk m c 3 t) z (iblk m c 4 t)) ?_)) y
  exact (Memref.isWhole_whole cc0_scratch1).read_unread _

end Cert.FfnIdeal.Product

end
-- ==== Proof.Mg.Value.lean ====
/-
  The merge of the three branches: what the kernel's result array ends holding, over real numbers.
-/
module

public import proofs.«01_k».proof.Proof.Gen.MgIdeal.Frame
public import proofs.«01_k».proof.Proof.Gen.MgRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MgIdeal.Product

open Cert.MgIdeal Cert.MgIdeal.Gen
open Idealize.ShloMosaic Idealize.ShloMosaic.TcCoe Idealize.SL.Sem
open Idealize.ShloMosaic.Pipeline (Dat)
open Cert.MgRefIdeal.Read

variable (m : (ℓ : Loc nD τ sig) → Buf (Elt Ideal) ℓ)

/-- The reference's result, from the kernel's arguments. -/
abbrev REF (x : FVec Ideal S16384x1024 .f32) (ya yb yc : FVec Ideal S16384x1024 .bf16) (z : FVec Ideal S16384x10240 .f32)
    (wa wb wc wo : FVec Ideal S1024x1024 .bf16) : FVec Ideal S16384x1024 .f32 :=
  val_main_v30 (F := Ideal) x ya yb yc z wa wb wc wo

/-- Every window's block index at point `t`: block row `t` of the row arrays, the three gates' columns, each weight whole. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 7] ∧ win0_5.index t = ![t.val, 8]
    ∧ win0_6.index t = ![t.val, 9] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- What a point stores is the reference's result at the place it stores it. -/
theorem point (c : Dev nD) (t : Fin cfg0.N) (y : S512x1024.Idx) :
    k0_pay1 (F := Ideal) (iblk m c 4 t) (iblk m c 1 t) (iblk m c 7 t) (iblk m c 5 t) (iblk m c 2 t) (iblk m c 8 t) (iblk m c 6 t) (iblk m c 3 t) (iblk m c 9 t) (iblk m c 0 t) (iblk m c 10 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb y) := by
  pointwise [k0_pay1, REF, val_main_v0, val_main_v1, val_main_v2, val_main_v3, val_main_cst, val_main_v4, val_main_v5, val_main_cst_0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  simp only [Ideal.logistic]
  blk_point [iblk, V, idx t]

/-- The result array after the run is the reference's result. -/
theorem final (c : Dev nD) : (dats m 0 c).arrAt 11 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]; frame_out
  exact point m c t y

end Cert.MgIdeal.Product

end
-- ==== Proof.Fn.Value.lean ====
/-
  The norm of the last layer's rows: what the kernel's result array ends holding, over real numbers.

  Each point normalises its own block of 1024 rows.
-/
module

public import proofs.«01_k».proof.Proof.Gen.FnIdeal.Frame
public import proofs.«01_k».proof.Proof.Gen.FnRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FnIdeal.Product

open Cert.FnIdeal Cert.FnIdeal.Gen
open Idealize.ShloMosaic Idealize.ShloMosaic.TcCoe Idealize.SL.Sem
open Idealize.ShloMosaic.Pipeline (Dat)
open Cert.FnRefIdeal.Read

variable (m : (ℓ : Loc nD τ sig) → Buf (Elt Ideal) ℓ)

/-- The reference's result, from the kernel's arguments. -/
abbrev REF (x : FVec Ideal S16384x1024 .f32) (g : FVec Ideal S1024 .f32) : FVec Ideal S16384x1024 .f32 := val_main_v12 (F := Ideal) x g

/-- Every window's block index at point `t`: the rows by `t`, the weight always whole. -/
theorem idx : ∀ t : Fin cfg0.N, win0_0.index t = ![t.val, 0] ∧ win0_1.index t = ![0, 0] ∧ win0_2.index t = ![t.val, 0] :=
  (by decide +kernel : ∀ t : Fin grid0.N, _)

/-- What a point stores is the reference's result at the place it stores it. -/
theorem point (c : Dev nD) (t : Fin cfg0.N) (y : S1024x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF, val_main_v0, val_main_v1, val_main_v2, val_main_v3, val_main_v4, val_main_v5, val_main_v6,
    val_main_v7, val_main_v8, val_main_v9, val_main_v10, val_main_v11, val_main_v12, val_main_cst, val_main_cst_0, val_main_cst_1]
  blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  refine Eq.trans ?_ (point m c t y)
  frame_out

end Cert.FnIdeal.Product

end
-- ==== Proof.Rs.Ref.lean ====
/-
  The rotary positions, the reference: what its results hold at an index.
-/
module

public import proofs.«01_k».proof.Proof.Gen.RsRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.RsIdeal.Product

open Cert.RsRefIdeal Cert.RsRefIdeal.Gen Cert.RsRefIdeal.Read
open Idealize.ShloMosaic Idealize.ShloMosaic.TcCoe

theorem halves (u v : FVec Ideal S4x4096x4x32 .f32) (b : Fin 4) (s : Fin 4096) (g : Fin 4) (e : Fin 64) :
    concatenate S4x4096x4x64 3 [⟨S4x4096x4x32, u⟩, ⟨S4x4096x4x32, v⟩] concatenates_S4x4096x4x32_S4x4096x4x32_S4x4096x4x64_d3 (ix4 b s g e)
      = if h : e.val < 32 then u (ix4 b s g ⟨e.val, h⟩) else v (ix4 b s g ⟨e.val - 32, by omega⟩) := by
  pointwise

theorem halves_q (u v : FVec Ideal S4x4096x16x32 .f32) (b : Fin 4) (s : Fin 4096) (g : Fin 16) (e : Fin 64) :
    concatenate S4x4096x16x64 3 [⟨S4x4096x16x32, u⟩, ⟨S4x4096x16x32, v⟩] concatenates_S4x4096x16x32_S4x4096x16x32_S4x4096x16x64_d3 (ix4 b s g e)
      = if h : e.val < 32 then u (ix4 b s g ⟨e.val, h⟩) else v (ix4 b s g ⟨e.val - 32, by omega⟩) := by
  pointwise

/-- A row of heads turned by its position's angles. -/
def spun {n : ℕ} (r : Fin n → EReal) (s : Fin 4096) (l : Fin n) : EReal :=
  if l.val % 64 < 32 then r l * val_main_v15 (F := Ideal) (ix2 s ⟨l.val % 32, by omega⟩) - r ⟨(l.val + 32) % n, Nat.mod_lt _ l.pos⟩ * val_main_v17 (F := Ideal) (ix2 s ⟨l.val % 32, by omega⟩)
  else r l * val_main_v15 (F := Ideal) (ix2 s ⟨l.val % 32, by omega⟩) + r ⟨(l.val + n - 32) % n, Nat.mod_lt _ l.pos⟩ * val_main_v17 (F := Ideal) (ix2 s ⟨l.val % 32, by omega⟩)

theorem ref_q (x : FVec Ideal S4x4096x10240 .f32) (b : Fin 4) (s : Fin 4096) (l : Fin 1024) :
    val_main_v155 (F := Ideal) x (ix3 b s l) = spun (fun k : Fin 1024 => x (ix3 b s ⟨4096 + k.val, by omega⟩)) s l * Ideal.ofBits FTy.f32 1040187392#32 := by
  have e : val_main_v154 (F := Ideal) x (ix3 b s l) = val_main_v33 (F := Ideal) x (ix4 b s ⟨l.val / 64, by omega⟩ ⟨l.val % 64, by omega⟩) := by
    rw [val_main_v154_apply]
    blk_ext
  refine e.trans (congrArg₂ (· * ·) ?_ rfl)
  unfold val_main_v31 spun
  rw [halves_q]
  by_cases h : l.val % 64 < 32
  · rw [dif_pos h, if_pos h, val_main_v25_apply, val_main_v22_apply, val_main_v24_apply, val_main_v21_apply, val_main_v23_apply, val_main_v16_apply, val_main_v18_apply,
      val_main_v19_apply, val_main_v20_apply, val_main_v1_apply, val_main_v1_apply, val_main_v0_apply, val_main_v0_apply]
    refine congrArg₂ (· - ·) (congrArg₂ (· * ·) ?_ ?_) (congrArg₂ (· * ·) ?_ ?_) <;> blk_ext
  · rw [dif_neg h, if_neg h, val_main_v30_apply, val_main_v27_apply, val_main_v29_apply, val_main_v26_apply, val_main_v28_apply, val_main_v16_apply, val_main_v18_apply,
      val_main_v19_apply, val_main_v20_apply, val_main_v1_apply, val_main_v1_apply, val_main_v0_apply, val_main_v0_apply]
    refine congrArg₂ (· + ·) (congrArg₂ (· * ·) ?_ ?_) (congrArg₂ (· * ·) ?_ ?_) <;> blk_ext

theorem pair (u v : FVec Ideal S4x4096x1x4x64 .f32) (b : Fin 4) (s : Fin 4096) (p : Fin 2) (g : Fin 4) (e : Fin 64) :
    concatenate S4x4096x2x4x64 2 [⟨S4x4096x1x4x64, u⟩, ⟨S4x4096x1x4x64, v⟩] concatenates_S4x4096x1x4x64_S4x4096x1x4x64_S4x4096x2x4x64_d2 (ix5 b s p g e)
      = if p.val < 1 then u (ix5 b s 0 g e) else v (ix5 b s 0 g e) := by
  pointwise
  split_ifs <;> blk_ext

theorem ref_c (x : FVec Ideal S4x4096x10240 .f32) (b : Fin 4) (s : Fin 4096) (l : Fin 512) :
    val_main_v145 (F := Ideal) x (ix3 b s l) = if h : l.val < 256 then spun (fun k : Fin 256 => x (ix3 b s ⟨5120 + k.val, by omega⟩)) s ⟨l.val, h⟩ else x (ix3 b s ⟨5120 + l.val, by omega⟩) := by
  have e : val_main_v145 (F := Ideal) x (ix3 b s l) = val_main_v144 (F := Ideal) x (ix5 b s ⟨l.val / 256, by omega⟩ ⟨l.val / 64 % 4, by omega⟩ ⟨l.val % 64, by omega⟩) := by
    rw [val_main_v145_apply]
    blk_ext
  rw [e]
  unfold val_main_v144
  rw [pair]
  by_cases h : l.val < 256
  · rw [dif_pos h, if_pos (by show l.val / 256 < 1; omega), val_main_v142_apply]
    have e' : val_main_v71 (F := Ideal) x (idx_main_v142 (ix5 b s 0 ⟨l.val / 64 % 4, by omega⟩ ⟨l.val % 64, by omega⟩)) = val_main_v71 (F := Ideal) x (ix4 b s ⟨l.val / 64 % 4, by omega⟩ ⟨l.val % 64, by omega⟩) := by
      blk_ext
    rw [e']
    unfold val_main_v71 spun
    rw [halves]
    by_cases h' : l.val % 64 < 32
    · rw [dif_pos h', if_pos h', val_main_v65_apply, val_main_v62_apply, val_main_v64_apply, val_main_v61_apply, val_main_v63_apply, val_main_v56_apply, val_main_v58_apply,
        val_main_v59_apply, val_main_v60_apply, val_main_v41_apply, val_main_v41_apply, val_main_v40_apply, val_main_v40_apply, val_main_v35_apply, val_main_v35_apply, val_main_v34_apply, val_main_v34_apply]
      refine congrArg₂ (· - ·) (congrArg₂ (· * ·) ?_ (congrArg val_main_v15 ?_)) (congrArg₂ (· * ·) ?_ (congrArg val_main_v17 ?_)) <;> blk_ext
    · rw [dif_neg h', if_neg h', val_main_v70_apply, val_main_v67_apply, val_main_v69_apply, val_main_v66_apply, val_main_v68_apply, val_main_v56_apply, val_main_v58_apply,
        val_main_v59_apply, val_main_v60_apply, val_main_v41_apply, val_main_v41_apply, val_main_v40_apply, val_main_v40_apply, val_main_v35_apply, val_main_v35_apply, val_main_v34_apply, val_main_v34_apply]
      refine congrArg₂ (· + ·) (congrArg₂ (· * ·) ?_ (congrArg val_main_v15 ?_)) (congrArg₂ (· * ·) ?_ (congrArg val_main_v17 ?_)) <;> blk_ext
  · rw [dif_neg h, if_neg (by show ¬ l.val / 256 < 1; omega), val_main_v143_apply, val_main_v73_apply, val_main_v72_apply, val_main_v35_apply, val_main_v34_apply]
    blk_ext

theorem slc (x y : FVec Ideal S4x4096x10240 .f32) (h : val_main_v37 (F := Ideal) x = val_main_v35 y) : val_main_v149 (F := Ideal) x = val_main_v145 y := by
  simp only [val_main_v149, val_main_v148, val_main_v147, val_main_v146, val_main_v107, val_main_v106, val_main_v105, val_main_v104, val_main_v103, val_main_v101, val_main_v99, val_main_v98, val_main_v96, val_main_v94, val_main_v93, val_main_v75, val_main_v74]
  rw [h]
  rfl

theorem win (x y : FVec Ideal S4x4096x10240 .f32) (h : val_main_v39 (F := Ideal) x = val_main_v35 y) : val_main_v153 (F := Ideal) x = val_main_v145 y := by
  simp only [val_main_v153, val_main_v152, val_main_v151, val_main_v150, val_main_v141, val_main_v140, val_main_v139, val_main_v138, val_main_v137, val_main_v135, val_main_v133, val_main_v132, val_main_v130, val_main_v128, val_main_v127, val_main_v109, val_main_v108]
  rw [h]
  rfl

/-- The columns moved left by `d`. -/
def moved (d : ℕ) (x : FVec Ideal S4x4096x10240 .f32) : FVec Ideal S4x4096x10240 .f32 :=
  fun i => x (ix3 (⟨(i 0).val, (i 0).isLt⟩ : Fin 4) (⟨(i 1).val, (i 1).isLt⟩ : Fin 4096) (⟨((i 2).val + d) % 10240, Nat.mod_lt _ (by omega)⟩ : Fin 10240))

theorem ref_s (x : FVec Ideal S4x4096x10240 .f32) : val_main_v149 (F := Ideal) x = val_main_v145 (moved 512 x) := by
  refine slc x _ (funext fun i => ?_)
  rw [val_main_v37_apply, val_main_v36_apply, val_main_v35_apply, val_main_v34_apply]
  unfold moved
  blk_ext

theorem ref_w (x : FVec Ideal S4x4096x10240 .f32) : val_main_v153 (F := Ideal) x = val_main_v145 (moved 1024 x) := by
  refine win x _ (funext fun i => ?_)
  rw [val_main_v39_apply, val_main_v38_apply, val_main_v35_apply, val_main_v34_apply]
  unfold moved
  blk_ext

end Cert.RsIdeal.Product

end
-- ==== Proof.Rs.Value.lean ====
/-
  The rotary positions: what the kernel's queries and rows of keys and values hold, over real numbers.

  Each point turns the heads of 512 tokens of one batch with its rows of the two tables.
-/
module

public import proofs.«01_k».proof.Proof.Rs.Ref
public import proofs.«01_k».proof.Proof.Gen.RsIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.RsIdeal.Product

open Cert.RsIdeal Cert.RsIdeal.Gen
open Cert.RsRefIdeal.Read
open Idealize.SL.Sem
open Idealize.ShloMosaic Idealize.ShloMosaic.TcCoe

/-- The width of a head, and a column's place in it, as the kernel computes them. -/
abbrev width : BitVec 32 := Scalar.select (Scalar.cmpi CmpIPredicate.eq 64#32 0#32) 1#32 64#32
abbrev place (l : ℕ) : BitVec 32 := IntOp.remsi ArithUnit.vector (BitVec.ofNat 32 l) width

/-- The column lies in the lower half of its head, as the kernel asks it. -/
abbrev lower (l : ℕ) : BitVec 1 :=
  IntOp.cmpi CmpIPredicate.slt
    (Scalar.select (IntOp.andi (IntOp.xori (IntOp.cmpi CmpIPredicate.slt (place l) 0#32) (Scalar.cmpi CmpIPredicate.slt width 0#32)) (IntOp.cmpi CmpIPredicate.ne (place l) 0#32))
      (IntOp.addi (place l) width) (place l)) 32#32

theorem pick (l : Fin 1024) (a b : EReal) : Scalar.select (lower l.val) a b = if l.val % 64 < 32 then a else b := by
  rw [(by decide +kernel : ∀ l : Fin 1024, lower l.val = if l.val % 64 < 32 then 1#1 else 0#1) l]
  by_cases h : l.val % 64 < 32
  · rw [if_pos h, if_pos h]; rfl
  · rw [if_neg h, if_neg h]; rfl

/-- A row turned with a table of 128 columns, `a` the factors of the column itself and `b` those of its partner. -/
def turned {n : ℕ} (r : Fin n → EReal) (a b : Fin 128 → EReal) (l : Fin n) : EReal :=
  r l * a ⟨l.val % 128, by omega⟩ + (if l.val % 64 < 32 then r ⟨(l.val + 32) % n, Nat.mod_lt _ l.pos⟩ else r ⟨(l.val + n - 32) % n, Nat.mod_lt _ l.pos⟩) * b ⟨l.val % 128, by omega⟩

theorem at_col (f : Fin 128 → EReal) (k : ℕ) (h : k < 128) (l : ℕ) (e : k = l % 128) : f ⟨k, h⟩ = f ⟨l % 128, Nat.mod_lt _ (by omega)⟩ := by
  subst e; rfl

theorem turn_q (v0 v2 : FVec Ideal S512x128 .f32) (v4 : FVec Ideal S1x512x1024 .f32) (i : Fin 512) (l : Fin 1024) :
    k0_pay3 (F := Ideal) v0 v2 v4 (ix2 i l)
      = turned (fun k => v4 (ix3 0 i k)) (fun k => v0 (ix2 i k)) (fun k => v2 (ix2 i k)) l * Ideal.ofBits FTy.f32 1040187392#32 := by
  pointwise [k0_pay3, k0_pay1, k0_pay2]
  rw [pick l]
  unfold turned
  refine congrArg₂ (· * ·) (congrArg₂ (· + ·) (congrArg₂ (· * ·) rfl ?_) (congrArg₂ (· * ·) rfl ?_)) rfl
  · split_ifs <;> exact at_col (fun k => v0 (ix2 i k)) _ _ _ (by omega)
  · split_ifs <;> exact at_col (fun k => v2 (ix2 i k)) _ _ _ (by omega)

theorem turn_k (v0 v2 : FVec Ideal S512x128 .f32) (v4 : FVec Ideal S1x512x512 .f32) (i : Fin 512) (l : Fin 256) :
    k0_pay6 (F := Ideal) (k0_pay1 v0) (k0_pay2 v2) v4 (ix2 i l)
      = turned (fun k : Fin 256 => v4 (ix3 0 i ⟨k.val, by omega⟩)) (fun k => v0 (ix2 i k)) (fun k => v2 (ix2 i k)) l := by
  pointwise [k0_pay6, k0_pay5, k0_pay1, k0_pay2]
  rw [pick (⟨l.val, by omega⟩ : Fin 1024)]
  unfold turned
  refine congrArg₂ (· + ·) (congrArg₂ (· * ·) rfl ?_) (congrArg₂ (· * ·) rfl ?_)
  · split_ifs <;> exact at_col (fun k => v0 (ix2 i k)) _ _ _ (by omega)
  · split_ifs <;> exact at_col (fun k => v2 (ix2 i k)) _ _ _ (by omega)

/-- A row of keys and values: the keys turned, the values as they are. -/
theorem rows (v0 v2 : FVec Ideal S512x128 .f32) (v4 : FVec Ideal S1x512x512 .f32) (i : Fin 512) (l : Fin 512) :
    k0_pay8 (F := Ideal) (k0_pay1 v0) (k0_pay2 v2) v4 (ix3 0 i l)
      = if h : l.val < 256 then turned (fun k : Fin 256 => v4 (ix3 0 i ⟨k.val, by omega⟩)) (fun k => v0 (ix2 i k)) (fun k => v2 (ix2 i k)) ⟨l.val, h⟩ else v4 (ix3 0 i l) := by
  pointwise [k0_pay8, k0_pay7, k0_pay5]
  by_cases h : l.val < 256
  · rw [dif_pos h, dif_pos h]
    exact turn_k v0 v2 v4 i ⟨l.val, h⟩
  · rw [dif_neg h, dif_neg h]
    blk_ext

theorem rows_slc (v0 v2 : FVec Ideal S512x128 .f32) (v4 : FVec Ideal S1x512x512 .f32) :
    k0_pay14 (F := Ideal) (k0_pay2 v2) (k0_pay9 v4) (k0_pay10 v4) (k0_pay11 (k0_pay1 v0)) = k0_pay8 (k0_pay1 v0) (k0_pay2 v2) v4 := rfl

theorem rows_win (v0 v2 : FVec Ideal S512x128 .f32) (v4 : FVec Ideal S1x512x512 .f32) :
    k0_pay22 (F := Ideal) (k0_pay15 v4) (k0_pay16 v4) (k0_pay17 (k0_pay1 v0)) (k0_pay18 (k0_pay2 v2)) (Scalar.select (Scalar.cmpi .eq 64#32 0#32) 1#32 64#32) k0_pay19
      = k0_pay8 (k0_pay1 v0) (k0_pay2 v2) v4 := rfl

variable (m : (ℓ : Loc nD τ sig) → Buf (Elt Ideal) ℓ) (c : Dev nD)

theorem cos_array : (V m c main_v15 : FVec Ideal S4096x128 .f32)
    = (concatenate (α := EReal) S4096x128 1 [⟨S4096x32, val_main_v15 (F := Ideal)⟩, ⟨S4096x32, val_main_v15 (F := Ideal)⟩, ⟨S4096x32, val_main_v15 (F := Ideal)⟩, ⟨S4096x32, val_main_v15 (F := Ideal)⟩] concatenates_S4096x32_S4096x32_S4096x32_S4096x32_S4096x128_d1 : FVec Ideal S4096x128 .f32) := by
  after_reads_simp
  rfl

theorem sin_array : (V m c main_v17 : FVec Ideal S4096x128 .f32)
    = (concatenate (α := EReal) S4096x128 1 [⟨S4096x32, Host.negf (F := Ideal) (φ := .f32) (val_main_v17 (F := Ideal))⟩, ⟨S4096x32, val_main_v17 (F := Ideal)⟩, ⟨S4096x32, Host.negf (F := Ideal) (φ := .f32) (val_main_v17 (F := Ideal))⟩, ⟨S4096x32, val_main_v17 (F := Ideal)⟩] concatenates_S4096x32_S4096x32_S4096x32_S4096x32_S4096x128_d1 : FVec Ideal S4096x128 .f32) := by
  after_reads_simp
  rfl

theorem col (f : Fin 32 → EReal) (k : ℕ) (h : k < 32) (l : ℕ) (e : k = l % 32) : f ⟨k, h⟩ = f ⟨l % 32, Nat.mod_lt _ (by omega)⟩ := by
  subst e; rfl

theorem cos_at (s : Fin 4096) (j : Fin 128) : (V m c main_v15 : FVec Ideal S4096x128 .f32) (ix2 s j) = val_main_v15 (F := Ideal) (ix2 s ⟨j.val % 32, by omega⟩) := by
  rw [cos_array]
  generalize val_main_v15 (F := Ideal) = f
  pointwise
  split_ifs <;> exact col (fun k => f (ix2 s k)) _ _ _ (by omega)

theorem sin_at (s : Fin 4096) (j : Fin 128) : (V m c main_v17 : FVec Ideal S4096x128 .f32) (ix2 s j)
    = if j.val % 64 < 32 then -val_main_v17 (F := Ideal) (ix2 s ⟨j.val % 32, by omega⟩) else val_main_v17 (F := Ideal) (ix2 s ⟨j.val % 32, by omega⟩) := by
  rw [sin_array]
  generalize val_main_v17 (F := Ideal) = f
  by_cases h : j.val % 64 < 32
  · rw [if_pos h]
    pointwise
    split_ifs <;> first | omega | exact congrArg (fun z : EReal => -z) (col (fun k => f (ix2 s k)) _ _ _ (by omega))
  · rw [if_neg h]
    pointwise
    split_ifs <;> first | omega | exact col (fun k => f (ix2 s k)) _ _ _ (by omega)

/-- Every window's block index at point `t`: batch `t / 8`, the rows by `t % 8`. -/
theorem idx : ∀ t : Fin cfg0.N, win0_0.index t = ![t.val / 8, t.val % 8, 4] ∧ win0_1.index t = ![t.val / 8, t.val % 8, 10] ∧ win0_2.index t = ![t.val / 8, t.val % 8, 11]
    ∧ win0_3.index t = ![t.val / 8, t.val % 8, 12] ∧ win0_4.index t = ![t.val % 8, 0] ∧ win0_5.index t = ![t.val % 8, 0] ∧ win0_6.index t = ![t.val / 8, t.val % 8, 0]
    ∧ win0_7.index t = ![t.val / 8, t.val % 8, 0] ∧ win0_8.index t = ![t.val / 8, t.val % 8, 0] ∧ win0_9.index t = ![t.val / 8, t.val % 8, 0] :=
  (by decide +kernel : ∀ t : Fin grid0.N, _)

/-- The batch and the token of a point's row. -/
def bat (t : Fin cfg0.N) : Fin 4 := ⟨t.val / 8, by have : t.val < 32 := t.isLt; omega⟩
def tok (t : Fin cfg0.N) (i : Fin 512) : Fin 4096 := ⟨512 * (t.val % 8) + i.val, by omega⟩

variable (t : Fin cfg0.N) (i : Fin 512)

theorem cos_block (j : Fin 128) : (iblk m c 4 t : FVec Ideal S512x128 .f32) (ix2 i j) = val_main_v15 (F := Ideal) (ix2 (tok t i) ⟨j.val % 32, by omega⟩) := by
  refine Eq.trans ?_ (cos_at m c (tok t i) j)
  unfold tok
  blk_ext [iblk, idx t]

theorem sin_block (j : Fin 128) : (iblk m c 5 t : FVec Ideal S512x128 .f32) (ix2 i j)
    = if j.val % 64 < 32 then -val_main_v17 (F := Ideal) (ix2 (tok t i) ⟨j.val % 32, by omega⟩) else val_main_v17 (F := Ideal) (ix2 (tok t i) ⟨j.val % 32, by omega⟩) := by
  refine Eq.trans ?_ (sin_at m c (tok t i) j)
  unfold tok
  blk_ext [iblk, idx t]

/-- The kernel's turn of a row, with its tables' blocks, is the reference's. -/
theorem turned_eq {n : ℕ} (r q : Fin n → EReal) (h : ∀ l, r l = q l) (l : Fin n) :
    turned r (fun j => (iblk m c 4 t : FVec Ideal S512x128 .f32) (ix2 i j)) (fun j => (iblk m c 5 t : FVec Ideal S512x128 .f32) (ix2 i j)) l = spun q (tok t i) l := by
  have e : l.val % 128 % 32 = l.val % 32 := by omega
  have e' : l.val % 128 % 64 = l.val % 64 := by omega
  obtain rfl : r = q := funext h
  unfold turned spun
  simp only [cos_block, sin_block, e, e']
  by_cases h : l.val % 64 < 32
  · rw [if_pos h, if_pos h, if_pos h, mul_neg, sub_eq_add_neg]
  · rw [if_neg h, if_neg h, if_neg h]

/-- The queries. -/
theorem final_q : (dats m 0 c).arrAt 6 (cfgs 0).N = val_main_v155 (F := Ideal) (m ((c : Thread nD τ).loc main_arg0)) := by
  refine (dats m 0 c).arrAt_eq_of_covers 6 _ (by decide +kernel) fun t _ y => ?_
  blk_simp
  rw [after0_6]
  obtain ⟨z, i, l, rfl⟩ : ∃ (z : Fin 1) (i : Fin 512) (l : Fin 1024), y = ix3 z i l := ⟨y 0, y 1, y 2, by funext a; fin_cases a <;> rfl⟩
  obtain rfl : z = 0 := Subsingleton.elim _ _
  have e : out0_6 (F := Ideal) (iblk m c 0 t) (iblk m c 1 t) (iblk m c 2 t) (iblk m c 3 t) (iblk m c 4 t) (iblk m c 5 t) (ix3 0 i l) = k0_pay3 (F := Ideal) (iblk m c 4 t) (iblk m c 5 t) (iblk m c 0 t) (ix2 i l) := by
    refine Eq.trans (b := k0_pay4 (F := Ideal) (k0_pay3 (iblk m c 4 t) (iblk m c 5 t) (iblk m c 0 t)) (ix3 0 i l)) ?_ (by pointwise [k0_pay4])
    frame_out
  refine e.trans ((turn_q _ _ _ i l).trans ?_)
  rw [turned_eq m c t i _ (fun k : Fin 1024 => m ((c : Thread nD τ).loc main_arg0) (ix3 (bat t) (tok t i) ⟨4096 + k.val, by omega⟩)) (fun k => by
    unfold bat tok
    blk_point [iblk, V, idx t]) l]
  refine (ref_q (m ((c : Thread nD τ).loc main_arg0)) (bat t) (tok t i) l).symm.trans ?_
  unfold bat tok
  blk_ext [idx t]

/-- A row of keys and values is the reference's, where the block `v` holds `x`'s rows from column 5120 on. -/
theorem rows_eq (v : FVec Ideal S1x512x512 .f32) (x : FVec Ideal S4x4096x10240 .f32) (h : ∀ k : Fin 512, v (ix3 0 i k) = x (ix3 (bat t) (tok t i) ⟨5120 + k.val, by omega⟩)) (l : Fin 512) :
    k0_pay8 (F := Ideal) (k0_pay1 (iblk m c 4 t)) (k0_pay2 (iblk m c 5 t)) v (ix3 0 i l) = val_main_v145 (F := Ideal) x (ix3 (bat t) (tok t i) l) := by
  rw [rows, ref_c]
  by_cases hl : l.val < 256
  · rw [dif_pos hl, dif_pos hl]
    exact turned_eq m c t i _ _ (fun k => h ⟨k.val, by omega⟩) _
  · rw [dif_neg hl, dif_neg hl]
    exact h l

/-- The rows of keys and values for the compressed branch. -/
theorem final_c : (dats m 0 c).arrAt 7 (cfgs 0).N = val_main_v145 (F := Ideal) (m ((c : Thread nD τ).loc main_arg0)) := by
  refine (dats m 0 c).arrAt_eq_of_covers 7 _ (by decide +kernel) fun t _ y => ?_
  blk_simp
  rw [after0_7]
  obtain ⟨z, i, l, rfl⟩ : ∃ (z : Fin 1) (i : Fin 512) (l : Fin 512), y = ix3 z i l := ⟨y 0, y 1, y 2, by funext a; fin_cases a <;> rfl⟩
  obtain rfl : z = 0 := Subsingleton.elim _ _
  refine Eq.trans (b := k0_pay8 (F := Ideal) (k0_pay1 (iblk m c 4 t)) (k0_pay2 (iblk m c 5 t)) (iblk m c 1 t) (ix3 0 i l)) ?_ ((rows_eq m c t i _ (m ((c : Thread nD τ).loc main_arg0)) (fun k => by
    unfold bat tok
    blk_point [iblk, V, idx t]) l).trans ?_)
  · unfold_out out0_7
    frame_out
  · unfold bat tok
    blk_ext [idx t]

/-- The rows of keys and values for the selected branch. -/
theorem final_s : (dats m 0 c).arrAt 8 (cfgs 0).N = val_main_v149 (F := Ideal) (m ((c : Thread nD τ).loc main_arg0)) := by
  rw [ref_s]
  refine (dats m 0 c).arrAt_eq_of_covers 8 _ (by decide +kernel) fun t _ y => ?_
  blk_simp
  rw [after0_8]
  obtain ⟨z, i, l, rfl⟩ : ∃ (z : Fin 1) (i : Fin 512) (l : Fin 512), y = ix3 z i l := ⟨y 0, y 1, y 2, by funext a; fin_cases a <;> rfl⟩
  obtain rfl : z = 0 := Subsingleton.elim _ _
  refine Eq.trans (b := k0_pay8 (F := Ideal) (k0_pay1 (iblk m c 4 t)) (k0_pay2 (iblk m c 5 t)) (iblk m c 2 t) (ix3 0 i l)) ?_ ((rows_eq m c t i _ (moved 512 (m ((c : Thread nD τ).loc main_arg0))) (fun k => by
    unfold bat tok moved
    blk_point [iblk, V, idx t]) l).trans ?_)
  · rw [← rows_slc]
    unfold_out out0_8
    frame_out
  · unfold bat tok
    blk_ext [idx t]

/-- The rows of keys and values for the window branch. -/
theorem final_w : (dats m 0 c).arrAt 9 (cfgs 0).N = val_main_v153 (F := Ideal) (m ((c : Thread nD τ).loc main_arg0)) := by
  rw [ref_w]
  refine (dats m 0 c).arrAt_eq_of_covers 9 _ (by decide +kernel) fun t _ y => ?_
  blk_simp
  rw [after0_9]
  obtain ⟨z, i, l, rfl⟩ : ∃ (z : Fin 1) (i : Fin 512) (l : Fin 512), y = ix3 z i l := ⟨y 0, y 1, y 2, by funext a; fin_cases a <;> rfl⟩
  obtain rfl : z = 0 := Subsingleton.elim _ _
  refine Eq.trans (b := k0_pay8 (F := Ideal) (k0_pay1 (iblk m c 4 t)) (k0_pay2 (iblk m c 5 t)) (iblk m c 3 t) (ix3 0 i l)) ?_ ((rows_eq m c t i _ (moved 1024 (m ((c : Thread nD τ).loc main_arg0))) (fun k => by
    unfold bat tok moved
    blk_point [iblk, V, idx t]) l).trans ?_)
  · rw [← rows_win]
    unfold_out out0_9
    frame_out
  · unfold bat tok
    blk_ext [idx t]

end Cert.RsIdeal.Product

end
-- ==== Proof.lean ====
/-
  The claim: the frames of the six kernels and of their references, and, for each kernel, that over real numbers its
  results are its reference's.
-/
module

public import proofs.«01_k».proof.Defs
public import proofs.«01_k».proof.Proof.Rg.Frame
public import proofs.«01_k».proof.Proof.RgIdeal.Value
public import proofs.«01_k».proof.Proof.RgRef.Scan
public import proofs.«01_k».proof.Proof.Gen.Rg.Frame
public import proofs.«01_k».proof.Proof.Gen.Rg.Loops
public import proofs.«01_k».proof.Proof.Gen.Rg.Points
public import proofs.«01_k».proof.Proof.Gen.Rg.Launch
public import proofs.«01_k».proof.Proof.Gen.Rg.Skeleton
public import proofs.«01_k».proof.Proof.Gen.RgIdeal.Frame
public import proofs.«01_k».proof.Proof.Gen.RgIdeal.Loops
public import proofs.«01_k».proof.Proof.Gen.RgIdeal.Points
public import proofs.«01_k».proof.Proof.Gen.RgIdeal.Launch
public import proofs.«01_k».proof.Proof.Gen.RgIdeal.Skeleton
public import proofs.«01_k».proof.Proof.Gen.Rg
public import proofs.«01_k».proof.Proof.Gen.RgIdeal
public import proofs.«01_k».proof.Proof.Gen.RgRefIdeal.Run
public import proofs.«01_k».proof.Proof.Gen.RgRefIdeal.Step
public import proofs.«01_k».proof.Proof.Gen.Nm.Frame
public import proofs.«01_k».proof.Proof.Gen.NmIdeal.Frame
public import proofs.«01_k».proof.Proof.Gen.NmRefIdeal.Run
public import proofs.«01_k».proof.Proof.Nm.Value
public import proofs.«01_k».proof.Proof.Gen.Ffn.Frame
public import proofs.«01_k».proof.Proof.Gen.FfnIdeal.Frame
public import proofs.«01_k».proof.Proof.Gen.FfnRefIdeal.Run
public import proofs.«01_k».proof.Proof.Ffn.Value
public import proofs.«01_k».proof.Proof.Gen.Mg.Frame
public import proofs.«01_k».proof.Proof.Gen.MgIdeal.Frame
public import proofs.«01_k».proof.Proof.Gen.MgRefIdeal.Run
public import proofs.«01_k».proof.Proof.Mg.Value
public import proofs.«01_k».proof.Proof.Gen.Fn.Frame
public import proofs.«01_k».proof.Proof.Gen.FnIdeal.Frame
public import proofs.«01_k».proof.Proof.Gen.FnRefIdeal.Run
public import proofs.«01_k».proof.Proof.Fn.Value
public import proofs.«01_k».proof.Proof.Gen.Rs.Frame
public import proofs.«01_k».proof.Proof.Gen.RsIdeal.Frame
public import proofs.«01_k».proof.Proof.Gen.RsRefIdeal.Run
public import proofs.«01_k».proof.Proof.Rs.Value
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The recurrence's value is the same from either program's arguments, when these agree. -/
theorem rg_value (m : (ℓ : Loc RgIdeal.nD RgIdeal.τ RgIdeal.sig) → Buf (Elt Ideal) ℓ) (m' : (ℓ : Loc RgRefIdeal.nD RgRefIdeal.τ RgRefIdeal.sig) → Buf (Elt Ideal) ℓ) (c : Dev RgIdeal.nD)
    (h : m' ((c.tc : Thread _ RgRefIdeal.τ).loc RgRefIdeal.main_arg0) = m ((c.tc : Thread _ RgIdeal.τ).loc RgIdeal.main_arg0)
      ∧ m' ((c.tc : Thread _ RgRefIdeal.τ).loc RgRefIdeal.main_arg1) = m ((c.tc : Thread _ RgIdeal.τ).loc RgIdeal.main_arg1)
      ∧ m' ((c.tc : Thread _ RgRefIdeal.τ).loc RgRefIdeal.main_arg2) = m ((c.tc : Thread _ RgIdeal.τ).loc RgIdeal.main_arg2)
      ∧ m' ((c.tc : Thread _ RgRefIdeal.τ).loc RgRefIdeal.main_arg3) = m ((c.tc : Thread _ RgIdeal.τ).loc RgIdeal.main_arg3)
      ∧ m' ((c.tc : Thread _ RgRefIdeal.τ).loc RgRefIdeal.main_arg4) = m ((c.tc : Thread _ RgIdeal.τ).loc RgIdeal.main_arg4)
      ∧ m' ((c.tc : Thread _ RgRefIdeal.τ).loc RgRefIdeal.main_arg5) = m ((c.tc : Thread _ RgIdeal.τ).loc RgIdeal.main_arg5)
      ∧ m' ((c.tc : Thread _ RgRefIdeal.τ).loc RgRefIdeal.main_arg6) = m ((c.tc : Thread _ RgIdeal.τ).loc RgIdeal.main_arg6)
      ∧ m' ((c.tc : Thread _ RgRefIdeal.τ).loc RgRefIdeal.main_arg7) = m ((c.tc : Thread _ RgIdeal.τ).loc RgIdeal.main_arg7))
    (b : Fin 4) (d : Fin 1024) : RgRefIdeal.Scan.valueAt m' c b d = RgIdeal.Body.val m c b d := by
  obtain ⟨h0, h1, h2, h3, h4, h5, h6, h7⟩ := h
  unfold RgIdeal.Body.val
  rw [← h0, ← h1, ← h2, ← h3, ← h4, ← h5, ← h6, ← h7]
  rfl

/-- The recurrence: over real numbers the kernel and the reference leave the same two results. -/
theorem rg_algebraic : algebraic_RgIdeal_RgRefIdeal (hRgIdeal := RgIdeal.Gen.facts) (hRgRefIdeal := RgRefIdeal.Gen.facts) := by
  pair_intro
  · run_from Cert.RgIdeal.Body.run_main m g
  · run_from Cert.RgRefIdeal.Scan.run m' g'
    · exact (RgIdeal.Body.final_rows m _ _ fun n b d => (RgRefIdeal.Scan.stored_at m' _ b d n 4096 le_rfl n.isLt).trans (congrFun (rg_value m m' _ (hagree _) b d) _)).symm
    · exact (RgIdeal.Body.final_last m _ _ fun b d => (RgRefIdeal.Scan.carry_at m' _ b d 4096 le_rfl).trans (congrFun (rg_value m m' _ (hagree _) b d) _)).symm

/-- The recurrence, its reference: it terminates, and leaves its arguments and every counter as they were. -/
theorem rg_reference_frame : quiescent_RgRefIdeal (hRgRefIdeal := RgRefIdeal.Gen.facts) := by
  intro m ρ _
  exact (θ_run _ _ _).mono (fun r h => ⟨fun c => (h c).2.2, sem_eq_zero_of_no_sems (by decide) r.2⟩) (Cert.RgRefIdeal.Scan.run m ρ)

/-- The normed projection: over real numbers the kernel and the reference leave the same result. -/
theorem nm_algebraic : algebraic_NmIdeal_NmRefIdeal (hNmIdeal := NmIdeal.Gen.facts) (hNmRefIdeal := NmRefIdeal.Gen.facts) := by
  pair_intro
  · run_from Cert.NmIdeal.Gen.run_main m g
  · run_from Cert.NmRefIdeal.Value.run m' g'
    exact (Cert.NmIdeal.Product.final m _).symm

/-- The normed projection, its reference: it terminates, and leaves its arguments and every counter as they were. -/
theorem nm_reference_frame : quiescent_NmRefIdeal (hNmRefIdeal := NmRefIdeal.Gen.facts) := by
  intro m ρ _
  exact (θ_run _ _ _).mono (fun r h => ⟨fun c => (h c).2, sem_eq_zero_of_no_sems (by decide) r.2⟩) (Cert.NmRefIdeal.Value.run m ρ)

/-- The feed-forward layer: over real numbers the kernel and the reference leave the same result. -/
theorem ffn_algebraic : algebraic_FfnIdeal_FfnRefIdeal (hFfnIdeal := FfnIdeal.Gen.facts) (hFfnRefIdeal := FfnRefIdeal.Gen.facts) := by
  pair_intro
  · run_from Cert.FfnIdeal.Gen.run_main m g
  · run_from Cert.FfnRefIdeal.Value.run m' g'
    exact (Cert.FfnIdeal.Product.final m _).symm

/-- The feed-forward layer, its reference: it terminates, and leaves its arguments and every counter as they were. -/
theorem ffn_reference_frame : quiescent_FfnRefIdeal (hFfnRefIdeal := FfnRefIdeal.Gen.facts) := by
  intro m ρ _
  exact (θ_run _ _ _).mono (fun r h => ⟨fun c => (h c).2, sem_eq_zero_of_no_sems (by decide) r.2⟩) (Cert.FfnRefIdeal.Value.run m ρ)

/-- The merge of the branches: over real numbers the kernel and the reference leave the same result. -/
theorem mg_algebraic : algebraic_MgIdeal_MgRefIdeal (hMgIdeal := MgIdeal.Gen.facts) (hMgRefIdeal := MgRefIdeal.Gen.facts) := by
  pair_intro
  · run_from Cert.MgIdeal.Gen.run_main m g
  · run_from Cert.MgRefIdeal.Value.run m' g'
    exact (Cert.MgIdeal.Product.final m _).symm

/-- The merge of the branches, its reference: it terminates, and leaves its arguments and every counter as they were. -/
theorem mg_reference_frame : quiescent_MgRefIdeal (hMgRefIdeal := MgRefIdeal.Gen.facts) := by
  intro m ρ _
  exact (θ_run _ _ _).mono (fun r h => ⟨fun c => (h c).2, sem_eq_zero_of_no_sems (by decide) r.2⟩) (Cert.MgRefIdeal.Value.run m ρ)

/-- The norm of the last layer's rows: over real numbers the kernel and the reference leave the same result. -/
theorem fn_algebraic : algebraic_FnIdeal_FnRefIdeal (hFnIdeal := FnIdeal.Gen.facts) (hFnRefIdeal := FnRefIdeal.Gen.facts) := by
  pair_intro
  · run_from Cert.FnIdeal.Gen.run_main m g
  · run_from Cert.FnRefIdeal.Value.run m' g'
    exact (Cert.FnIdeal.Product.final m _).symm

/-- The norm of the last layer's rows, its reference: it terminates, and leaves its arguments and every counter as they were. -/
theorem fn_reference_frame : quiescent_FnRefIdeal (hFnRefIdeal := FnRefIdeal.Gen.facts) := by
  intro m ρ _
  exact (θ_run _ _ _).mono (fun r h => ⟨fun c => (h c).2, sem_eq_zero_of_no_sems (by decide) r.2⟩) (Cert.FnRefIdeal.Value.run m ρ)

/-- The rotary positions: over real numbers the kernel and the reference leave the same four results. -/
theorem rs_algebraic : algebraic_RsIdeal_RsRefIdeal (hRsIdeal := RsIdeal.Gen.facts) (hRsRefIdeal := RsRefIdeal.Gen.facts) := by
  pair_intro
  · run_from Cert.RsIdeal.Gen.run_main m g
  · run_from Cert.RsRefIdeal.Value.run m' g'
    · exact (Cert.RsRefIdeal.Read.val_main_v155_eq m' _).trans ((congrArg Cert.RsRefIdeal.Read.val_main_v155 (hagree _)).trans (Cert.RsIdeal.Product.final_q m _).symm)
    · exact (Cert.RsRefIdeal.Read.val_main_v145_eq m' _).trans ((congrArg Cert.RsRefIdeal.Read.val_main_v145 (hagree _)).trans (Cert.RsIdeal.Product.final_c m _).symm)
    · exact (Cert.RsRefIdeal.Read.val_main_v149_eq m' _).trans ((congrArg Cert.RsRefIdeal.Read.val_main_v149 (hagree _)).trans (Cert.RsIdeal.Product.final_s m _).symm)
    · exact (Cert.RsRefIdeal.Read.val_main_v153_eq m' _).trans ((congrArg Cert.RsRefIdeal.Read.val_main_v153 (hagree _)).trans (Cert.RsIdeal.Product.final_w m _).symm)

/-- The rotary positions, their reference: it terminates, and leaves its argument and every counter as they were. -/
theorem rs_reference_frame : quiescent_RsRefIdeal (hRsRefIdeal := RsRefIdeal.Gen.facts) := by
  intro m ρ _
  exact (θ_run _ _ _).mono (fun r h => ⟨fun c => (h c).2.2.2.2, sem_eq_zero_of_no_sems (by decide) r.2⟩) (Cert.RsRefIdeal.Value.run m ρ)

/-- The certificate's claim. -/
theorem claim : Cert.Claim := ⟨Cert.Rg.Gen.facts, Cert.RgIdeal.Gen.facts, Cert.RgRefIdeal.Gen.facts, Cert.Nm.Gen.facts, Cert.NmIdeal.Gen.facts, Cert.NmRefIdeal.Gen.facts, Cert.Ffn.Gen.facts, Cert.FfnIdeal.Gen.facts, Cert.FfnRefIdeal.Gen.facts, Cert.Mg.Gen.facts, Cert.MgIdeal.Gen.facts, Cert.MgRefIdeal.Gen.facts, Cert.Fn.Gen.facts, Cert.FnIdeal.Gen.facts, Cert.FnRefIdeal.Gen.facts, Cert.Rs.Gen.facts, Cert.RsIdeal.Gen.facts, Cert.RsRefIdeal.Gen.facts,
  fun m ρ _ => Cert.Rg.Body.frame m ρ, fun m ρ _ => Cert.RgIdeal.Body.frame m ρ, rg_reference_frame,
  fun m ρ _ => Cert.Nm.Gen.frame m ρ, fun m ρ _ => Cert.NmIdeal.Gen.frame m ρ, nm_reference_frame,
  fun m ρ _ => Cert.Ffn.Gen.frame m ρ, fun m ρ _ => Cert.FfnIdeal.Gen.frame m ρ, ffn_reference_frame,
  fun m ρ _ => Cert.Mg.Gen.frame m ρ, fun m ρ _ => Cert.MgIdeal.Gen.frame m ρ, mg_reference_frame,
  fun m ρ _ => Cert.Fn.Gen.frame m ρ, fun m ρ _ => Cert.FnIdeal.Gen.frame m ρ, fn_reference_frame,
  fun m ρ _ => Cert.Rs.Gen.frame m ρ, fun m ρ _ => Cert.RsIdeal.Gen.frame m ρ, rs_reference_frame,
  trivial, rg_algebraic, trivial, nm_algebraic, trivial, ffn_algebraic, trivial, mg_algebraic, trivial, fn_algebraic, trivial, rs_algebraic⟩

end Cert.Proof

end
